-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3))).2.2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3))).2.2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)) (v5 : (c : Dev Cert.KernelIdeal.nD) → Buf (Elt Ideal) ((c.tc : Thread Cert.KernelIdeal.nD Cert.KernelIdeal.τ).loc Cert.KernelIdeal.main_v11_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_v11_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v43) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v59) = v0 c
          ∧ r.2.mem ((c.tc : Thread Cert.Reference12Ideal.nD Cert.Reference12Ideal.τ).loc Cert.Reference12Ideal.main_v60) = v1 c
          ∧ r.2.mem ((c.tc : Thread Cert.Reference12Ideal.nD Cert.Reference12Ideal.τ).loc Cert.Reference12Ideal.main_v33) = v2 c
          ∧ r.2.mem ((c.tc : Thread Cert.Reference12Ideal.nD Cert.Reference12Ideal.τ).loc Cert.Reference12Ideal.main_v30) = v3 c
          ∧ r.2.mem ((c.tc : Thread Cert.Reference12Ideal.nD Cert.Reference12Ideal.τ).loc Cert.Reference12Ideal.main_v62) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v2_1)) (v1 : (c : Dev Cert.Kernel13Ideal.nD) → Buf (Elt Ideal) ((c.tc : Thread Cert.Kernel13Ideal.nD Cert.Kernel13Ideal.τ).loc Cert.Kernel13Ideal.main_v2_2)) (v2 : (c : Dev Cert.Kernel13Ideal.nD) → Buf (Elt Ideal) ((c.tc : Thread Cert.Kernel13Ideal.nD Cert.Kernel13Ideal.τ).loc Cert.Kernel13Ideal.main_v2_3)) (v3 : (c : Dev Cert.Kernel13Ideal.nD) → Buf (Elt Ideal) ((c.tc : Thread Cert.Kernel13Ideal.nD Cert.Kernel13Ideal.τ).loc Cert.Kernel13Ideal.main_v2_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_1) = v0 c
          ∧ r.2.mem ((c.tc : Thread Cert.Kernel13Ideal.nD Cert.Kernel13Ideal.τ).loc Cert.Kernel13Ideal.main_v2_2) = v1 c
          ∧ r.2.mem ((c.tc : Thread Cert.Kernel13Ideal.nD Cert.Kernel13Ideal.τ).loc Cert.Kernel13Ideal.main_v2_3) = v2 c
          ∧ r.2.mem ((c.tc : Thread Cert.Kernel13Ideal.nD Cert.Kernel13Ideal.τ).loc Cert.Kernel13Ideal.main_v2_4) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v65) = v0 c
          ∧ r.2.mem ((c.tc : Thread Cert.Reference13Ideal.nD Cert.Reference13Ideal.τ).loc Cert.Reference13Ideal.main_v62) = v1 c
          ∧ r.2.mem ((c.tc : Thread Cert.Reference13Ideal.nD Cert.Reference13Ideal.τ).loc Cert.Reference13Ideal.main_v59) = v2 c
          ∧ r.2.mem ((c.tc : Thread Cert.Reference13Ideal.nD Cert.Reference13Ideal.τ).loc Cert.Reference13Ideal.main_v67) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v67) = v0 c
          ∧ r.2.mem ((c.tc : Thread Cert.Reference14Ideal.nD Cert.Reference14Ideal.τ).loc Cert.Reference14Ideal.main_v68) = v1 c
          ∧ r.2.mem ((c.tc : Thread Cert.Reference14Ideal.nD Cert.Reference14Ideal.τ).loc Cert.Reference14Ideal.main_v41) = v2 c
          ∧ r.2.mem ((c.tc : Thread Cert.Reference14Ideal.nD Cert.Reference14Ideal.τ).loc Cert.Reference14Ideal.main_v38) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v59) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_v30) = v2 c
          ∧ r.2.mem ((c.tc : Thread Cert.Reference15Ideal.nD Cert.Reference15Ideal.τ).loc Cert.Reference15Ideal.main_v61) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v28) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_v29) = v1 c
          ∧ r.2.mem ((c.tc : Thread Cert.Reference17Ideal.nD Cert.Reference17Ideal.τ).loc Cert.Reference17Ideal.main_v30) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v14) = v0 c
          ∧ r.2.mem ((c.tc : Thread Cert.Reference29Ideal.nD Cert.Reference29Ideal.τ).loc Cert.Reference29Ideal.main_v15) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v80) = v0 c
          ∧ r.2.mem ((c.tc : Thread Cert.Reference10Ideal.nD Cert.Reference10Ideal.τ).loc Cert.Reference10Ideal.main_v77) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel18 : Cert.Kernel18.Facts) (hKernel18Ideal : Cert.Kernel18Ideal.Facts) (hReference18Ideal : Cert.Reference18Ideal.Facts) (hKernel10 : Cert.Kernel10.Facts) (hKernel10Ideal : Cert.Kernel10Ideal.Facts) (hReference10Ideal : Cert.Reference10Ideal.Facts) (hPre_finite12 : Cert.Pre_finite12.Facts) (hPre_finite14 : Cert.Pre_finite14.Facts) (hPre_finite15 : Cert.Pre_finite15.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel18_Kernel18Ideal
    ∧ algebraic_Kernel18Ideal_Reference18Ideal (hKernel18Ideal := hKernel18Ideal) (hReference18Ideal := hReference18Ideal)
    ∧ preserves_Kernel10_Kernel10Ideal
    ∧ algebraic_Kernel10Ideal_Reference10Ideal (hKernel10Ideal := hKernel10Ideal) (hReference10Ideal := hReference10Ideal)
-- ==== Pre_finite12.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .f32) (main_arg2 : FVec F S1x1024 .f32) : IVec S16384x1024 1 × IVec S16384x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite14.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S_ : Shape := ⟨0, ![]⟩

class Facts : Prop where
  bcast_S_S16384x4096 : S_.BroadcastsInDim S16384x4096 (![] : Fin 0 → Fin S16384x4096.rank)
  bcast_S_S1024x4096 : S_.BroadcastsInDim S1024x4096 (![] : Fin 0 → Fin S1024x4096.rank)
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x4096 .bf16) (main_arg1 : FVec F S1024x4096 .bf16) (main_arg2 : FVec F S16384x1024 .f32) (main_arg3 : FVec F S16384x1024 .f32) (main_arg4 : FVec F S1x1024 .f32) : IVec S16384x4096 1 × IVec S1024x4096 1 × IVec S16384x1024 1 × IVec S16384x1024 1 × IVec S1x1024 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite15.lean ====
abbrev S16384x512 : Shape := ⟨2, ![16384, 512]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  bcast_S_S1x512 : S_.BroadcastsInDim S1x512 (![] : Fin 0 → Fin S1x512.rank)

variable [Facts]

def fn {F : FTy → Type} [FloatOps F] (main_arg0 : FVec F S16384x512 .f32) (main_arg1 : FVec F S16384x512 .f32) (main_arg2 : FVec F S1x512 .f32) (main_arg3 : FVec F S1x512 .f32) : IVec S16384x512 1 × IVec S16384x512 1 × IVec S1x512 1 × IVec S1x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Kernel.lean ====
abbrev S16384x1024 : Shape := ⟨2, ![16384, 1024]⟩
abbrev S16384x7296 : Shape := ⟨2, ![16384, 7296]⟩
abbrev S16384x512 : Shape := ⟨2, ![16384, 512]⟩
abbrev S1x3072 : Shape := ⟨2, ![1, 3072]⟩
abbrev S512x1024 : Shape := ⟨2, ![512, 1024]⟩
abbrev S1024x1024 : Shape := ⟨2, ![1024, 1024]⟩
abbrev S16384x3072 : Shape := ⟨2, ![16384, 3072]⟩
abbrev S512x3072 : Shape := ⟨2, ![512, 3072]⟩
abbrev S512x512 : Shape := ⟨2, ![512, 512]⟩
abbrev S1x1024 : Shape := ⟨2, ![1, 1024]⟩
abbrev S1024 : Shape := ⟨1, ![1024]⟩

abbrev nBuf : Space → Nat
  | .hbm => 27
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x7296, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x512, .f32⟩
  | .hbm, ⟨11, _⟩ => ⟨S512x1024, .f32⟩
  | .hbm, ⟨12, _⟩ => ⟨S16384x1024, .f32⟩
  | .hbm, ⟨13, _⟩ => ⟨S16384x512, .f32⟩
  | .hbm, ⟨14, _⟩ => ⟨S512x1024, .f32⟩
  | .hbm, ⟨15, _⟩ => ⟨S16384x1024, .f32⟩
  | .hbm, ⟨16, _⟩ => ⟨S16384x512, .f32⟩
  | .hbm, ⟨17, _⟩ => ⟨S512x1024, .f32⟩
  | .hbm, ⟨18, _⟩ => ⟨S16384x1024, .f32⟩
  | .hbm, ⟨19, _⟩ => ⟨S16384x3072, .f32⟩
  | .hbm, ⟨20, _⟩ => ⟨S16384x3072, .bf16⟩
  | .hbm, ⟨21, _⟩ => ⟨S16384x3072, .bf16⟩
  | .hbm, ⟨22, _⟩ => ⟨S16384x3072, .bf16⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x3072, .bf16⟩
  | .local _ .vmem, ⟨16, _⟩ => ⟨S512x3072, .bf16⟩
  | .local _ .vmem, ⟨17, _⟩ => ⟨S512x3072, .bf16⟩
  | .local _ .vmem, ⟨18, _⟩ => ⟨S512x3072, .bf16⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S1x3072, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S16384x1024 : Shape := ⟨2, ![16384, 1024]⟩
abbrev S16384x7296 : Shape := ⟨2, ![16384, 7296]⟩
abbrev S16384x512 : Shape := ⟨2, ![16384, 512]⟩
abbrev S1x3072 : Shape := ⟨2, ![1, 3072]⟩
abbrev S512x1024 : Shape := ⟨2, ![512, 1024]⟩
abbrev S1024x1024 : Shape := ⟨2, ![1024, 1024]⟩
abbrev S16384x3072 : Shape := ⟨2, ![16384, 3072]⟩
abbrev S_ : Shape := ⟨0, ![]⟩
abbrev S3072 : Shape := ⟨1, ![3072]⟩

abbrev nBuf : Space → Nat
  | .hbm => 90
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x7296, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S16384x1024, .f32⟩
  | .hbm, ⟨11, _⟩ => ⟨S16384x7296, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S16384x3072, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x3072, .f32⟩
  | .hbm, ⟨24, _⟩ => ⟨S16384x3072, .f32⟩
  | .hbm, ⟨25, _⟩ => ⟨S16384x3072, .f32⟩
  | .hbm, ⟨26, _⟩ => ⟨S16384x3072, .f32⟩
  | .hbm, ⟨27, _⟩ => ⟨S_, .f32⟩
  | .hbm, ⟨28, _⟩ => ⟨S16384x3072, .f32⟩
  | .hbm, ⟨29, _⟩ => ⟨S16384x3072, .f32⟩
  | .hbm, ⟨30, _⟩ => ⟨S_, .f32⟩
  | .hbm, ⟨31, _⟩ => ⟨S16384x3072, .f32⟩
  | .hbm, ⟨32, _⟩ => ⟨S16384x3072, .f32⟩
  | .hbm, ⟨33, _⟩ => ⟨S_, .f32⟩
  | .hbm, ⟨34, _⟩ => ⟨S16384x3072, .f32⟩
  | .hbm, ⟨35, _⟩ => ⟨S16384x3072, .f32⟩
  | .hbm, ⟨36, _⟩ => ⟨S16384x3072, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x3072, .f32⟩
  | .hbm, ⟨54, _⟩ => ⟨S16384x3072, .f32⟩
  | .hbm, ⟨55, _⟩ => ⟨S_, .f32⟩
  | .hbm, ⟨56, _⟩ => ⟨S3072, .f32⟩
  | .hbm, ⟨57, _⟩ => ⟨S1x3072, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x3072, .f32⟩
  | .hbm, ⟨65, _⟩ => ⟨S16384x3072, .f32⟩
  | .hbm, ⟨66, _⟩ => ⟨S16384x3072, .f32⟩
  | .hbm, ⟨67, _⟩ => ⟨S16384x3072, .f32⟩
  | .hbm, ⟨68, _⟩ => ⟨S_, .f32⟩
  | .hbm, ⟨69, _⟩ => ⟨S16384x3072, .f32⟩
  | .hbm, ⟨70, _⟩ => ⟨S16384x3072, .f32⟩
  | .hbm, ⟨71, _⟩ => ⟨S_, .f32⟩
  | .hbm, ⟨72, _⟩ => ⟨S16384x3072, .f32⟩
  | .hbm, ⟨73, _⟩ => ⟨S16384x3072, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x3072, .f32⟩
  | .hbm, ⟨88, _⟩ => ⟨S16384x3072, .bf16⟩
  | .hbm, ⟨89, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== Kernel2.lean ====
abbrev S16384x1024 : Shape := ⟨2, ![16384, 1024]⟩
abbrev S1024x4096 : Shape := ⟨2, ![1024, 4096]⟩
abbrev S1x4096 : Shape := ⟨2, ![1, 4096]⟩
abbrev S4096x1024 : Shape := ⟨2, ![4096, 1024]⟩
abbrev S16384x4096 : Shape := ⟨2, ![16384, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 13
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x4096, .bf16⟩
  | .hbm, ⟨3, _⟩ => ⟨S1x4096, .f32⟩
  | .hbm, ⟨4, _⟩ => ⟨S4096x1024, .bf16⟩
  | .hbm, ⟨5, _⟩ => ⟨S16384x1024, .f32⟩
  | .hbm, ⟨6, _⟩ => ⟨S1024x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .bf16⟩
  | .hbm, ⟨12, _⟩ => ⟨S1x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x1024 : Shape := ⟨2, ![16384, 1024]⟩
abbrev S1024x4096 : Shape := ⟨2, ![1024, 4096]⟩
abbrev S1x4096 : Shape := ⟨2, ![1, 4096]⟩
abbrev S4096x1024 : Shape := ⟨2, ![4096, 1024]⟩
abbrev S16384x4096 : Shape := ⟨2, ![16384, 4096]⟩
abbrev S_ : Shape := ⟨0, ![]⟩
abbrev S4096 : Shape := ⟨1, ![4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x4096, .bf16⟩
  | .hbm, ⟨3, _⟩ => ⟨S1x4096, .f32⟩
  | .hbm, ⟨4, _⟩ => ⟨S4096x1024, .bf16⟩
  | .hbm, ⟨5, _⟩ => ⟨S16384x1024, .f32⟩
  | .hbm, ⟨6, _⟩ => ⟨S16384x1024, .f32⟩
  | .hbm, ⟨7, _⟩ => ⟨S1024x4096, .f32⟩
  | .hbm, ⟨8, _⟩ => ⟨S4096x1024, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .i1⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x1024, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S4096, .f32⟩
  | .hbm, ⟨32, _⟩ => ⟨S1x4096, .f32⟩
  | .hbm, ⟨33, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel3.lean ====
abbrev S16384x1024 : Shape := ⟨2, ![16384, 1024]⟩
abbrev S1024x4096 : Shape := ⟨2, ![1024, 4096]⟩
abbrev S1x4096 : Shape := ⟨2, ![1, 4096]⟩
abbrev S16384x4096 : Shape := ⟨2, ![16384, 4096]⟩
abbrev S_ : Shape := ⟨0, ![]⟩
abbrev S4096x1024 : Shape := ⟨2, ![4096, 1024]⟩
abbrev S1024x1024 : Shape := ⟨2, ![1024, 1024]⟩

abbrev nBuf : Space → Nat
  | .hbm => 15
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x4096, .bf16⟩
  | .hbm, ⟨3, _⟩ => ⟨S1x4096, .f32⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .bf16⟩
  | .hbm, ⟨14, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S1024x4096 : Shape := ⟨2, ![1024, 4096]⟩
abbrev S1x4096 : Shape := ⟨2, ![1, 4096]⟩
abbrev S16384x4096 : Shape := ⟨2, ![16384, 4096]⟩
abbrev S_ : Shape := ⟨0, ![]⟩
abbrev S4096x1024 : Shape := ⟨2, ![4096, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x4096, .bf16⟩
  | .hbm, ⟨3, _⟩ => ⟨S1x4096, .f32⟩
  | .hbm, ⟨4, _⟩ => ⟨S16384x1024, .f32⟩
  | .hbm, ⟨5, _⟩ => ⟨S16384x1024, .f32⟩
  | .hbm, ⟨6, _⟩ => ⟨S1024x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S4096x1024, .f32⟩
  | .hbm, ⟨16, _⟩ => ⟨S16384x1024, .f32⟩
  | .hbm, ⟨17, _⟩ => ⟨S1024x4096, .f32⟩
  | .hbm, ⟨18, _⟩ => ⟨S4096x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel4.lean ====
abbrev S16384x4096 : Shape := ⟨2, ![16384, 4096]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x4096 : Shape := ⟨2, ![16384, 4096]⟩
abbrev S16384x1024 : Shape := ⟨2, ![16384, 1024]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x7296 : Shape := ⟨2, ![16384, 7296]⟩
abbrev S16384x1024 : Shape := ⟨2, ![16384, 1024]⟩
abbrev S1024x7296 : Shape := ⟨2, ![1024, 7296]⟩
abbrev S1024x1024 : Shape := ⟨2, ![1024, 1024]⟩
abbrev S1024x2432 : Shape := ⟨2, ![1024, 2432]⟩

abbrev nBuf : Space → Nat
  | .hbm => 3
  | .vmem => 6
  | .smem => 0
  | _ => 0

abbrev bufTy : (tb : Table) → Fin (tcTables nBuf tb) → BufTy
  | .hbm, ⟨0, _⟩ => ⟨S16384x7296, .bf16⟩
  | .hbm, ⟨1, _⟩ => ⟨S16384x1024, .bf16⟩
  | .hbm, ⟨2, _⟩ => ⟨S1024x7296, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | _, _ => ⟨S16384x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x7296 : Shape := ⟨2, ![16384, 7296]⟩
abbrev S16384x1024 : Shape := ⟨2, ![16384, 1024]⟩
abbrev S_ : Shape := ⟨0, ![]⟩
abbrev S1024x7296 : Shape := ⟨2, ![1024, 7296]⟩
abbrev S7296x1024 : Shape := ⟨2, ![7296, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x7296, .bf16⟩
  | .hbm, ⟨1, _⟩ => ⟨S16384x1024, .bf16⟩
  | .hbm, ⟨2, _⟩ => ⟨S_, .f32⟩
  | .hbm, ⟨3, _⟩ => ⟨S1024x7296, .f32⟩
  | .hbm, ⟨4, _⟩ => ⟨S16384x1024, .f32⟩
  | .hbm, ⟨5, _⟩ => ⟨S16384x7296, .f32⟩
  | .hbm, ⟨6, _⟩ => ⟨S16384x7296, .f32⟩
  | .hbm, ⟨7, _⟩ => ⟨S7296x1024, .f32⟩
  | .hbm, ⟨8, _⟩ => ⟨S1024x7296, .f32⟩
  | _, _ => ⟨S16384x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x7296 : Shape := ⟨2, ![16384, 7296]⟩
abbrev S1024x7296 : Shape := ⟨2, ![1024, 7296]⟩
abbrev S16384x1024 : Shape := ⟨2, ![16384, 1024]⟩
abbrev S1024x2432 : Shape := ⟨2, ![1024, 2432]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x7296, .bf16⟩
  | .hbm, ⟨1, _⟩ => ⟨S1024x7296, .bf16⟩
  | .hbm, ⟨2, _⟩ => ⟨S16384x1024, .f32⟩
  | .hbm, ⟨3, _⟩ => ⟨S16384x1024, .f32⟩
  | .local _ .vmem, ⟨0, _⟩ => ⟨S1024x2432, .bf16⟩
  | .local _ .vmem, ⟨1, _⟩ => ⟨S1024x2432, .bf16⟩
  | .local _ .vmem, ⟨2, _⟩ => ⟨S1024x2432, .bf16⟩
  | .local _ .vmem, ⟨3, _⟩ => ⟨S1024x2432, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 16, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16384x7296 : Shape := ⟨2, ![16384, 7296]⟩
abbrev S1024x7296 : Shape := ⟨2, ![1024, 7296]⟩
abbrev S16384x1024 : Shape := ⟨2, ![16384, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x7296, .bf16⟩
  | .hbm, ⟨1, _⟩ => ⟨S1024x7296, .bf16⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S1024x7296, .f32⟩
  | .hbm, ⟨6, _⟩ => ⟨S16384x7296, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x7296, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel7.lean ====
abbrev S16384x7296 : Shape := ⟨2, ![16384, 7296]⟩
abbrev S16384x512 : Shape := ⟨2, ![16384, 512]⟩
abbrev S512x1024 : Shape := ⟨2, ![512, 1024]⟩
abbrev S1x3072 : Shape := ⟨2, ![1, 3072]⟩
abbrev S16384x3072 : Shape := ⟨2, ![16384, 3072]⟩
abbrev S16384x1024 : Shape := ⟨2, ![16384, 1024]⟩
abbrev S512x512 : Shape := ⟨2, ![512, 512]⟩
abbrev S512x3072 : Shape := ⟨2, ![512, 3072]⟩
abbrev S1x1024 : Shape := ⟨2, ![1, 1024]⟩

abbrev nBuf : Space → Nat
  | .hbm => 10
  | .vmem => 20
  | .smem => 0
  | _ => 0

abbrev bufTy : (tb : Table) → Fin (tcTables nBuf tb) → BufTy
  | .hbm, ⟨0, _⟩ => ⟨S16384x7296, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S1x3072, .f32⟩
  | .hbm, ⟨8, _⟩ => ⟨S16384x3072, .bf16⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x3072, .f32⟩
  | .local _ .vmem, ⟨16, _⟩ => ⟨S512x3072, .bf16⟩
  | .local _ .vmem, ⟨17, _⟩ => ⟨S512x3072, .bf16⟩
  | .local _ .vmem, ⟨18, _⟩ => ⟨S512x1024, .bf16⟩
  | .local _ .vmem, ⟨19, _⟩ => ⟨S512x1024, .bf16⟩
  | _, _ => ⟨S16384x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S16384x7296 : Shape := ⟨2, ![16384, 7296]⟩
abbrev S16384x512 : Shape := ⟨2, ![16384, 512]⟩
abbrev S512x1024 : Shape := ⟨2, ![512, 1024]⟩
abbrev S1x3072 : Shape := ⟨2, ![1, 3072]⟩
abbrev S16384x1024 : Shape := ⟨2, ![16384, 1024]⟩
abbrev S16384x3072 : Shape := ⟨2, ![16384, 3072]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16384x7296, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S512x1024, .bf16⟩
  | .hbm, ⟨5, _⟩ => ⟨S512x1024, .bf16⟩
  | .hbm, ⟨6, _⟩ => ⟨S512x1024, .bf16⟩
  | .hbm, ⟨7, _⟩ => ⟨S1x3072, .f32⟩
  | .hbm, ⟨8, _⟩ => ⟨S16384x7296, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x3072, .f32⟩
  | .hbm, ⟨19, _⟩ => ⟨S16384x3072, .f32⟩
  | .hbm, ⟨20, _⟩ => ⟨S16384x3072, .f32⟩
  | .hbm, ⟨21, _⟩ => ⟨S16384x3072, .f32⟩
  | .hbm, ⟨22, _⟩ => ⟨S16384x3072, .f32⟩
  | .hbm, ⟨23, _⟩ => ⟨S_, .f32⟩
  | .hbm, ⟨24, _⟩ => ⟨S16384x3072, .f32⟩
  | .hbm, ⟨25, _⟩ => ⟨S16384x3072, .f32⟩
  | .hbm, ⟨26, _⟩ => ⟨S_, .f32⟩
  | .hbm, ⟨27, _⟩ => ⟨S16384x3072, .f32⟩
  | .hbm, ⟨28, _⟩ => ⟨S16384x3072, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x3072, .f32⟩
  | .hbm, ⟨33, _⟩ => ⟨S16384x3072, .bf16⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel8.lean ====
abbrev S16384x1024 : Shape := ⟨2, ![16384, 1024]⟩
abbrev S1024x4096 : Shape := ⟨2, ![1024, 4096]⟩
abbrev S1x4096 : Shape := ⟨2, ![1, 4096]⟩
abbrev S16384x4096 : Shape := ⟨2, ![16384, 4096]⟩
abbrev S1024x1024 : Shape := ⟨2, ![1024, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S1x4096, .f32⟩
  | .hbm, ⟨3, _⟩ => ⟨S16384x4096, .bf16⟩
  | .hbm, ⟨4, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S16384x1024 : Shape := ⟨2, ![16384, 1024]⟩
abbrev S1024x4096 : Shape := ⟨2, ![1024, 4096]⟩
abbrev S1x4096 : Shape := ⟨2, ![1, 4096]⟩
abbrev S16384x4096 : Shape := ⟨2, ![16384, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x4096, .bf16⟩
  | .hbm, ⟨2, _⟩ => ⟨S1x4096, .f32⟩
  | .hbm, ⟨3, _⟩ => ⟨S16384x1024, .f32⟩
  | .hbm, ⟨4, _⟩ => ⟨S1024x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel9.lean ====
abbrev S16384x1024 : Shape := ⟨2, ![16384, 1024]⟩
abbrev S1024x7296 : Shape := ⟨2, ![1024, 7296]⟩
abbrev S16384x7296 : Shape := ⟨2, ![16384, 7296]⟩
abbrev S1024x1024 : Shape := ⟨2, ![1024, 1024]⟩
abbrev S1024x2432 : Shape := ⟨2, ![1024, 2432]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x7296, .bf16⟩
  | .hbm, ⟨2, _⟩ => ⟨S16384x7296, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .bf16⟩
  | .local _ .vmem, ⟨5, _⟩ => ⟨S1024x2432, .bf16⟩
  | .local _ .vmem, ⟨6, _⟩ => ⟨S1024x2432, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x7296 : Shape := ⟨2, ![1024, 7296]⟩
abbrev S16384x7296 : Shape := ⟨2, ![16384, 7296]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x7296, .bf16⟩
  | .hbm, ⟨2, _⟩ => ⟨S16384x1024, .f32⟩
  | .hbm, ⟨3, _⟩ => ⟨S1024x7296, .f32⟩
  | .hbm, ⟨4, _⟩ => ⟨S16384x7296, .f32⟩
  | .hbm, ⟨5, _⟩ => ⟨S16384x7296, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S16384x1024, .f32⟩
  | .hbm, ⟨57, _⟩ => ⟨S_, .f32⟩
  | .hbm, ⟨58, _⟩ => ⟨S16384, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S16384x1024, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x1024, .f32⟩
  | .hbm, ⟨79, _⟩ => ⟨S16384x1024, .f32⟩
  | .hbm, ⟨80, _⟩ => ⟨S16384x1024, .bf16⟩
  | .hbm, ⟨81, _⟩ => ⟨S_, .f32⟩
  | .hbm, ⟨82, _⟩ => ⟨S1024, .f32⟩
  | .hbm, ⟨83, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel13.lean ====
abbrev S16384x512 : Shape := ⟨2, ![16384, 512]⟩
abbrev S16384x7296 : Shape := ⟨2, ![16384, 7296]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S16384x1024 : Shape := ⟨2, ![16384, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S128x512 : Shape := ⟨2, ![128, 512]⟩
abbrev S128 : Shape := ⟨1, ![128]⟩
abbrev S512x128 : Shape := ⟨2, ![512, 128]⟩

abbrev nBuf : Space → Nat
  | .hbm => 15
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x7296, .bf16⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S16384x1024, .bf16⟩
  | .hbm, ⟨11, _⟩ => ⟨S1x512, .f32⟩
  | .hbm, ⟨12, _⟩ => ⟨S1x512, .f32⟩
  | .hbm, ⟨13, _⟩ => ⟨S4x128x128, .f32⟩
  | .hbm, ⟨14, _⟩ => ⟨S128x128, .f32⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x128, .f32⟩
  | .local _ .vmem, ⟨8, _⟩ => ⟨S512x1024, .bf16⟩
  | .local _ .vmem, ⟨9, _⟩ => ⟨S512x1024, .bf16⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference13Ideal.lean ====
abbrev S16384x512 : Shape := ⟨2, ![16384, 512]⟩
abbrev S16384x7296 : Shape := ⟨2, ![16384, 7296]⟩
abbrev S1x512 : Shape := ⟨2, ![1, 512]⟩
abbrev S4x128x128 : Shape := ⟨3, ![4, 128, 128]⟩
abbrev S4x128 : Shape := ⟨2, ![4, 128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩
abbrev S512 : Shape := ⟨1, ![512]⟩

abbrev nBuf : Space → Nat
  | .hbm => 102
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x7296, .bf16⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S16384x1024, .bf16⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S128x128x4x128, .f32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S4x128x128, .i1⟩
  | .hbm, ⟨62, _⟩ => ⟨S_, .f32⟩
  | .hbm, ⟨63, _⟩ => ⟨S4x128x128, .f32⟩
  | .hbm, ⟨64, _⟩ => ⟨S4x128x128, .f32⟩
  | .hbm, ⟨65, _⟩ => ⟨S_, .f32⟩
  | .hbm, ⟨66, _⟩ => ⟨S4x128x128, .f32⟩
  | .hbm, ⟨67, _⟩ => ⟨S4x128x128x128, .f32⟩
  | .hbm, ⟨68, _⟩ => ⟨S128x128x4x128, .f32⟩
  | .hbm, ⟨69, _⟩ => ⟨S128x4, .f32⟩
  | .hbm, ⟨70, _⟩ => ⟨S1x128x4x1, .f32⟩
  | .hbm, ⟨71, _⟩ => ⟨S128x128x4x128, .f32⟩
  | .hbm, ⟨72, _⟩ => ⟨S128x128x4x128, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S128x128x4x128, .f32⟩
  | .hbm, ⟨77, _⟩ => ⟨S_, .f32⟩
  | .hbm, ⟨78, _⟩ => ⟨S128x4, .f32⟩
  | .hbm, ⟨79, _⟩ => ⟨S1x128x4x1, .f32⟩
  | .hbm, ⟨80, _⟩ => ⟨S_, .f32⟩
  | .hbm, ⟨81, _⟩ => ⟨S128x4, .f32⟩
  | .hbm, ⟨82, _⟩ => ⟨S4x128, .f32⟩
  | .hbm, ⟨83, _⟩ => ⟨S4x128x128x128, .f32⟩
  | .hbm, ⟨84, _⟩ => ⟨S4x128x128, .f32⟩
  | .hbm, ⟨85, _⟩ => ⟨S4x128x128x128, .f32⟩
  | .hbm, ⟨86, _⟩ => ⟨S128x128x4x128, .f32⟩
  | .hbm, ⟨87, _⟩ => ⟨S_, .f32⟩
  | .hbm, ⟨88, _⟩ => ⟨S4x128x128, .f32⟩
  | .hbm, ⟨89, _⟩ => ⟨S4x128x128, .f32⟩
  | .hbm, ⟨90, _⟩ => ⟨S16384x512, .f32⟩
  | .hbm, ⟨91, _⟩ => ⟨S_, .f32⟩
  | .hbm, ⟨92, _⟩ => ⟨S512, .f32⟩
  | .hbm, ⟨93, _⟩ => ⟨S1x512, .f32⟩
  | .hbm, ⟨94, _⟩ => ⟨S16384x512, .f32⟩
  | .hbm, ⟨95, _⟩ => ⟨S_, .f32⟩
  | .hbm, ⟨96, _⟩ => ⟨S512, .f32⟩
  | .hbm, ⟨97, _⟩ => ⟨S1x512, .f32⟩
  | .hbm, ⟨98, _⟩ => ⟨S128x4, .f32⟩
  | .hbm, ⟨99, _⟩ => ⟨S_, .i32⟩
  | .hbm, ⟨100, _⟩ => ⟨S_, .f32⟩
  | .hbm, ⟨101, _⟩ => ⟨S128x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v40_1 : Ref sig .tc := ⟨.hbm, 61, rfl⟩
abbrev main_call0_cst : Ref sig .tc := ⟨.hbm, 62, rfl⟩
abbrev main_call0_v6 : Ref sig .tc := ⟨.hbm, 63, rfl⟩
abbrev main_v40_0 : Ref sig .tc := ⟨.hbm, 64, rfl⟩
abbrev main_call0_cst_0 : Ref sig .tc := ⟨.hbm, 65, rfl⟩
abbrev main_v40_2 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c : Ref sig .tc := ⟨.hbm, 99, rfl⟩
abbrev main_call2_v0 : Ref sig .tc := ⟨.hbm, 100, rfl⟩
abbrev main_v67 : Ref sig .tc := ⟨.hbm, 101, rfl⟩

abbrev nD : Nat := 1
abbrev τ : Topo := Topo.v7x

variable {F : FTy → Type} [FloatOps F]
-- ==== Kernel14.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S1x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1024x4096, .f32⟩
  | .hbm, ⟨42, _⟩ => ⟨S16384x4096, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x4096, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S16384x1024, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S_, .f32⟩
  | .hbm, ⟨89, _⟩ => ⟨S16384, .f32⟩
  | .hbm, ⟨90, _⟩ => ⟨S16384x1024, .f32⟩
  | .hbm, ⟨91, _⟩ => ⟨S16384x1024, .f32⟩
  | .hbm, ⟨92, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel15.lean ====
abbrev S16384x512 : Shape := ⟨2, ![16384, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S16384x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference15Ideal.lean ====
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S512 : Shape := ⟨1, ![512]⟩

abbrev nBuf : Space → Nat
  | .hbm => 98
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S16384x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S16384x512, .f32⟩
  | .hbm, ⟨69, _⟩ => ⟨S16384x512, .f32⟩
  | .hbm, ⟨70, _⟩ => ⟨S16384x1, .f32⟩
  | .hbm, ⟨71, _⟩ => ⟨S16384x512, .f32⟩
  | .hbm, ⟨72, _⟩ => ⟨S_, .f32⟩
  | .hbm, ⟨73, _⟩ => ⟨S16384, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S_, .f32⟩
  | .hbm, ⟨79, _⟩ => ⟨S16384, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S16384x512, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384, .f32⟩
  | .hbm, ⟨93, _⟩ => ⟨S16384x512, .f32⟩
  | .hbm, ⟨94, _⟩ => ⟨S16384x512, .f32⟩
  | .hbm, ⟨95, _⟩ => ⟨S_, .f32⟩
  | .hbm, ⟨96, _⟩ => ⟨S512, .f32⟩
  | .hbm, ⟨97, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩

abbrev nD : Nat := 1
abbrev τ : Topo := Topo.v7x

variable {F : FTy → Type} [FloatOps F]
-- ==== Kernel16.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel17.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S1x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S16384x4096 : Shape := ⟨2, ![16384, 4096]⟩
abbrev S4096x1024 : Shape := ⟨2, ![4096, 1024]⟩
abbrev S1x1024 : Shape := ⟨2, ![1, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S1x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x4096, .f32⟩
  | .hbm, ⟨10, _⟩ => ⟨S4096x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel19.lean ====
abbrev S16384x3072 : Shape := ⟨2, ![16384, 3072]⟩
abbrev S16384x512 : Shape := ⟨2, ![16384, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S16384x3072 : Shape := ⟨2, ![16384, 3072]⟩
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S16384x1024, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S16384x3072 : Shape := ⟨2, ![16384, 3072]⟩
abbrev S16384x512 : Shape := ⟨2, ![16384, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S16384x3072 : Shape := ⟨2, ![16384, 3072]⟩
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S16384x1024, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S16384x3072 : Shape := ⟨2, ![16384, 3072]⟩
abbrev S16384x512 : Shape := ⟨2, ![16384, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S16384x3072 : Shape := ⟨2, ![16384, 3072]⟩
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x512, .bf16⟩
  | .hbm, ⟨2, _⟩ => ⟨S16384x1024, .bf16⟩
  | .hbm, ⟨3, _⟩ => ⟨S_, .f32⟩
  | .hbm, ⟨4, _⟩ => ⟨S512x1024, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S2048x897 : Shape := ⟨2, ![2048, 897]⟩
abbrev S8x2048x897 : Shape := ⟨3, ![8, 2048, 897]⟩
abbrev S256x897 : Shape := ⟨2, ![256, 897]⟩
abbrev S8x256x897 : Shape := ⟨3, ![8, 256, 897]⟩
abbrev S1x256x897 : Shape := ⟨3, ![1, 256, 897]⟩

abbrev nBuf : Space → Nat
  | .hbm => 8
  | .vmem => 16
  | .smem => 0
  | _ => 0

abbrev bufTy : (tb : Table) → Fin (tcTables nBuf tb) → BufTy
  | .hbm, ⟨0, _⟩ => ⟨S2048x897, .f32⟩
  | .hbm, ⟨1, _⟩ => ⟨S2048x897, .f32⟩
  | .hbm, ⟨2, _⟩ => ⟨S2048x897, .f32⟩
  | .hbm, ⟨3, _⟩ => ⟨S8x2048x897, .bf16⟩
  | .hbm, ⟨4, _⟩ => ⟨S2048x897, .f32⟩
  | .hbm, ⟨5, _⟩ => ⟨S2048x897, .f32⟩
  | .hbm, ⟨6, _⟩ => ⟨S2048x897, .f32⟩
  | .hbm, ⟨7, _⟩ => ⟨S2048x897, .f32⟩
  | .local _ .vmem, ⟨0, _⟩ => ⟨S256x897, .f32⟩
  | .local _ .vmem, ⟨1, _⟩ => ⟨S256x897, .f32⟩
  | .local _ .vmem, ⟨2, _⟩ => ⟨S256x897, .f32⟩
  | .local _ .vmem, ⟨3, _⟩ => ⟨S256x897, .f32⟩
  | .local _ .vmem, ⟨4, _⟩ => ⟨S256x897, .f32⟩
  | .local _ .vmem, ⟨5, _⟩ => ⟨S256x897, .f32⟩
  | .local _ .vmem, ⟨6, _⟩ => ⟨S8x256x897, .bf16⟩
  | .local _ .vmem, ⟨7, _⟩ => ⟨S8x256x897, .bf16⟩
  | .local _ .vmem, ⟨8, _⟩ => ⟨S256x897, .f32⟩
  | .local _ .vmem, ⟨9, _⟩ => ⟨S256x897, .f32⟩
  | .local _ .vmem, ⟨10, _⟩ => ⟨S256x897, .f32⟩
  | .local _ .vmem, ⟨11, _⟩ => ⟨S256x897, .f32⟩
  | .local _ .vmem, ⟨12, _⟩ => ⟨S256x897, .f32⟩
  | .local _ .vmem, ⟨13, _⟩ => ⟨S256x897, .f32⟩
  | .local _ .vmem, ⟨14, _⟩ => ⟨S256x897, .f32⟩
  | .local _ .vmem, ⟨15, _⟩ => ⟨S256x897, .f32⟩
  | _, _ => ⟨S2048x897, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x897 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x897 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x897 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x897 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x897 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x897 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x897 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x897 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x897 : Shape := ⟨2, ![2048, 897]⟩
abbrev S8x2048x897 : Shape := ⟨3, ![8, 2048, 897]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x897, .f32⟩
  | .hbm, ⟨1, _⟩ => ⟨S2048x897, .f32⟩
  | .hbm, ⟨2, _⟩ => ⟨S2048x897, .f32⟩
  | .hbm, ⟨3, _⟩ => ⟨S8x2048x897, .bf16⟩
  | .hbm, ⟨4, _⟩ => ⟨S8x2048x897, .f32⟩
  | .hbm, ⟨5, _⟩ => ⟨S_, .f32⟩
  | .hbm, ⟨6, _⟩ => ⟨S2048x897, .f32⟩
  | .hbm, ⟨7, _⟩ => ⟨S_, .f32⟩
  | .hbm, ⟨8, _⟩ => ⟨S2048x897, .f32⟩
  | .hbm, ⟨9, _⟩ => ⟨S2048x897, .f32⟩
  | .hbm, ⟨10, _⟩ => ⟨S_, .f32⟩
  | .hbm, ⟨11, _⟩ => ⟨S2048x897, .f32⟩
  | .hbm, ⟨12, _⟩ => ⟨S2048x897, .f32⟩
  | .hbm, ⟨13, _⟩ => ⟨S2048x897, .f32⟩
  | .hbm, ⟨14, _⟩ => ⟨S_, .f32⟩
  | .hbm, ⟨15, _⟩ => ⟨S2048x897, .f32⟩
  | .hbm, ⟨16, _⟩ => ⟨S2048x897, .f32⟩
  | .hbm, ⟨17, _⟩ => ⟨S2048x897, .f32⟩
  | .hbm, ⟨18, _⟩ => ⟨S_, .f32⟩
  | .hbm, ⟨19, _⟩ => ⟨S2048x897, .f32⟩
  | .hbm, ⟨20, _⟩ => ⟨S2048x897, .f32⟩
  | .hbm, ⟨21, _⟩ => ⟨S2048x897, .f32⟩
  | .hbm, ⟨22, _⟩ => ⟨S_, .f32⟩
  | .hbm, ⟨23, _⟩ => ⟨S2048x897, .f32⟩
  | .hbm, ⟨24, _⟩ => ⟨S2048x897, .f32⟩
  | .hbm, ⟨25, _⟩ => ⟨S_, .f32⟩
  | .hbm, ⟨26, _⟩ => ⟨S2048x897, .f32⟩
  | .hbm, ⟨27, _⟩ => ⟨S2048x897, .f32⟩
  | .hbm, ⟨28, _⟩ => ⟨S2048x897, .f32⟩
  | .hbm, ⟨29, _⟩ => ⟨S_, .f32⟩
  | .hbm, ⟨30, _⟩ => ⟨S2048x897, .f32⟩
  | .hbm, ⟨31, _⟩ => ⟨S2048x897, .f32⟩
  | .hbm, ⟨32, _⟩ => ⟨S2048x897, .f32⟩
  | .hbm, ⟨33, _⟩ => ⟨S_, .f32⟩
  | .hbm, ⟨34, _⟩ => ⟨S2048x897, .f32⟩
  | .hbm, ⟨35, _⟩ => ⟨S2048x897, .f32⟩
  | .hbm, ⟨36, _⟩ => ⟨S2048x897, .f32⟩
  | .hbm, ⟨37, _⟩ => ⟨S_, .f32⟩
  | .hbm, ⟨38, _⟩ => ⟨S2048x897, .f32⟩
  | .hbm, ⟨39, _⟩ => ⟨S2048x897, .f32⟩
  | _, _ => ⟨S2048x897, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S8x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S256x1024 : Shape := ⟨2, ![256, 1024]⟩
abbrev S8x256x1024 : Shape := ⟨3, ![8, 256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S2048x512 : Shape := ⟨2, ![2048, 512]⟩
abbrev S8x2048x512 : Shape := ⟨3, ![8, 2048, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S2048x512 : Shape := ⟨2, ![2048, 512]⟩
abbrev S8x2048x512 : Shape := ⟨3, ![8, 2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x512, .bf16⟩
  | .hbm, ⟨4, _⟩ => ⟨S8x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S1024x1024 : Shape := ⟨2, ![1024, 1024]⟩
abbrev S8x1024x1024 : Shape := ⟨3, ![8, 1024, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S8x1024x1024, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x1024 : Shape := ⟨2, ![1024, 1024]⟩
abbrev S8x1024x1024 : Shape := ⟨3, ![8, 1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S8x1024x1024, .bf16⟩
  | .hbm, ⟨4, _⟩ => ⟨S8x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S3072x128 : Shape := ⟨2, ![3072, 128]⟩
abbrev S8x3072x128 : Shape := ⟨3, ![8, 3072, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S8x3072x128, .bf16⟩
  | .hbm, ⟨4, _⟩ => ⟨S3072x128, .f32⟩
  | .hbm, ⟨5, _⟩ => ⟨S3072x128, .f32⟩
  | .hbm, ⟨6, _⟩ => ⟨S3072x128, .f32⟩
  | .hbm, ⟨7, _⟩ => ⟨S3072x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x256x128, .bf16⟩
  | .local _ .vmem, ⟨7, _⟩ => ⟨S8x256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S3072x128 : Shape := ⟨2, ![3072, 128]⟩
abbrev S8x3072x128 : Shape := ⟨3, ![8, 3072, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S8x3072x128, .bf16⟩
  | .hbm, ⟨4, _⟩ => ⟨S8x3072x128, .f32⟩
  | .hbm, ⟨5, _⟩ => ⟨S_, .f32⟩
  | .hbm, ⟨6, _⟩ => ⟨S3072x128, .f32⟩
  | .hbm, ⟨7, _⟩ => ⟨S_, .f32⟩
  | .hbm, ⟨8, _⟩ => ⟨S3072x128, .f32⟩
  | .hbm, ⟨9, _⟩ => ⟨S3072x128, .f32⟩
  | .hbm, ⟨10, _⟩ => ⟨S_, .f32⟩
  | .hbm, ⟨11, _⟩ => ⟨S3072x128, .f32⟩
  | .hbm, ⟨12, _⟩ => ⟨S3072x128, .f32⟩
  | .hbm, ⟨13, _⟩ => ⟨S3072x128, .f32⟩
  | .hbm, ⟨14, _⟩ => ⟨S_, .f32⟩
  | .hbm, ⟨15, _⟩ => ⟨S3072x128, .f32⟩
  | .hbm, ⟨16, _⟩ => ⟨S3072x128, .f32⟩
  | .hbm, ⟨17, _⟩ => ⟨S3072x128, .f32⟩
  | .hbm, ⟨18, _⟩ => ⟨S_, .f32⟩
  | .hbm, ⟨19, _⟩ => ⟨S3072x128, .f32⟩
  | .hbm, ⟨20, _⟩ => ⟨S3072x128, .f32⟩
  | .hbm, ⟨21, _⟩ => ⟨S3072x128, .f32⟩
  | .hbm, ⟨22, _⟩ => ⟨S_, .f32⟩
  | .hbm, ⟨23, _⟩ => ⟨S3072x128, .f32⟩
  | .hbm, ⟨24, _⟩ => ⟨S3072x128, .f32⟩
  | .hbm, ⟨25, _⟩ => ⟨S_, .f32⟩
  | .hbm, ⟨26, _⟩ => ⟨S3072x128, .f32⟩
  | .hbm, ⟨27, _⟩ => ⟨S3072x128, .f32⟩
  | .hbm, ⟨28, _⟩ => ⟨S3072x128, .f32⟩
  | .hbm, ⟨29, _⟩ => ⟨S_, .f32⟩
  | .hbm, ⟨30, _⟩ => ⟨S3072x128, .f32⟩
  | .hbm, ⟨31, _⟩ => ⟨S3072x128, .f32⟩
  | .hbm, ⟨32, _⟩ => ⟨S3072x128, .f32⟩
  | .hbm, ⟨33, _⟩ => ⟨S_, .f32⟩
  | .hbm, ⟨34, _⟩ => ⟨S3072x128, .f32⟩
  | .hbm, ⟨35, _⟩ => ⟨S3072x128, .f32⟩
  | .hbm, ⟨36, _⟩ => ⟨S3072x128, .f32⟩
  | .hbm, ⟨37, _⟩ => ⟨S_, .f32⟩
  | .hbm, ⟨38, _⟩ => ⟨S3072x128, .f32⟩
  | .hbm, ⟨39, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S86x64 : Shape := ⟨2, ![86, 64]⟩
abbrev S8x86x64 : Shape := ⟨3, ![8, 86, 64]⟩
abbrev S1x86x64 : Shape := ⟨3, ![1, 86, 64]⟩

abbrev nBuf : Space → Nat
  | .hbm => 8
  | .vmem => 8
  | .smem => 0
  | _ => 0

abbrev bufTy : (tb : Table) → Fin (tcTables nBuf tb) → BufTy
  | .hbm, ⟨0, _⟩ => ⟨S86x64, .f32⟩
  | .hbm, ⟨1, _⟩ => ⟨S86x64, .f32⟩
  | .hbm, ⟨2, _⟩ => ⟨S86x64, .f32⟩
  | .hbm, ⟨3, _⟩ => ⟨S8x86x64, .f32⟩
  | .hbm, ⟨4, _⟩ => ⟨S86x64, .f32⟩
  | .hbm, ⟨5, _⟩ => ⟨S86x64, .f32⟩
  | .hbm, ⟨6, _⟩ => ⟨S86x64, .f32⟩
  | .hbm, ⟨7, _⟩ => ⟨S86x64, .f32⟩
  | .local _ .vmem, ⟨0, _⟩ => ⟨S86x64, .f32⟩
  | .local _ .vmem, ⟨1, _⟩ => ⟨S86x64, .f32⟩
  | .local _ .vmem, ⟨2, _⟩ => ⟨S86x64, .f32⟩
  | .local _ .vmem, ⟨3, _⟩ => ⟨S8x86x64, .f32⟩
  | .local _ .vmem, ⟨4, _⟩ => ⟨S86x64, .f32⟩
  | .local _ .vmem, ⟨5, _⟩ => ⟨S86x64, .f32⟩
  | .local _ .vmem, ⟨6, _⟩ => ⟨S86x64, .f32⟩
  | .local _ .vmem, ⟨7, _⟩ => ⟨S86x64, .f32⟩
  | _, _ => ⟨S86x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S86x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S86x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S86x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x86x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S86x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S86x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S86x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S86x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S86x64 : Shape := ⟨2, ![86, 64]⟩
abbrev S8x86x64 : Shape := ⟨3, ![8, 86, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S86x64, .f32⟩
  | .hbm, ⟨1, _⟩ => ⟨S86x64, .f32⟩
  | .hbm, ⟨2, _⟩ => ⟨S86x64, .f32⟩
  | .hbm, ⟨3, _⟩ => ⟨S8x86x64, .f32⟩
  | .hbm, ⟨4, _⟩ => ⟨S_, .f32⟩
  | .hbm, ⟨5, _⟩ => ⟨S86x64, .f32⟩
  | .hbm, ⟨6, _⟩ => ⟨S_, .f32⟩
  | .hbm, ⟨7, _⟩ => ⟨S86x64, .f32⟩
  | .hbm, ⟨8, _⟩ => ⟨S86x64, .f32⟩
  | .hbm, ⟨9, _⟩ => ⟨S_, .f32⟩
  | .hbm, ⟨10, _⟩ => ⟨S86x64, .f32⟩
  | .hbm, ⟨11, _⟩ => ⟨S86x64, .f32⟩
  | .hbm, ⟨12, _⟩ => ⟨S86x64, .f32⟩
  | .hbm, ⟨13, _⟩ => ⟨S_, .f32⟩
  | .hbm, ⟨14, _⟩ => ⟨S86x64, .f32⟩
  | .hbm, ⟨15, _⟩ => ⟨S86x64, .f32⟩
  | .hbm, ⟨16, _⟩ => ⟨S86x64, .f32⟩
  | .hbm, ⟨17, _⟩ => ⟨S_, .f32⟩
  | .hbm, ⟨18, _⟩ => ⟨S86x64, .f32⟩
  | .hbm, ⟨19, _⟩ => ⟨S86x64, .f32⟩
  | .hbm, ⟨20, _⟩ => ⟨S86x64, .f32⟩
  | .hbm, ⟨21, _⟩ => ⟨S_, .f32⟩
  | .hbm, ⟨22, _⟩ => ⟨S86x64, .f32⟩
  | .hbm, ⟨23, _⟩ => ⟨S86x64, .f32⟩
  | .hbm, ⟨24, _⟩ => ⟨S_, .f32⟩
  | .hbm, ⟨25, _⟩ => ⟨S86x64, .f32⟩
  | .hbm, ⟨26, _⟩ => ⟨S86x64, .f32⟩
  | .hbm, ⟨27, _⟩ => ⟨S86x64, .f32⟩
  | .hbm, ⟨28, _⟩ => ⟨S_, .f32⟩
  | .hbm, ⟨29, _⟩ => ⟨S86x64, .f32⟩
  | .hbm, ⟨30, _⟩ => ⟨S86x64, .f32⟩
  | .hbm, ⟨31, _⟩ => ⟨S86x64, .f32⟩
  | .hbm, ⟨32, _⟩ => ⟨S_, .f32⟩
  | .hbm, ⟨33, _⟩ => ⟨S86x64, .f32⟩
  | .hbm, ⟨34, _⟩ => ⟨S86x64, .f32⟩
  | .hbm, ⟨35, _⟩ => ⟨S86x64, .f32⟩
  | .hbm, ⟨36, _⟩ => ⟨S_, .f32⟩
  | .hbm, ⟨37, _⟩ => ⟨S86x64, .f32⟩
  | .hbm, ⟨38, _⟩ => ⟨S86x64, .f32⟩
  | _, _ => ⟨S86x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S1288x128 : Shape := ⟨2, ![1288, 128]⟩
abbrev S8x1288x128 : Shape := ⟨3, ![8, 1288, 128]⟩
abbrev S1x1288x128 : Shape := ⟨3, ![1, 1288, 128]⟩

abbrev nBuf : Space → Nat
  | .hbm => 8
  | .vmem => 8
  | .smem => 0
  | _ => 0

abbrev bufTy : (tb : Table) → Fin (tcTables nBuf tb) → BufTy
  | .hbm, ⟨0, _⟩ => ⟨S1288x128, .f32⟩
  | .hbm, ⟨1, _⟩ => ⟨S1288x128, .f32⟩
  | .hbm, ⟨2, _⟩ => ⟨S1288x128, .f32⟩
  | .hbm, ⟨3, _⟩ => ⟨S8x1288x128, .f32⟩
  | .hbm, ⟨4, _⟩ => ⟨S1288x128, .f32⟩
  | .hbm, ⟨5, _⟩ => ⟨S1288x128, .f32⟩
  | .hbm, ⟨6, _⟩ => ⟨S1288x128, .f32⟩
  | .hbm, ⟨7, _⟩ => ⟨S1288x128, .f32⟩
  | .local _ .vmem, ⟨0, _⟩ => ⟨S1288x128, .f32⟩
  | .local _ .vmem, ⟨1, _⟩ => ⟨S1288x128, .f32⟩
  | .local _ .vmem, ⟨2, _⟩ => ⟨S1288x128, .f32⟩
  | .local _ .vmem, ⟨3, _⟩ => ⟨S8x1288x128, .f32⟩
  | .local _ .vmem, ⟨4, _⟩ => ⟨S1288x128, .f32⟩
  | .local _ .vmem, ⟨5, _⟩ => ⟨S1288x128, .f32⟩
  | .local _ .vmem, ⟨6, _⟩ => ⟨S1288x128, .f32⟩
  | .local _ .vmem, ⟨7, _⟩ => ⟨S1288x128, .f32⟩
  | _, _ => ⟨S1288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1288x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S1288x128 : Shape := ⟨2, ![1288, 128]⟩
abbrev S8x1288x128 : Shape := ⟨3, ![8, 1288, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1288x128, .f32⟩
  | .hbm, ⟨1, _⟩ => ⟨S1288x128, .f32⟩
  | .hbm, ⟨2, _⟩ => ⟨S1288x128, .f32⟩
  | .hbm, ⟨3, _⟩ => ⟨S8x1288x128, .f32⟩
  | .hbm, ⟨4, _⟩ => ⟨S_, .f32⟩
  | .hbm, ⟨5, _⟩ => ⟨S1288x128, .f32⟩
  | .hbm, ⟨6, _⟩ => ⟨S_, .f32⟩
  | .hbm, ⟨7, _⟩ => ⟨S1288x128, .f32⟩
  | .hbm, ⟨8, _⟩ => ⟨S1288x128, .f32⟩
  | .hbm, ⟨9, _⟩ => ⟨S_, .f32⟩
  | .hbm, ⟨10, _⟩ => ⟨S1288x128, .f32⟩
  | .hbm, ⟨11, _⟩ => ⟨S1288x128, .f32⟩
  | .hbm, ⟨12, _⟩ => ⟨S1288x128, .f32⟩
  | .hbm, ⟨13, _⟩ => ⟨S_, .f32⟩
  | .hbm, ⟨14, _⟩ => ⟨S1288x128, .f32⟩
  | .hbm, ⟨15, _⟩ => ⟨S1288x128, .f32⟩
  | .hbm, ⟨16, _⟩ => ⟨S1288x128, .f32⟩
  | .hbm, ⟨17, _⟩ => ⟨S_, .f32⟩
  | .hbm, ⟨18, _⟩ => ⟨S1288x128, .f32⟩
  | .hbm, ⟨19, _⟩ => ⟨S1288x128, .f32⟩
  | .hbm, ⟨20, _⟩ => ⟨S1288x128, .f32⟩
  | .hbm, ⟨21, _⟩ => ⟨S_, .f32⟩
  | .hbm, ⟨22, _⟩ => ⟨S1288x128, .f32⟩
  | .hbm, ⟨23, _⟩ => ⟨S1288x128, .f32⟩
  | .hbm, ⟨24, _⟩ => ⟨S_, .f32⟩
  | .hbm, ⟨25, _⟩ => ⟨S1288x128, .f32⟩
  | .hbm, ⟨26, _⟩ => ⟨S1288x128, .f32⟩
  | .hbm, ⟨27, _⟩ => ⟨S1288x128, .f32⟩
  | .hbm, ⟨28, _⟩ => ⟨S_, .f32⟩
  | .hbm, ⟨29, _⟩ => ⟨S1288x128, .f32⟩
  | .hbm, ⟨30, _⟩ => ⟨S1288x128, .f32⟩
  | .hbm, ⟨31, _⟩ => ⟨S1288x128, .f32⟩
  | .hbm, ⟨32, _⟩ => ⟨S_, .f32⟩
  | .hbm, ⟨33, _⟩ => ⟨S1288x128, .f32⟩
  | .hbm, ⟨34, _⟩ => ⟨S1288x128, .f32⟩
  | .hbm, ⟨35, _⟩ => ⟨S1288x128, .f32⟩
  | .hbm, ⟨36, _⟩ => ⟨S_, .f32⟩
  | .hbm, ⟨37, _⟩ => ⟨S1288x128, .f32⟩
  | .hbm, ⟨38, _⟩ => ⟨S1288x128, .f32⟩
  | _, _ => ⟨S1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S16384x1024 : Shape := ⟨2, ![16384, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference29Ideal.lean ====
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel18.lean ====
abbrev S16384x7296 : Shape := ⟨2, ![16384, 7296]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S128x512 : Shape := ⟨2, ![128, 512]⟩

abbrev nBuf : Space → Nat
  | .hbm => 10
  | .vmem => 8
  | .smem => 0
  | _ => 0

abbrev bufTy : (tb : Table) → Fin (tcTables nBuf tb) → BufTy
  | .hbm, ⟨0, _⟩ => ⟨S16384x7296, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x128, .f32⟩
  | .local _ .vmem, ⟨6, _⟩ => ⟨S512x512, .bf16⟩
  | .local _ .vmem, ⟨7, _⟩ => ⟨S512x512, .bf16⟩
  | _, _ => ⟨S16384x7296, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S16384x7296 : Shape := ⟨2, ![16384, 7296]⟩
abbrev S1x512 : Shape := ⟨2, ![1, 512]⟩
abbrev S4x128x128 : Shape := ⟨3, ![4, 128, 128]⟩
abbrev S4x128 : Shape := ⟨2, ![4, 128]⟩
abbrev S16384x1024 : Shape := ⟨2, ![16384, 1024]⟩
abbrev S_ : Shape := ⟨0, ![]⟩
abbrev S16384x512 : Shape := ⟨2, ![16384, 512]⟩
abbrev S16384 : Shape := ⟨1, ![16384]⟩
abbrev S16384x1 : Shape := ⟨2, ![16384, 1]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x7296, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S16384x1024, .bf16⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x512, .f32⟩
  | .hbm, ⟨42, _⟩ => ⟨S16384x512, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | .hbm, ⟨53, _⟩ => ⟨S128x128x4x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S4x128x128, .i1⟩
  | .hbm, ⟨61, _⟩ => ⟨S_, .f32⟩
  | .hbm, ⟨62, _⟩ => ⟨S4x128x128, .f32⟩
  | .hbm, ⟨63, _⟩ => ⟨S4x128x128, .f32⟩
  | .hbm, ⟨64, _⟩ => ⟨S4x128x128x128, .f32⟩
  | .hbm, ⟨65, _⟩ => ⟨S128x128x4x128, .f32⟩
  | .hbm, ⟨66, _⟩ => ⟨S128x4, .f32⟩
  | .hbm, ⟨67, _⟩ => ⟨S1x128x4x1, .f32⟩
  | .hbm, ⟨68, _⟩ => ⟨S128x128x4x128, .f32⟩
  | .hbm, ⟨69, _⟩ => ⟨S128x128x4x128, .f32⟩
  | .hbm, ⟨70, _⟩ => ⟨S16384x512, .f32⟩
  | .hbm, ⟨71, _⟩ => ⟨S16384x512, .f32⟩
  | .hbm, ⟨72, _⟩ => ⟨S16384x512, .bf16⟩
  | _, _ => ⟨S16384x7296, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_cst : Ref sig .tc := ⟨.hbm, 61, rfl⟩
abbrev main_call0_v6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩

abbrev nD : Nat := 1
abbrev τ : Topo := Topo.v7x

variable {F : FTy → Type} [FloatOps F]
-- ==== Kernel10.lean ====
abbrev S16384x1536 : Shape := ⟨2, ![16384, 1536]⟩
abbrev S16384x7296 : Shape := ⟨2, ![16384, 7296]⟩
abbrev S4x1536 : Shape := ⟨2, ![4, 1536]⟩
abbrev S512x512 : Shape := ⟨2, ![512, 512]⟩
abbrev S16x512 : Shape := ⟨2, ![16, 512]⟩
abbrev S4x512 : Shape := ⟨2, ![4, 512]⟩
abbrev S528x512 : Shape := ⟨2, ![528, 512]⟩
abbrev S32x512 : Shape := ⟨2, ![32, 512]⟩
abbrev S1x512 : Shape := ⟨2, ![1, 512]⟩
abbrev S8x512 : Shape := ⟨2, ![8, 512]⟩
abbrev S512 : Shape := ⟨1, ![512]⟩

abbrev nBuf : Space → Nat
  | .hbm => 5
  | .vmem => 17
  | .smem => 0
  | _ => 0

abbrev bufTy : (tb : Table) → Fin (tcTables nBuf tb) → BufTy
  | .hbm, ⟨0, _⟩ => ⟨S16384x1536, .f32⟩
  | .hbm, ⟨1, _⟩ => ⟨S16384x7296, .bf16⟩
  | .hbm, ⟨2, _⟩ => ⟨S4x1536, .f32⟩
  | .hbm, ⟨3, _⟩ => ⟨S16384x1536, .bf16⟩
  | .hbm, ⟨4, _⟩ => ⟨S4x1536, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S16x512, .bf16⟩
  | .local _ .vmem, ⟨7, _⟩ => ⟨S16x512, .bf16⟩
  | .local _ .vmem, ⟨8, _⟩ => ⟨S4x512, .f32⟩
  | .local _ .vmem, ⟨9, _⟩ => ⟨S4x512, .f32⟩
  | .local _ .vmem, ⟨10, _⟩ => ⟨S512x512, .bf16⟩
  | .local _ .vmem, ⟨11, _⟩ => ⟨S512x512, .bf16⟩
  | .local _ .vmem, ⟨12, _⟩ => ⟨S4x512, .f32⟩
  | .local _ .vmem, ⟨13, _⟩ => ⟨S4x512, .f32⟩
  | .local _ .vmem, ⟨14, _⟩ => ⟨S528x512, .f32⟩
  | .local _ .vmem, ⟨15, _⟩ => ⟨S528x512, .f32⟩
  | .local _ .vmem, ⟨16, _⟩ => ⟨S32x512, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi arg0 c2_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S16384x1536 : Shape := ⟨2, ![16384, 1536]⟩
abbrev S16384x7296 : Shape := ⟨2, ![16384, 7296]⟩
abbrev S4x1536 : Shape := ⟨2, ![4, 1536]⟩
abbrev S_ : Shape := ⟨0, ![]⟩
abbrev S3x1536 : Shape := ⟨2, ![3, 1536]⟩
abbrev S16387x1536 : Shape := ⟨2, ![16387, 1536]⟩
abbrev S1x1536 : Shape := ⟨2, ![1, 1536]⟩
abbrev S1536 : Shape := ⟨1, ![1536]⟩

abbrev nBuf : Space → Nat
  | .hbm => 103
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x7296, .bf16⟩
  | .hbm, ⟨2, _⟩ => ⟨S4x1536, .f32⟩
  | .hbm, ⟨3, _⟩ => ⟨S16384x1536, .bf16⟩
  | .hbm, ⟨4, _⟩ => ⟨S16384x1536, .f32⟩
  | .hbm, ⟨5, _⟩ => ⟨S_, .f32⟩
  | .hbm, ⟨6, _⟩ => ⟨S3x1536, .f32⟩
  | .hbm, ⟨7, _⟩ => ⟨S16387x1536, .f32⟩
  | .hbm, ⟨8, _⟩ => ⟨S_, .f32⟩
  | .hbm, ⟨9, _⟩ => ⟨S3x1536, .f32⟩
  | .hbm, ⟨10, _⟩ => ⟨S1x1536, .f32⟩
  | .hbm, ⟨11, _⟩ => ⟨S1536, .f32⟩
  | .hbm, ⟨12, _⟩ => ⟨S16384x1536, .f32⟩
  | .hbm, ⟨13, _⟩ => ⟨S1x1536, .f32⟩
  | .hbm, ⟨14, _⟩ => ⟨S16384x1536, .f32⟩
  | .hbm, ⟨15, _⟩ => ⟨S16384x1536, .f32⟩
  | .hbm, ⟨16, _⟩ => ⟨S_, .f32⟩
  | .hbm, ⟨17, _⟩ => ⟨S16384x1536, .f32⟩
  | .hbm, ⟨18, _⟩ => ⟨S16384x1536, .f32⟩
  | .hbm, ⟨19, _⟩ => ⟨S1x1536, .f32⟩
  | .hbm, ⟨20, _⟩ => ⟨S1536, .f32⟩
  | .hbm, ⟨21, _⟩ => ⟨S16384x1536, .f32⟩
  | .hbm, ⟨22, _⟩ => ⟨S1x1536, .f32⟩
  | .hbm, ⟨23, _⟩ => ⟨S16384x1536, .f32⟩
  | .hbm, ⟨24, _⟩ => ⟨S16384x1536, .f32⟩
  | .hbm, ⟨25, _⟩ => ⟨S16384x1536, .f32⟩
  | .hbm, ⟨26, _⟩ => ⟨S1x1536, .f32⟩
  | .hbm, ⟨27, _⟩ => ⟨S1536, .f32⟩
  | .hbm, ⟨28, _⟩ => ⟨S16384x1536, .f32⟩
  | .hbm, ⟨29, _⟩ => ⟨S1x1536, .f32⟩
  | .hbm, ⟨30, _⟩ => ⟨S16384x1536, .f32⟩
  | .hbm, ⟨31, _⟩ => ⟨S16384x1536, .f32⟩
  | .hbm, ⟨32, _⟩ => ⟨S16384x1536, .f32⟩
  | .hbm, ⟨33, _⟩ => ⟨S1x1536, .f32⟩
  | .hbm, ⟨34, _⟩ => ⟨S1536, .f32⟩
  | .hbm, ⟨35, _⟩ => ⟨S16384x1536, .f32⟩
  | .hbm, ⟨36, _⟩ => ⟨S1x1536, .f32⟩
  | .hbm, ⟨37, _⟩ => ⟨S16384x1536, .f32⟩
  | .hbm, ⟨38, _⟩ => ⟨S16384x1536, .f32⟩
  | .hbm, ⟨39, _⟩ => ⟨S16384x1536, .f32⟩
  | .hbm, ⟨40, _⟩ => ⟨S16384x1536, .f32⟩
  | .hbm, ⟨41, _⟩ => ⟨S16384x1536, .f32⟩
  | .hbm, ⟨42, _⟩ => ⟨S16384x1536, .f32⟩
  | .hbm, ⟨43, _⟩ => ⟨S16384x1536, .f32⟩
  | .hbm, ⟨44, _⟩ => ⟨S16384x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S_, .f32⟩
  | .hbm, ⟨49, _⟩ => ⟨S1536, .f32⟩
  | .hbm, ⟨50, _⟩ => ⟨S_, .f32⟩
  | .hbm, ⟨51, _⟩ => ⟨S16387x1536, .f32⟩
  | .hbm, ⟨52, _⟩ => ⟨S1x1536, .f32⟩
  | .hbm, ⟨53, _⟩ => ⟨S_, .f32⟩
  | .hbm, ⟨54, _⟩ => ⟨S4x1536, .f32⟩
  | .hbm, ⟨55, _⟩ => ⟨S16384x1536, .f32⟩
  | .hbm, ⟨56, _⟩ => ⟨S16384x1536, .f32⟩
  | .hbm, ⟨57, _⟩ => ⟨S16384x1536, .f32⟩
  | .hbm, ⟨58, _⟩ => ⟨S_, .f32⟩
  | .hbm, ⟨59, _⟩ => ⟨S1536, .f32⟩
  | .hbm, ⟨60, _⟩ => ⟨S1x1536, .f32⟩
  | .hbm, ⟨61, _⟩ => ⟨S_, .f32⟩
  | .hbm, ⟨62, _⟩ => ⟨S1536, .f32⟩
  | .hbm, ⟨63, _⟩ => ⟨S_, .f32⟩
  | .hbm, ⟨64, _⟩ => ⟨S16387x1536, .f32⟩
  | .hbm, ⟨65, _⟩ => ⟨S16387x1536, .f32⟩
  | .hbm, ⟨66, _⟩ => ⟨S1x1536, .f32⟩
  | .hbm, ⟨67, _⟩ => ⟨S_, .f32⟩
  | .hbm, ⟨68, _⟩ => ⟨S4x1536, .f32⟩
  | .hbm, ⟨69, _⟩ => ⟨S4x1536, .f32⟩
  | .hbm, ⟨70, _⟩ => ⟨S16384x1536, .f32⟩
  | .hbm, ⟨71, _⟩ => ⟨S16384x1536, .f32⟩
  | .hbm, ⟨72, _⟩ => ⟨S16384x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S_, .f32⟩
  | .hbm, ⟨77, _⟩ => ⟨S1536, .f32⟩
  | .hbm, ⟨78, _⟩ => ⟨S_, .f32⟩
  | .hbm, ⟨79, _⟩ => ⟨S16387x1536, .f32⟩
  | .hbm, ⟨80, _⟩ => ⟨S16387x1536, .f32⟩
  | .hbm, ⟨81, _⟩ => ⟨S1x1536, .f32⟩
  | .hbm, ⟨82, _⟩ => ⟨S_, .f32⟩
  | .hbm, ⟨83, _⟩ => ⟨S4x1536, .f32⟩
  | .hbm, ⟨84, _⟩ => ⟨S4x1536, .f32⟩
  | .hbm, ⟨85, _⟩ => ⟨S16384x1536, .f32⟩
  | .hbm, ⟨86, _⟩ => ⟨S16384x1536, .f32⟩
  | .hbm, ⟨87, _⟩ => ⟨S16384x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S1536, .f32⟩
  | .hbm, ⟨93, _⟩ => ⟨S_, .f32⟩
  | .hbm, ⟨94, _⟩ => ⟨S16387x1536, .f32⟩
  | .hbm, ⟨95, _⟩ => ⟨S16387x1536, .f32⟩
  | .hbm, ⟨96, _⟩ => ⟨S1x1536, .f32⟩
  | .hbm, ⟨97, _⟩ => ⟨S_, .f32⟩
  | .hbm, ⟨98, _⟩ => ⟨S4x1536, .f32⟩
  | .hbm, ⟨99, _⟩ => ⟨S4x1536, .f32⟩
  | .hbm, ⟨100, _⟩ => ⟨S3x1536, .f32⟩
  | .hbm, ⟨101, _⟩ => ⟨S16384x1536, .f32⟩
  | .hbm, ⟨102, _⟩ => ⟨S16384x1536, .bf16⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩

abbrev nD : Nat := 1
abbrev τ : Topo := Topo.v7x

variable {F : FTy → Type} [FloatOps F]
-- ==== Proof.Products.lean ====
/-
  Products of matrices, and the squared ReLU of a product: what the step's dense calls compute, over the extended reals.
-/
module

public import Idealize.ShloMosaic.Lib.Pipeline.ValueKit

@[expose] public section

noncomputable section

namespace Cert.Step

open Idealize.ShloMosaic

/-- A matrix of extended reals. -/
abbrev Mat (a b : ℕ) : Type := (⟨2, ![a, b]⟩ : Shape).Idx → EReal

/-- A matrix from its entries. -/
abbrev mat {a b : ℕ} (f : Fin a → Fin b → EReal) : Mat a b := fun i => f (i 0) (i 1)

variable {a b k : ℕ}

/-- `x · w`. -/
def nn (x : Mat a k) (w : Mat k b) (i : Fin a) (j : Fin b) : EReal := ∑ l : Fin k, x (ix2 i l) * w (ix2 l j)

/-- `x · wᵀ`. -/
def nt (x : Mat a k) (w : Mat b k) (i : Fin a) (j : Fin b) : EReal := ∑ l : Fin k, x (ix2 i l) * w (ix2 j l)

/-- `xᵀ · w`. -/
def tn (x : Mat k a) (w : Mat k b) (i : Fin a) (j : Fin b) : EReal := ∑ l : Fin k, x (ix2 l i) * w (ix2 l j)

/-- The feed-forward's hidden layer before its activation: `x · w + b`. -/
def pre (x : Mat a k) (w : Mat k b) (c : Mat 1 b) (i : Fin a) (j : Fin b) : EReal := nn x w i j + c (ix2 0 j)

/-- The squared ReLU of the hidden layer. -/
def act (x : Mat a k) (w : Mat k b) (c : Mat 1 b) (i : Fin a) (j : Fin b) : EReal := max (pre x w c i j) 0 * max (pre x w c i j) 0

/-- The slope's factor, 2. -/
def two : EReal := Ideal.ofBits .f32 0x40000000#32

/-- The cotangent of the hidden layer before its activation, the activation's being `ct · wᵀ`: the squared ReLU's slope at `h` is `2 max(h, 0)`. -/
def dpre {d : ℕ} (ct : Mat a d) (w : Mat b d) (h : Mat a b) (i : Fin a) (j : Fin b) : EReal := nt ct w i j * (two * max (h (ix2 i j)) 0)

/-- One of the three branches' columns of the matrix that holds them side by side. -/
def branch (n : Fin 3) (x : Mat a 3072) : Mat a 1024 := mat fun i j => x (ix2 i ⟨n.val * 1024 + j.val, by omega⟩)

/-- A sum over `n` runs of `w` lanes each is the sum over all `n * w` lanes. -/
theorem sum_runs (n w N : ℕ) (h : N = n * w) (f : Fin N → EReal) (g : Fin n → Fin w → EReal)
    (e : ∀ s l (hl : s.val * w + l.val < N), g s l = f ⟨s.val * w + l.val, hl⟩) :
    ∑ s, ∑ l, g s l = ∑ r, f r :=
  Fin.sum_mul_add_congr (fun s l hl => e s l hl) h

end Cert.Step

end
-- ==== Proof.Adam.lean ====
/-
  The optimiser's step on one entry, over the extended reals: the gradient summed over the devices' parts, the two moments, and
  the weight's change.
-/
module

public import Idealize.ShloMosaic.Lib.Pipeline.ValueKit
public import proofs.«01_k».proof.Proof.Products

@[expose] public section

noncomputable section

namespace Cert.Step

open Idealize.ShloMosaic

/-- The first and the second moment after the step, from the moment before and the gradient. -/
def newM (m g : EReal) : EReal := Ideal.ofBits .f32 0x3F666666#32 * m + Ideal.ofBits .f32 0x3DCCCCCD#32 * g
def newV (v g : EReal) : EReal := Ideal.ofBits .f32 0x3F7FBE77#32 * v + Ideal.ofBits .f32 0x3A83126F#32 * (g * g)

/-- The weight's change, from the weight and the new moments: the moments' bias is divided out, and the weight decays. -/
def delta (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- Eight matrices of extended reals. -/
abbrev Mats (a b : ℕ) : Type := (⟨3, ![8, a, b]⟩ : Shape).Idx → EReal

variable {a b : ℕ}

/-- An entry's gradient: the sum of the eight devices' parts. -/
def total (p : Mats a b) (i : Fin a) (j : Fin b) : EReal := ∑ d : Fin 8, p (ix3 d i j)

/-- The step's four results on a matrix of weights. -/
def stepM (m : Mat a b) (p : Mats a b) (i : Fin a) (j : Fin b) : EReal := newM (m (ix2 i j)) (total p i j)
def stepV (v : Mat a b) (p : Mats a b) (i : Fin a) (j : Fin b) : EReal := newV (v (ix2 i j)) (total p i j)
def stepW (w m v : Mat a b) (p : Mats a b) (i : Fin a) (j : Fin b) : EReal := delta (w (ix2 i j)) (stepM m p i j) (stepV v p i j)

/-- The sum in the order in which the kernels add. -/
theorem total_eq (p : Mats a b) (i : Fin a) (j : Fin b) :
    total p i j = p (ix3 0 i j) + p (ix3 1 i j) + p (ix3 2 i j) + p (ix3 3 i j) + p (ix3 4 i j) + p (ix3 5 i j) + p (ix3 6 i j)
      + p (ix3 7 i j) := Fin.sum_univ_eight _

end Cert.Step

end
-- ==== Proof.AdamReferences.lean ====
/-
  The optimiser's step as the reference's operations give it, entry by entry, for each of the seven packs of weights.
-/
module

public import Idealize.ShloMosaic.Lib.Pipeline.ValueKit
public import Idealize.ShloMosaic.Lib.StableHlo.ReadAt
public import proofs.«01_k».proof.Proof.Adam
public import proofs.«01_k».proof.Proof.Gen.Reference22Ideal.Read
public import proofs.«01_k».proof.Proof.Gen.Reference23Ideal.Read
public import proofs.«01_k».proof.Proof.Gen.Reference24Ideal.Read
public import proofs.«01_k».proof.Proof.Gen.Reference25Ideal.Read
public import proofs.«01_k».proof.Proof.Gen.Reference26Ideal.Read
public import proofs.«01_k».proof.Proof.Gen.Reference27Ideal.Read
public import proofs.«01_k».proof.Proof.Gen.Reference28Ideal.Read

@[expose] public section

set_option maxRecDepth 16384

noncomputable section

open Idealize Idealize.ShloMosaic

namespace Cert.Reference22Ideal

open Read Cert.Step

variable (w m v : Mat 2048 897) (p : Mats 2048 897)

theorem result0 : val_main_v1 (F := Ideal) p = mat (total p) := by
  funext i
  idx_vars i
  pointwise [val_main_v1, val_main_v0, val_main_cst]
  rfl

theorem result2 : val_main_v6 (F := Ideal) m p = mat (stepM m p) := by
  funext i
  idx_vars i
  pointwise [val_main_v6, val_main_v5, val_main_v4, val_main_v3, val_main_v2, val_main_cst_0, val_main_cst_1]
  rw [result0]
  rfl

theorem result3 : val_main_v12 (F := Ideal) v p = mat (stepV v p) := by
  funext i
  idx_vars i
  pointwise [val_main_v12, val_main_v11, val_main_v10, val_main_v9, val_main_v8, val_main_v7, val_main_cst_2, val_main_cst_3]
  rw [result0]
  rfl

theorem result1 : val_main_v25 (F := Ideal) w m v p = mat (stepW w m v p) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [result2, result3]
  rfl

end Cert.Reference22Ideal

namespace Cert.Reference23Ideal

open Read Cert.Step

variable (w m v : Mat 256 1024) (p : Mats 256 1024)

theorem result0 : val_main_v1 (F := Ideal) p = mat (total p) := by
  funext i
  idx_vars i
  pointwise [val_main_v1, val_main_v0, val_main_cst]
  rfl

theorem result2 : val_main_v6 (F := Ideal) m p = mat (stepM m p) := by
  funext i
  idx_vars i
  pointwise [val_main_v6, val_main_v5, val_main_v4, val_main_v3, val_main_v2, val_main_cst_0, val_main_cst_1]
  rw [result0]
  rfl

theorem result3 : val_main_v12 (F := Ideal) v p = mat (stepV v p) := by
  funext i
  idx_vars i
  pointwise [val_main_v12, val_main_v11, val_main_v10, val_main_v9, val_main_v8, val_main_v7, val_main_cst_2, val_main_cst_3]
  rw [result0]
  rfl

theorem result1 : val_main_v25 (F := Ideal) w m v p = mat (stepW w m v p) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [result2, result3]
  rfl

end Cert.Reference23Ideal

namespace Cert.Reference24Ideal

open Read Cert.Step

variable (w m v : Mat 2048 512) (p : Mats 2048 512)

theorem result0 : val_main_v1 (F := Ideal) p = mat (total p) := by
  funext i
  idx_vars i
  pointwise [val_main_v1, val_main_v0, val_main_cst]
  rfl

theorem result2 : val_main_v6 (F := Ideal) m p = mat (stepM m p) := by
  funext i
  idx_vars i
  pointwise [val_main_v6, val_main_v5, val_main_v4, val_main_v3, val_main_v2, val_main_cst_0, val_main_cst_1]
  rw [result0]
  rfl

theorem result3 : val_main_v12 (F := Ideal) v p = mat (stepV v p) := by
  funext i
  idx_vars i
  pointwise [val_main_v12, val_main_v11, val_main_v10, val_main_v9, val_main_v8, val_main_v7, val_main_cst_2, val_main_cst_3]
  rw [result0]
  rfl

theorem result1 : val_main_v25 (F := Ideal) w m v p = mat (stepW w m v p) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [result2, result3]
  rfl

end Cert.Reference24Ideal

namespace Cert.Reference25Ideal

open Read Cert.Step

variable (w m v : Mat 1024 1024) (p : Mats 1024 1024)

theorem result0 : val_main_v1 (F := Ideal) p = mat (total p) := by
  funext i
  idx_vars i
  pointwise [val_main_v1, val_main_v0, val_main_cst]
  rfl

theorem result2 : val_main_v6 (F := Ideal) m p = mat (stepM m p) := by
  funext i
  idx_vars i
  pointwise [val_main_v6, val_main_v5, val_main_v4, val_main_v3, val_main_v2, val_main_cst_0, val_main_cst_1]
  rw [result0]
  rfl

theorem result3 : val_main_v12 (F := Ideal) v p = mat (stepV v p) := by
  funext i
  idx_vars i
  pointwise [val_main_v12, val_main_v11, val_main_v10, val_main_v9, val_main_v8, val_main_v7, val_main_cst_2, val_main_cst_3]
  rw [result0]
  rfl

theorem result1 : val_main_v25 (F := Ideal) w m v p = mat (stepW w m v p) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [result2, result3]
  rfl

end Cert.Reference25Ideal

namespace Cert.Reference26Ideal

open Read Cert.Step

variable (w m v : Mat 3072 128) (p : Mats 3072 128)

theorem result0 : val_main_v1 (F := Ideal) p = mat (total p) := by
  funext i
  idx_vars i
  pointwise [val_main_v1, val_main_v0, val_main_cst]
  rfl

theorem result2 : val_main_v6 (F := Ideal) m p = mat (stepM m p) := by
  funext i
  idx_vars i
  pointwise [val_main_v6, val_main_v5, val_main_v4, val_main_v3, val_main_v2, val_main_cst_0, val_main_cst_1]
  rw [result0]
  rfl

theorem result3 : val_main_v12 (F := Ideal) v p = mat (stepV v p) := by
  funext i
  idx_vars i
  pointwise [val_main_v12, val_main_v11, val_main_v10, val_main_v9, val_main_v8, val_main_v7, val_main_cst_2, val_main_cst_3]
  rw [result0]
  rfl

theorem result1 : val_main_v25 (F := Ideal) w m v p = mat (stepW w m v p) := by
  funext i
  idx_vars i
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [result2, result3]
  rfl

end Cert.Reference26Ideal

namespace Cert.Reference27Ideal

open Read Cert.Step

variable (w m v : Mat 86 64) (p : Mats 86 64)

theorem result0 : val_main_v0 (F := Ideal) p = mat (total p) := by
  funext i
  idx_vars i
  pointwise [val_main_v0, val_main_cst]
  rfl

theorem result2 : val_main_v5 (F := Ideal) m p = mat (stepM m p) := by
  funext i
  idx_vars i
  pointwise [val_main_v5, val_main_v4, val_main_v3, val_main_v2, val_main_v1, val_main_cst_0, val_main_cst_1]
  rw [result0]
  rfl

theorem result3 : val_main_v11 (F := Ideal) v p = mat (stepV v p) := by
  funext i
  idx_vars i
  pointwise [val_main_v11, val_main_v10, val_main_v9, val_main_v8, val_main_v7, val_main_v6, val_main_cst_2, val_main_cst_3]
  rw [result0]
  rfl

theorem result1 : val_main_v24 (F := Ideal) w m v p = mat (stepW w m v p) := by
  funext i
  idx_vars i
  pointwise [val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8]
  rw [result2, result3]
  rfl

end Cert.Reference27Ideal

namespace Cert.Reference28Ideal

open Read Cert.Step

variable (w m v : Mat 1288 128) (p : Mats 1288 128)

theorem result0 : val_main_v0 (F := Ideal) p = mat (total p) := by
  funext i
  idx_vars i
  pointwise [val_main_v0, val_main_cst]
  rfl

theorem result2 : val_main_v5 (F := Ideal) m p = mat (stepM m p) := by
  funext i
  idx_vars i
  pointwise [val_main_v5, val_main_v4, val_main_v3, val_main_v2, val_main_v1, val_main_cst_0, val_main_cst_1]
  rw [result0]
  rfl

theorem result3 : val_main_v11 (F := Ideal) v p = mat (stepV v p) := by
  funext i
  idx_vars i
  pointwise [val_main_v11, val_main_v10, val_main_v9, val_main_v8, val_main_v7, val_main_v6, val_main_cst_2, val_main_cst_3]
  rw [result0]
  rfl

theorem result1 : val_main_v24 (F := Ideal) w m v p = mat (stepW w m v p) := by
  funext i
  idx_vars i
  pointwise [val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8]
  rw [result2, result3]
  rfl

end Cert.Reference28Ideal

end
-- ==== Proof.AdamIn.lean ====
/-
  The optimiser's step on the projections' weight: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel22Ideal.Value

@[expose] public section

set_option maxRecDepth 16384

noncomputable section

namespace Cert.Kernel22Ideal.Adam

open Cert.Kernel22Ideal Cert.Kernel22Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 2048 897 := m ((c : Thread nD τ).loc main_arg0)
abbrev mom (c : Dev nD) : Mat 2048 897 := m ((c : Thread nD τ).loc main_arg1)
abbrev vel (c : Dev nD) : Mat 2048 897 := m ((c : Thread nD τ).loc main_arg2)
abbrev parts (c : Dev nD) : Mats 2048 897 := m ((c : Thread nD τ).loc main_arg3)

/-- The row of the arrays at a point's row. -/
def row (t : Fin cfg0.N) (r : Fin 256) : Fin 2048 := ⟨t.val % 8 * 256 + r.val, by idx_bounds; omega⟩

theorem blk0 (c : Dev nD) (t : Fin cfg0.N) (r : Fin 256) (l : Fin 897) : iblk m c 0 t (ix2 r l) = w m c (ix2 (row t r) l) := by
  have e : ∀ t : Fin cfg0.N, win0_0.index t = ![t.val % 8, 0] := (by decide +kernel : ∀ t : Fin grid0.N, _)
  blk_simp [iblk]
  rw [V_main_arg0]
  unfold row
  blk_ext [e]

theorem blk1 (c : Dev nD) (t : Fin cfg0.N) (r : Fin 256) (l : Fin 897) : iblk m c 1 t (ix2 r l) = mom m c (ix2 (row t r) l) := by
  have e : ∀ t : Fin cfg0.N, win0_1.index t = ![t.val % 8, 0] := (by decide +kernel : ∀ t : Fin grid0.N, _)
  blk_simp [iblk]
  rw [V_main_arg1]
  unfold row
  blk_ext [e]

theorem blk2 (c : Dev nD) (t : Fin cfg0.N) (r : Fin 256) (l : Fin 897) : iblk m c 2 t (ix2 r l) = vel m c (ix2 (row t r) l) := by
  have e : ∀ t : Fin cfg0.N, win0_2.index t = ![t.val % 8, 0] := (by decide +kernel : ∀ t : Fin grid0.N, _)
  blk_simp [iblk]
  rw [V_main_arg2]
  unfold row
  blk_ext [e]

theorem blk3 (c : Dev nD) (t : Fin cfg0.N) (d : Fin 8) (r : Fin 256) (l : Fin 897) :
    iblk m c 3 t (ix3 d r l) = parts m c (ix3 d (row t r) l) := by
  have e : ∀ t : Fin cfg0.N, win0_3.index t = ![0, t.val % 8, 0] := (by decide +kernel : ∀ t : Fin grid0.N, _)
  blk_simp [iblk]
  rw [V_main_arg3]
  unfold row
  blk_ext [e]

theorem grad_tile (c : Dev nD) (t : Fin cfg0.N) (r : Fin 256) (l : Fin 897) :
    k0_pay5 (F := Ideal) (iblk m c 0 t) (iblk m c 1 t) (iblk m c 2 t) (iblk m c 3 t) (ix2 r l) = total (parts m c) (row t r) l := by
  unfold k0_pay5
  pointwise [k0_pay4]
  simp only [blk3, total_eq]

theorem mom_tile (c : Dev nD) (t : Fin cfg0.N) (r : Fin 256) (l : Fin 897) :
    k0_pay1 (F := Ideal) (k0_pay5 (iblk m c 0 t) (iblk m c 1 t) (iblk m c 2 t) (iblk m c 3 t)) (iblk m c 1 t)
        (Ideal.ofBits .f32 0x3F666666#32) (ix2 r l) = stepM (mom m c) (parts m c) (row t r) l := by
  pointwise [k0_pay1]
  rw [grad_tile, blk1]
  rfl

theorem vel_tile (c : Dev nD) (t : Fin cfg0.N) (r : Fin 256) (l : Fin 897) :
    k0_pay2 (F := Ideal) (k0_pay5 (iblk m c 0 t) (iblk m c 1 t) (iblk m c 2 t) (iblk m c 3 t)) (iblk m c 2 t) (ix2 r l)
      = stepV (vel m c) (parts m c) (row t r) l := by
  pointwise [k0_pay2]
  rw [grad_tile, blk2]
  rfl

theorem delta_tile (c : Dev nD) (t : Fin cfg0.N) (r : Fin 256) (l : Fin 897) :
    k0_pay3 (F := Ideal) (k0_pay5 (iblk m c 0 t) (iblk m c 1 t) (iblk m c 2 t) (iblk m c 3 t)) (iblk m c 1 t)
        (Ideal.ofBits .f32 0x3F666666#32) (iblk m c 2 t) (iblk m c 0 t) (ix2 r l)
      = stepW (w m c) (mom m c) (vel m c) (parts m c) (row t r) l := by
  pointwise [k0_pay3]
  rw [mom_tile, vel_tile, blk0]
  rfl

theorem final4 (c : Dev nD) : (dats m 0 c).arrAt 4 cfg0.N = mat (total (parts m c)) := by
  have e : ∀ t : Fin cfg0.N, win0_4.index t = ![t.val % 8, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 8, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 8, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 8, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel22Ideal.Adam

end
-- ==== Proof.AdamO.lean ====
/-
  The optimiser's step on `w_o`: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel23Ideal.Value

@[expose] public section

set_option maxRecDepth 16384

noncomputable section

namespace Cert.Kernel23Ideal.Adam

open Cert.Kernel23Ideal Cert.Kernel23Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 256 1024 := m ((c : Thread nD τ).loc main_arg0)
abbrev mom (c : Dev nD) : Mat 256 1024 := m ((c : Thread nD τ).loc main_arg1)
abbrev vel (c : Dev nD) : Mat 256 1024 := m ((c : Thread nD τ).loc main_arg2)
abbrev parts (c : Dev nD) : Mats 256 1024 := m ((c : Thread nD τ).loc main_arg3)

/-- The row of the arrays at a point's row. -/
def row (t : Fin cfg0.N) (r : Fin 256) : Fin 256 := ⟨t.val % 1 * 256 + r.val, by idx_bounds; omega⟩

theorem blk0 (c : Dev nD) (t : Fin cfg0.N) (r : Fin 256) (l : Fin 1024) : iblk m c 0 t (ix2 r l) = w m c (ix2 (row t r) l) := by
  have e : ∀ t : Fin cfg0.N, win0_0.index t = ![t.val % 1, 0] := (by decide +kernel : ∀ t : Fin grid0.N, _)
  blk_simp [iblk]
  rw [V_main_arg0]
  unfold row
  blk_ext [e]

theorem blk1 (c : Dev nD) (t : Fin cfg0.N) (r : Fin 256) (l : Fin 1024) : iblk m c 1 t (ix2 r l) = mom m c (ix2 (row t r) l) := by
  have e : ∀ t : Fin cfg0.N, win0_1.index t = ![t.val % 1, 0] := (by decide +kernel : ∀ t : Fin grid0.N, _)
  blk_simp [iblk]
  rw [V_main_arg1]
  unfold row
  blk_ext [e]

theorem blk2 (c : Dev nD) (t : Fin cfg0.N) (r : Fin 256) (l : Fin 1024) : iblk m c 2 t (ix2 r l) = vel m c (ix2 (row t r) l) := by
  have e : ∀ t : Fin cfg0.N, win0_2.index t = ![t.val % 1, 0] := (by decide +kernel : ∀ t : Fin grid0.N, _)
  blk_simp [iblk]
  rw [V_main_arg2]
  unfold row
  blk_ext [e]

theorem blk3 (c : Dev nD) (t : Fin cfg0.N) (d : Fin 8) (r : Fin 256) (l : Fin 1024) :
    iblk m c 3 t (ix3 d r l) = parts m c (ix3 d (row t r) l) := by
  have e : ∀ t : Fin cfg0.N, win0_3.index t = ![0, t.val % 1, 0] := (by decide +kernel : ∀ t : Fin grid0.N, _)
  blk_simp [iblk]
  rw [V_main_arg3]
  unfold row
  blk_ext [e]

theorem grad_tile (c : Dev nD) (t : Fin cfg0.N) (r : Fin 256) (l : Fin 1024) :
    k0_pay5 (F := Ideal) (iblk m c 0 t) (iblk m c 1 t) (iblk m c 2 t) (iblk m c 3 t) (ix2 r l) = total (parts m c) (row t r) l := by
  unfold k0_pay5
  pointwise [k0_pay4]
  simp only [blk3, total_eq]

theorem mom_tile (c : Dev nD) (t : Fin cfg0.N) (r : Fin 256) (l : Fin 1024) :
    k0_pay1 (F := Ideal) (k0_pay5 (iblk m c 0 t) (iblk m c 1 t) (iblk m c 2 t) (iblk m c 3 t)) (iblk m c 1 t)
        (Ideal.ofBits .f32 0x3F666666#32) (ix2 r l) = stepM (mom m c) (parts m c) (row t r) l := by
  pointwise [k0_pay1]
  rw [grad_tile, blk1]
  rfl

theorem vel_tile (c : Dev nD) (t : Fin cfg0.N) (r : Fin 256) (l : Fin 1024) :
    k0_pay2 (F := Ideal) (k0_pay5 (iblk m c 0 t) (iblk m c 1 t) (iblk m c 2 t) (iblk m c 3 t)) (iblk m c 2 t) (ix2 r l)
      = stepV (vel m c) (parts m c) (row t r) l := by
  pointwise [k0_pay2]
  rw [grad_tile, blk2]
  rfl

theorem delta_tile (c : Dev nD) (t : Fin cfg0.N) (r : Fin 256) (l : Fin 1024) :
    k0_pay3 (F := Ideal) (k0_pay5 (iblk m c 0 t) (iblk m c 1 t) (iblk m c 2 t) (iblk m c 3 t)) (iblk m c 1 t)
        (Ideal.ofBits .f32 0x3F666666#32) (iblk m c 2 t) (iblk m c 0 t) (ix2 r l)
      = stepW (w m c) (mom m c) (vel m c) (parts m c) (row t r) l := by
  pointwise [k0_pay3]
  rw [mom_tile, vel_tile, blk0]
  rfl

theorem final4 (c : Dev nD) : (dats m 0 c).arrAt 4 cfg0.N = mat (total (parts m c)) := by
  have e : ∀ t : Fin cfg0.N, win0_4.index t = ![t.val % 1, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 1, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 1, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 1, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel23Ideal.Adam

end
-- ==== Proof.AdamFf1.lean ====
/-
  The optimiser's step on `w_ff1`: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel24Ideal.Value

@[expose] public section

set_option maxRecDepth 16384

noncomputable section

namespace Cert.Kernel24Ideal.Adam

open Cert.Kernel24Ideal Cert.Kernel24Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 2048 512 := m ((c : Thread nD τ).loc main_arg0)
abbrev mom (c : Dev nD) : Mat 2048 512 := m ((c : Thread nD τ).loc main_arg1)
abbrev vel (c : Dev nD) : Mat 2048 512 := m ((c : Thread nD τ).loc main_arg2)
abbrev parts (c : Dev nD) : Mats 2048 512 := m ((c : Thread nD τ).loc main_arg3)

/-- The row of the arrays at a point's row. -/
def row (t : Fin cfg0.N) (r : Fin 256) : Fin 2048 := ⟨t.val % 8 * 256 + r.val, by idx_bounds; omega⟩

theorem blk0 (c : Dev nD) (t : Fin cfg0.N) (r : Fin 256) (l : Fin 512) : iblk m c 0 t (ix2 r l) = w m c (ix2 (row t r) l) := by
  have e : ∀ t : Fin cfg0.N, win0_0.index t = ![t.val % 8, 0] := (by decide +kernel : ∀ t : Fin grid0.N, _)
  blk_simp [iblk]
  rw [V_main_arg0]
  unfold row
  blk_ext [e]

theorem blk1 (c : Dev nD) (t : Fin cfg0.N) (r : Fin 256) (l : Fin 512) : iblk m c 1 t (ix2 r l) = mom m c (ix2 (row t r) l) := by
  have e : ∀ t : Fin cfg0.N, win0_1.index t = ![t.val % 8, 0] := (by decide +kernel : ∀ t : Fin grid0.N, _)
  blk_simp [iblk]
  rw [V_main_arg1]
  unfold row
  blk_ext [e]

theorem blk2 (c : Dev nD) (t : Fin cfg0.N) (r : Fin 256) (l : Fin 512) : iblk m c 2 t (ix2 r l) = vel m c (ix2 (row t r) l) := by
  have e : ∀ t : Fin cfg0.N, win0_2.index t = ![t.val % 8, 0] := (by decide +kernel : ∀ t : Fin grid0.N, _)
  blk_simp [iblk]
  rw [V_main_arg2]
  unfold row
  blk_ext [e]

theorem blk3 (c : Dev nD) (t : Fin cfg0.N) (d : Fin 8) (r : Fin 256) (l : Fin 512) :
    iblk m c 3 t (ix3 d r l) = parts m c (ix3 d (row t r) l) := by
  have e : ∀ t : Fin cfg0.N, win0_3.index t = ![0, t.val % 8, 0] := (by decide +kernel : ∀ t : Fin grid0.N, _)
  blk_simp [iblk]
  rw [V_main_arg3]
  unfold row
  blk_ext [e]

theorem grad_tile (c : Dev nD) (t : Fin cfg0.N) (r : Fin 256) (l : Fin 512) :
    k0_pay5 (F := Ideal) (iblk m c 0 t) (iblk m c 1 t) (iblk m c 2 t) (iblk m c 3 t) (ix2 r l) = total (parts m c) (row t r) l := by
  unfold k0_pay5
  pointwise [k0_pay4]
  simp only [blk3, total_eq]

theorem mom_tile (c : Dev nD) (t : Fin cfg0.N) (r : Fin 256) (l : Fin 512) :
    k0_pay1 (F := Ideal) (k0_pay5 (iblk m c 0 t) (iblk m c 1 t) (iblk m c 2 t) (iblk m c 3 t)) (iblk m c 1 t)
        (Ideal.ofBits .f32 0x3F666666#32) (ix2 r l) = stepM (mom m c) (parts m c) (row t r) l := by
  pointwise [k0_pay1]
  rw [grad_tile, blk1]
  rfl

theorem vel_tile (c : Dev nD) (t : Fin cfg0.N) (r : Fin 256) (l : Fin 512) :
    k0_pay2 (F := Ideal) (k0_pay5 (iblk m c 0 t) (iblk m c 1 t) (iblk m c 2 t) (iblk m c 3 t)) (iblk m c 2 t) (ix2 r l)
      = stepV (vel m c) (parts m c) (row t r) l := by
  pointwise [k0_pay2]
  rw [grad_tile, blk2]
  rfl

theorem delta_tile (c : Dev nD) (t : Fin cfg0.N) (r : Fin 256) (l : Fin 512) :
    k0_pay3 (F := Ideal) (k0_pay5 (iblk m c 0 t) (iblk m c 1 t) (iblk m c 2 t) (iblk m c 3 t)) (iblk m c 1 t)
        (Ideal.ofBits .f32 0x3F666666#32) (iblk m c 2 t) (iblk m c 0 t) (ix2 r l)
      = stepW (w m c) (mom m c) (vel m c) (parts m c) (row t r) l := by
  pointwise [k0_pay3]
  rw [mom_tile, vel_tile, blk0]
  rfl

theorem final4 (c : Dev nD) : (dats m 0 c).arrAt 4 cfg0.N = mat (total (parts m c)) := by
  have e : ∀ t : Fin cfg0.N, win0_4.index t = ![t.val % 8, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 8, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 8, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 8, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel24Ideal.Adam

end
-- ==== Proof.AdamFf2.lean ====
/-
  The optimiser's step on `w_ff2`: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel25Ideal.Value

@[expose] public section

set_option maxRecDepth 16384

noncomputable section

namespace Cert.Kernel25Ideal.Adam

open Cert.Kernel25Ideal Cert.Kernel25Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 1024 1024 := m ((c : Thread nD τ).loc main_arg0)
abbrev mom (c : Dev nD) : Mat 1024 1024 := m ((c : Thread nD τ).loc main_arg1)
abbrev vel (c : Dev nD) : Mat 1024 1024 := m ((c : Thread nD τ).loc main_arg2)
abbrev parts (c : Dev nD) : Mats 1024 1024 := m ((c : Thread nD τ).loc main_arg3)

/-- The row of the arrays at a point's row. -/
def row (t : Fin cfg0.N) (r : Fin 256) : Fin 1024 := ⟨t.val % 4 * 256 + r.val, by idx_bounds; omega⟩

theorem blk0 (c : Dev nD) (t : Fin cfg0.N) (r : Fin 256) (l : Fin 1024) : iblk m c 0 t (ix2 r l) = w m c (ix2 (row t r) l) := by
  have e : ∀ t : Fin cfg0.N, win0_0.index t = ![t.val % 4, 0] := (by decide +kernel : ∀ t : Fin grid0.N, _)
  blk_simp [iblk]
  rw [V_main_arg0]
  unfold row
  blk_ext [e]

theorem blk1 (c : Dev nD) (t : Fin cfg0.N) (r : Fin 256) (l : Fin 1024) : iblk m c 1 t (ix2 r l) = mom m c (ix2 (row t r) l) := by
  have e : ∀ t : Fin cfg0.N, win0_1.index t = ![t.val % 4, 0] := (by decide +kernel : ∀ t : Fin grid0.N, _)
  blk_simp [iblk]
  rw [V_main_arg1]
  unfold row
  blk_ext [e]

theorem blk2 (c : Dev nD) (t : Fin cfg0.N) (r : Fin 256) (l : Fin 1024) : iblk m c 2 t (ix2 r l) = vel m c (ix2 (row t r) l) := by
  have e : ∀ t : Fin cfg0.N, win0_2.index t = ![t.val % 4, 0] := (by decide +kernel : ∀ t : Fin grid0.N, _)
  blk_simp [iblk]
  rw [V_main_arg2]
  unfold row
  blk_ext [e]

theorem blk3 (c : Dev nD) (t : Fin cfg0.N) (d : Fin 8) (r : Fin 256) (l : Fin 1024) :
    iblk m c 3 t (ix3 d r l) = parts m c (ix3 d (row t r) l) := by
  have e : ∀ t : Fin cfg0.N, win0_3.index t = ![0, t.val % 4, 0] := (by decide +kernel : ∀ t : Fin grid0.N, _)
  blk_simp [iblk]
  rw [V_main_arg3]
  unfold row
  blk_ext [e]

theorem grad_tile (c : Dev nD) (t : Fin cfg0.N) (r : Fin 256) (l : Fin 1024) :
    k0_pay5 (F := Ideal) (iblk m c 0 t) (iblk m c 1 t) (iblk m c 2 t) (iblk m c 3 t) (ix2 r l) = total (parts m c) (row t r) l := by
  unfold k0_pay5
  pointwise [k0_pay4]
  simp only [blk3, total_eq]

theorem mom_tile (c : Dev nD) (t : Fin cfg0.N) (r : Fin 256) (l : Fin 1024) :
    k0_pay1 (F := Ideal) (k0_pay5 (iblk m c 0 t) (iblk m c 1 t) (iblk m c 2 t) (iblk m c 3 t)) (iblk m c 1 t)
        (Ideal.ofBits .f32 0x3F666666#32) (ix2 r l) = stepM (mom m c) (parts m c) (row t r) l := by
  pointwise [k0_pay1]
  rw [grad_tile, blk1]
  rfl

theorem vel_tile (c : Dev nD) (t : Fin cfg0.N) (r : Fin 256) (l : Fin 1024) :
    k0_pay2 (F := Ideal) (k0_pay5 (iblk m c 0 t) (iblk m c 1 t) (iblk m c 2 t) (iblk m c 3 t)) (iblk m c 2 t) (ix2 r l)
      = stepV (vel m c) (parts m c) (row t r) l := by
  pointwise [k0_pay2]
  rw [grad_tile, blk2]
  rfl

theorem delta_tile (c : Dev nD) (t : Fin cfg0.N) (r : Fin 256) (l : Fin 1024) :
    k0_pay3 (F := Ideal) (k0_pay5 (iblk m c 0 t) (iblk m c 1 t) (iblk m c 2 t) (iblk m c 3 t)) (iblk m c 1 t)
        (Ideal.ofBits .f32 0x3F666666#32) (iblk m c 2 t) (iblk m c 0 t) (ix2 r l)
      = stepW (w m c) (mom m c) (vel m c) (parts m c) (row t r) l := by
  pointwise [k0_pay3]
  rw [mom_tile, vel_tile, blk0]
  rfl

theorem final4 (c : Dev nD) : (dats m 0 c).arrAt 4 cfg0.N = mat (total (parts m c)) := by
  have e : ∀ t : Fin cfg0.N, win0_4.index t = ![t.val % 4, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 4, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 4, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 4, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel25Ideal.Adam

end
-- ==== Proof.AdamProj.lean ====
/-
  The optimiser's step on the branches' output weights: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel26Ideal.Value

@[expose] public section

set_option maxRecDepth 16384

noncomputable section

namespace Cert.Kernel26Ideal.Adam

open Cert.Kernel26Ideal Cert.Kernel26Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 3072 128 := m ((c : Thread nD τ).loc main_arg0)
abbrev mom (c : Dev nD) : Mat 3072 128 := m ((c : Thread nD τ).loc main_arg1)
abbrev vel (c : Dev nD) : Mat 3072 128 := m ((c : Thread nD τ).loc main_arg2)
abbrev parts (c : Dev nD) : Mats 3072 128 := m ((c : Thread nD τ).loc main_arg3)

/-- The row of the arrays at a point's row. -/
def row (t : Fin cfg0.N) (r : Fin 256) : Fin 3072 := ⟨t.val % 12 * 256 + r.val, by idx_bounds; omega⟩

theorem blk0 (c : Dev nD) (t : Fin cfg0.N) (r : Fin 256) (l : Fin 128) : iblk m c 0 t (ix2 r l) = w m c (ix2 (row t r) l) := by
  have e : ∀ t : Fin cfg0.N, win0_0.index t = ![t.val % 12, 0] := (by decide +kernel : ∀ t : Fin grid0.N, _)
  blk_simp [iblk]
  rw [V_main_arg0]
  unfold row
  blk_ext [e]

theorem blk1 (c : Dev nD) (t : Fin cfg0.N) (r : Fin 256) (l : Fin 128) : iblk m c 1 t (ix2 r l) = mom m c (ix2 (row t r) l) := by
  have e : ∀ t : Fin cfg0.N, win0_1.index t = ![t.val % 12, 0] := (by decide +kernel : ∀ t : Fin grid0.N, _)
  blk_simp [iblk]
  rw [V_main_arg1]
  unfold row
  blk_ext [e]

theorem blk2 (c : Dev nD) (t : Fin cfg0.N) (r : Fin 256) (l : Fin 128) : iblk m c 2 t (ix2 r l) = vel m c (ix2 (row t r) l) := by
  have e : ∀ t : Fin cfg0.N, win0_2.index t = ![t.val % 12, 0] := (by decide +kernel : ∀ t : Fin grid0.N, _)
  blk_simp [iblk]
  rw [V_main_arg2]
  unfold row
  blk_ext [e]

theorem blk3 (c : Dev nD) (t : Fin cfg0.N) (d : Fin 8) (r : Fin 256) (l : Fin 128) :
    iblk m c 3 t (ix3 d r l) = parts m c (ix3 d (row t r) l) := by
  have e : ∀ t : Fin cfg0.N, win0_3.index t = ![0, t.val % 12, 0] := (by decide +kernel : ∀ t : Fin grid0.N, _)
  blk_simp [iblk]
  rw [V_main_arg3]
  unfold row
  blk_ext [e]

theorem grad_tile (c : Dev nD) (t : Fin cfg0.N) (r : Fin 256) (l : Fin 128) :
    k0_pay5 (F := Ideal) (iblk m c 0 t) (iblk m c 1 t) (iblk m c 2 t) (iblk m c 3 t) (ix2 r l) = total (parts m c) (row t r) l := by
  unfold k0_pay5
  pointwise [k0_pay4]
  simp only [blk3, total_eq]

theorem mom_tile (c : Dev nD) (t : Fin cfg0.N) (r : Fin 256) (l : Fin 128) :
    k0_pay1 (F := Ideal) (k0_pay5 (iblk m c 0 t) (iblk m c 1 t) (iblk m c 2 t) (iblk m c 3 t)) (iblk m c 1 t)
        (Ideal.ofBits .f32 0x3F666666#32) (ix2 r l) = stepM (mom m c) (parts m c) (row t r) l := by
  pointwise [k0_pay1]
  rw [grad_tile, blk1]
  rfl

theorem vel_tile (c : Dev nD) (t : Fin cfg0.N) (r : Fin 256) (l : Fin 128) :
    k0_pay2 (F := Ideal) (k0_pay5 (iblk m c 0 t) (iblk m c 1 t) (iblk m c 2 t) (iblk m c 3 t)) (iblk m c 2 t) (ix2 r l)
      = stepV (vel m c) (parts m c) (row t r) l := by
  pointwise [k0_pay2]
  rw [grad_tile, blk2]
  rfl

theorem delta_tile (c : Dev nD) (t : Fin cfg0.N) (r : Fin 256) (l : Fin 128) :
    k0_pay3 (F := Ideal) (k0_pay5 (iblk m c 0 t) (iblk m c 1 t) (iblk m c 2 t) (iblk m c 3 t)) (iblk m c 1 t)
        (Ideal.ofBits .f32 0x3F666666#32) (iblk m c 2 t) (iblk m c 0 t) (ix2 r l)
      = stepW (w m c) (mom m c) (vel m c) (parts m c) (row t r) l := by
  pointwise [k0_pay3]
  rw [mom_tile, vel_tile, blk0]
  rfl

theorem final4 (c : Dev nD) : (dats m 0 c).arrAt 4 cfg0.N = mat (total (parts m c)) := by
  have e : ∀ t : Fin cfg0.N, win0_4.index t = ![t.val % 12, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 12, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 12, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 12, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel26Ideal.Adam

end
-- ==== Proof.AdamConv.lean ====
/-
  The optimiser's step on the convolutions' taps: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel27Ideal.Value

@[expose] public section

set_option maxRecDepth 16384

noncomputable section

namespace Cert.Kernel27Ideal.Adam

open Cert.Kernel27Ideal Cert.Kernel27Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 86 64 := m ((c : Thread nD τ).loc main_arg0)
abbrev mom (c : Dev nD) : Mat 86 64 := m ((c : Thread nD τ).loc main_arg1)
abbrev vel (c : Dev nD) : Mat 86 64 := m ((c : Thread nD τ).loc main_arg2)
abbrev parts (c : Dev nD) : Mats 86 64 := m ((c : Thread nD τ).loc main_arg3)

/-- The row of the arrays at a point's row. -/
def row (t : Fin cfg0.N) (r : Fin 86) : Fin 86 := ⟨t.val % 1 * 86 + r.val, by idx_bounds; omega⟩

theorem blk0 (c : Dev nD) (t : Fin cfg0.N) (r : Fin 86) (l : Fin 64) : iblk m c 0 t (ix2 r l) = w m c (ix2 (row t r) l) := by
  have e : ∀ t : Fin cfg0.N, win0_0.index t = ![t.val % 1, 0] := (by decide +kernel : ∀ t : Fin grid0.N, _)
  blk_simp [iblk]
  rw [V_main_arg0]
  unfold row
  blk_ext [e]

theorem blk1 (c : Dev nD) (t : Fin cfg0.N) (r : Fin 86) (l : Fin 64) : iblk m c 1 t (ix2 r l) = mom m c (ix2 (row t r) l) := by
  have e : ∀ t : Fin cfg0.N, win0_1.index t = ![t.val % 1, 0] := (by decide +kernel : ∀ t : Fin grid0.N, _)
  blk_simp [iblk]
  rw [V_main_arg1]
  unfold row
  blk_ext [e]

theorem blk2 (c : Dev nD) (t : Fin cfg0.N) (r : Fin 86) (l : Fin 64) : iblk m c 2 t (ix2 r l) = vel m c (ix2 (row t r) l) := by
  have e : ∀ t : Fin cfg0.N, win0_2.index t = ![t.val % 1, 0] := (by decide +kernel : ∀ t : Fin grid0.N, _)
  blk_simp [iblk]
  rw [V_main_arg2]
  unfold row
  blk_ext [e]

theorem blk3 (c : Dev nD) (t : Fin cfg0.N) (d : Fin 8) (r : Fin 86) (l : Fin 64) :
    iblk m c 3 t (ix3 d r l) = parts m c (ix3 d (row t r) l) := by
  have e : ∀ t : Fin cfg0.N, win0_3.index t = ![0, t.val % 1, 0] := (by decide +kernel : ∀ t : Fin grid0.N, _)
  blk_simp [iblk]
  rw [V_main_arg3]
  unfold row
  blk_ext [e]

theorem grad_tile (c : Dev nD) (t : Fin cfg0.N) (r : Fin 86) (l : Fin 64) :
    k0_pay5 (F := Ideal) (iblk m c 0 t) (iblk m c 1 t) (iblk m c 2 t) (iblk m c 3 t) (ix2 r l) = total (parts m c) (row t r) l := by
  unfold k0_pay5
  pointwise [k0_pay3]
  simp only [blk3, total_eq]

theorem mom_tile (c : Dev nD) (t : Fin cfg0.N) (r : Fin 86) (l : Fin 64) :
    k0_pay6 (F := Ideal) (iblk m c 0 t) (iblk m c 1 t) (iblk m c 2 t) (iblk m c 3 t) (ix2 r l) = stepM (mom m c) (parts m c) (row t r) l := by
  unfold k0_pay6
  frame_out
  pointwise [k0_pay4]
  rw [blk1]
  exact congrArg (newM _) (grad_tile m c t r l)

theorem vel_tile (c : Dev nD) (t : Fin cfg0.N) (r : Fin 86) (l : Fin 64) :
    k0_pay1 (F := Ideal) (k0_pay5 (iblk m c 0 t) (iblk m c 1 t) (iblk m c 2 t) (iblk m c 3 t)) (iblk m c 2 t) (ix2 r l)
      = stepV (vel m c) (parts m c) (row t r) l := by
  pointwise [k0_pay1]
  rw [grad_tile, blk2]
  rfl

theorem delta_tile (c : Dev nD) (t : Fin cfg0.N) (r : Fin 86) (l : Fin 64) :
    k0_pay2 (F := Ideal) (k0_pay5 (iblk m c 0 t) (iblk m c 1 t) (iblk m c 2 t) (iblk m c 3 t))
        (k0_pay6 (iblk m c 0 t) (iblk m c 1 t) (iblk m c 2 t) (iblk m c 3 t)) (iblk m c 2 t) (iblk m c 0 t) (ix2 r l)
      = stepW (w m c) (mom m c) (vel m c) (parts m c) (row t r) l := by
  pointwise [k0_pay2]
  rw [mom_tile, vel_tile, blk0]
  rfl

theorem final4 (c : Dev nD) : (dats m 0 c).arrAt 4 cfg0.N = mat (total (parts m c)) := by
  have e : ∀ t : Fin cfg0.N, win0_4.index t = ![t.val % 1, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 1, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 1, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 1, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel27Ideal.Adam

end
-- ==== Proof.AdamReplicated.lean ====
/-
  The optimiser's step on the weights that every device holds whole: the kernel's four arrays are the gradient, the weight's change and the two
  moments, entry by entry. A point works on its rows.
-/
module

public import Idealize.ShloMosaic.Lib.Pipeline.ValueKit
public import Idealize.ShloMosaic.Lib.StableHlo.ReadAt
public import proofs.«01_k».proof.Proof.Adam
public import proofs.«01_k».proof.Proof.Gen.Kernel28Ideal.Value

@[expose] public section

set_option maxRecDepth 16384

noncomputable section

namespace Cert.Kernel28Ideal.Adam

open Cert.Kernel28Ideal Cert.Kernel28Ideal.Gen Cert.Step
open Idealize Idealize.ShloMosaic Idealize.ShloMosaic.TcCoe Idealize.SL Idealize.SL.Sem

variable (m : (ℓ : Loc nD τ sig) → Buf (Elt Ideal) ℓ)

abbrev w (c : Dev nD) : Mat 1288 128 := m ((c : Thread nD τ).loc main_arg0)
abbrev mom (c : Dev nD) : Mat 1288 128 := m ((c : Thread nD τ).loc main_arg1)
abbrev vel (c : Dev nD) : Mat 1288 128 := m ((c : Thread nD τ).loc main_arg2)
abbrev parts (c : Dev nD) : Mats 1288 128 := m ((c : Thread nD τ).loc main_arg3)

/-- The row of the arrays at a point's row. -/
def row (t : Fin cfg0.N) (r : Fin 1288) : Fin 1288 := ⟨t.val % 1 * 1288 + r.val, by idx_bounds; omega⟩

theorem blk0 (c : Dev nD) (t : Fin cfg0.N) (r : Fin 1288) (l : Fin 128) : iblk m c 0 t (ix2 r l) = w m c (ix2 (row t r) l) := by
  have e : ∀ t : Fin cfg0.N, win0_0.index t = ![t.val % 1, 0] := (by decide +kernel : ∀ t : Fin grid0.N, _)
  blk_simp [iblk]
  rw [V_main_arg0]
  unfold row
  blk_ext [e]

theorem blk1 (c : Dev nD) (t : Fin cfg0.N) (r : Fin 1288) (l : Fin 128) : iblk m c 1 t (ix2 r l) = mom m c (ix2 (row t r) l) := by
  have e : ∀ t : Fin cfg0.N, win0_1.index t = ![t.val % 1, 0] := (by decide +kernel : ∀ t : Fin grid0.N, _)
  blk_simp [iblk]
  rw [V_main_arg1]
  unfold row
  blk_ext [e]

theorem blk2 (c : Dev nD) (t : Fin cfg0.N) (r : Fin 1288) (l : Fin 128) : iblk m c 2 t (ix2 r l) = vel m c (ix2 (row t r) l) := by
  have e : ∀ t : Fin cfg0.N, win0_2.index t = ![t.val % 1, 0] := (by decide +kernel : ∀ t : Fin grid0.N, _)
  blk_simp [iblk]
  rw [V_main_arg2]
  unfold row
  blk_ext [e]

theorem blk3 (c : Dev nD) (t : Fin cfg0.N) (d : Fin 8) (r : Fin 1288) (l : Fin 128) :
    iblk m c 3 t (ix3 d r l) = parts m c (ix3 d (row t r) l) := by
  have e : ∀ t : Fin cfg0.N, win0_3.index t = ![0, t.val % 1, 0] := (by decide +kernel : ∀ t : Fin grid0.N, _)
  blk_simp [iblk]
  rw [V_main_arg3]
  unfold row
  blk_ext [e]

theorem grad_tile (c : Dev nD) (t : Fin cfg0.N) (r : Fin 1288) (l : Fin 128) :
    k0_pay5 (F := Ideal) (iblk m c 0 t) (iblk m c 1 t) (iblk m c 2 t) (iblk m c 3 t) (ix2 r l) = total (parts m c) (row t r) l := by
  unfold k0_pay5
  pointwise [k0_pay3]
  simp only [blk3, total_eq]

theorem mom_tile (c : Dev nD) (t : Fin cfg0.N) (r : Fin 1288) (l : Fin 128) :
    k0_pay6 (F := Ideal) (iblk m c 0 t) (iblk m c 1 t) (iblk m c 2 t) (iblk m c 3 t) (ix2 r l) = stepM (mom m c) (parts m c) (row t r) l := by
  unfold k0_pay6
  frame_out
  pointwise [k0_pay4]
  rw [blk1]
  exact congrArg (newM _) (grad_tile m c t r l)

theorem vel_tile (c : Dev nD) (t : Fin cfg0.N) (r : Fin 1288) (l : Fin 128) :
    k0_pay1 (F := Ideal) (k0_pay5 (iblk m c 0 t) (iblk m c 1 t) (iblk m c 2 t) (iblk m c 3 t)) (iblk m c 2 t) (ix2 r l)
      = stepV (vel m c) (parts m c) (row t r) l := by
  pointwise [k0_pay1]
  rw [grad_tile, blk2]
  rfl

theorem delta_tile (c : Dev nD) (t : Fin cfg0.N) (r : Fin 1288) (l : Fin 128) :
    k0_pay2 (F := Ideal) (k0_pay5 (iblk m c 0 t) (iblk m c 1 t) (iblk m c 2 t) (iblk m c 3 t))
        (k0_pay6 (iblk m c 0 t) (iblk m c 1 t) (iblk m c 2 t) (iblk m c 3 t)) (iblk m c 2 t) (iblk m c 0 t) (ix2 r l)
      = stepW (w m c) (mom m c) (vel m c) (parts m c) (row t r) l := by
  pointwise [k0_pay2]
  rw [mom_tile, vel_tile, blk0]
  rfl

theorem final4 (c : Dev nD) : (dats m 0 c).arrAt 4 cfg0.N = mat (total (parts m c)) := by
  have e : ∀ t : Fin cfg0.N, win0_4.index t = ![t.val % 1, 0] := (by decide +kernel : ∀ t : Fin grid0.N, _)
  refine (dats m 0 c).arrAt_eq_of_covers 4 _ (by decide +kernel) fun t hf j => ?_
  blk_simp
  rw [after0_4]
  idx_vars j
  frame_out
  refine (grad_tile m c t _ _).trans (congrArg₂ (total (parts m c)) (Fin.ext ?_) (Fin.ext ?_))
  all_goals blk_simp [e, row]

theorem final5 (c : Dev nD) : (dats m 0 c).arrAt 5 cfg0.N = mat (stepW (w m c) (mom m c) (vel m c) (parts m c)) := by
  have e : ∀ t : Fin cfg0.N, win0_5.index t = ![t.val % 1, 0] := (by decide +kernel : ∀ t : Fin grid0.N, _)
  refine (dats m 0 c).arrAt_eq_of_covers 5 _ (by decide +kernel) fun t hf j => ?_
  blk_simp
  rw [after0_5]
  idx_vars j
  frame_out
  refine (delta_tile m c t _ _).trans (congrArg₂ (stepW (w m c) (mom m c) (vel m c) (parts m c)) (Fin.ext ?_) (Fin.ext ?_))
  all_goals blk_simp [e, row]

theorem final6 (c : Dev nD) : (dats m 0 c).arrAt 6 cfg0.N = mat (stepM (mom m c) (parts m c)) := by
  have e : ∀ t : Fin cfg0.N, win0_6.index t = ![t.val % 1, 0] := (by decide +kernel : ∀ t : Fin grid0.N, _)
  refine (dats m 0 c).arrAt_eq_of_covers 6 _ (by decide +kernel) fun t hf j => ?_
  blk_simp
  rw [after0_6]
  idx_vars j
  frame_out
  refine (mom_tile m c t _ _).trans (congrArg₂ (stepM (mom m c) (parts m c)) (Fin.ext ?_) (Fin.ext ?_))
  all_goals blk_simp [e, row]

theorem final7 (c : Dev nD) : (dats m 0 c).arrAt 7 cfg0.N = mat (stepV (vel m c) (parts m c)) := by
  have e : ∀ t : Fin cfg0.N, win0_7.index t = ![t.val % 1, 0] := (by decide +kernel : ∀ t : Fin grid0.N, _)
  refine (dats m 0 c).arrAt_eq_of_covers 7 _ (by decide +kernel) fun t hf j => ?_
  blk_simp
  rw [after0_7]
  idx_vars j
  frame_out
  refine (vel_tile m c t _ _).trans (congrArg₂ (stepV (vel m c) (parts m c)) (Fin.ext ?_) (Fin.ext ?_))
  all_goals blk_simp [e, row]

end Cert.Kernel28Ideal.Adam

end
-- ==== Proof.AdamClaims.lean ====
/-
  The claims about the optimiser's steps: the references' frames, and that each kernel's four arrays are its reference's.
-/
module

public import proofs.«01_k».proof.Defs
public import proofs.«01_k».proof.Proof.AdamReferences
public import proofs.«01_k».proof.Proof.AdamIn
public import proofs.«01_k».proof.Proof.Gen.Reference22Ideal.Run
public import proofs.«01_k».proof.Proof.AdamO
public import proofs.«01_k».proof.Proof.Gen.Reference23Ideal.Run
public import proofs.«01_k».proof.Proof.AdamFf1
public import proofs.«01_k».proof.Proof.Gen.Reference24Ideal.Run
public import proofs.«01_k».proof.Proof.AdamFf2
public import proofs.«01_k».proof.Proof.Gen.Reference25Ideal.Run
public import proofs.«01_k».proof.Proof.AdamProj
public import proofs.«01_k».proof.Proof.Gen.Reference26Ideal.Run
public import proofs.«01_k».proof.Proof.AdamConv
public import proofs.«01_k».proof.Proof.Gen.Reference27Ideal.Run
public import proofs.«01_k».proof.Proof.AdamReplicated
public import proofs.«01_k».proof.Proof.Gen.Reference28Ideal.Run
public import Idealize.ShloMosaic.Adequacy
public import Idealize.ShloMosaic.Init

@[expose] public section

noncomputable section

namespace Cert.Proof

open Idealize Idealize.ShloMosaic Idealize.SL.Sem Cert.Step

/-! ## The step on the projections' weight -/

section

attribute [local instance] Cert.Kernel22Ideal.Gen.facts Cert.Reference22Ideal.Gen.facts

theorem frame_reference22 : Cert.quiescent_Reference22Ideal := fun m ρ _ =>
  (θ_run Cert.Reference22Ideal.defs _ _).mono
    (fun r h => ⟨fun c => (h c).2.2.2.2, sem_eq_zero_of_no_sems (by decide) r.2⟩) (Cert.Reference22Ideal.Value.run m ρ)

theorem algebraic22 : Cert.algebraic_Kernel22Ideal_Reference22Ideal := fun m ρ m' ρ' _ hag => by
  refine ⟨fun c => mat (total (Cert.Kernel22Ideal.Adam.parts m c)),
    fun c => mat (stepW (Cert.Kernel22Ideal.Adam.w m c) (Cert.Kernel22Ideal.Adam.mom m c) (Cert.Kernel22Ideal.Adam.vel m c) (Cert.Kernel22Ideal.Adam.parts m c)),
    fun c => mat (stepM (Cert.Kernel22Ideal.Adam.mom m c) (Cert.Kernel22Ideal.Adam.parts m c)),
    fun c => mat (stepV (Cert.Kernel22Ideal.Adam.vel m c) (Cert.Kernel22Ideal.Adam.parts m c)),
    (θ_run Cert.Kernel22Ideal.defs _ _).mono (fun r h c => ⟨(h c).1.trans (Cert.Kernel22Ideal.Adam.final4 m c),
      (h c).2.1.trans (Cert.Kernel22Ideal.Adam.final5 m c), (h c).2.2.1.trans (Cert.Kernel22Ideal.Adam.final6 m c),
      (h c).2.2.2.1.trans (Cert.Kernel22Ideal.Adam.final7 m c), (h c).2.2.2.2⟩)
      (Cert.Kernel22Ideal.Value.run_blocks m ρ),
    (θ_run Cert.Reference22Ideal.defs _ _).mono (fun r h c => ⟨(h c).1.trans ?_, (h c).2.1.trans ?_, (h c).2.2.1.trans ?_, (h c).2.2.2.1.trans ?_,
      (h c).2.2.2.2⟩) (Cert.Reference22Ideal.Value.run m' ρ')⟩
  all_goals
    obtain ⟨h0, h1, h2, h3⟩ := hag c
  · rw [h3]
    exact (Cert.Reference22Ideal.Read.val_main_v1_eq ..).trans (Cert.Reference22Ideal.result0 _)
  · rw [h0, h1, h2, h3]
    exact (Cert.Reference22Ideal.Read.val_main_v25_eq ..).trans (Cert.Reference22Ideal.result1 _ _ _ _)
  · rw [h1, h3]
    exact (Cert.Reference22Ideal.Read.val_main_v6_eq ..).trans (Cert.Reference22Ideal.result2 _ _)
  · rw [h2, h3]
    exact (Cert.Reference22Ideal.Read.val_main_v12_eq ..).trans (Cert.Reference22Ideal.result3 _ _)

end

/-! ## The step on `w_o` -/

section

attribute [local instance] Cert.Kernel23Ideal.Gen.facts Cert.Reference23Ideal.Gen.facts

theorem frame_reference23 : Cert.quiescent_Reference23Ideal := fun m ρ _ =>
  (θ_run Cert.Reference23Ideal.defs _ _).mono
    (fun r h => ⟨fun c => (h c).2.2.2.2, sem_eq_zero_of_no_sems (by decide) r.2⟩) (Cert.Reference23Ideal.Value.run m ρ)

theorem algebraic23 : Cert.algebraic_Kernel23Ideal_Reference23Ideal := fun m ρ m' ρ' _ hag => by
  refine ⟨fun c => mat (total (Cert.Kernel23Ideal.Adam.parts m c)),
    fun c => mat (stepW (Cert.Kernel23Ideal.Adam.w m c) (Cert.Kernel23Ideal.Adam.mom m c) (Cert.Kernel23Ideal.Adam.vel m c) (Cert.Kernel23Ideal.Adam.parts m c)),
    fun c => mat (stepM (Cert.Kernel23Ideal.Adam.mom m c) (Cert.Kernel23Ideal.Adam.parts m c)),
    fun c => mat (stepV (Cert.Kernel23Ideal.Adam.vel m c) (Cert.Kernel23Ideal.Adam.parts m c)),
    (θ_run Cert.Kernel23Ideal.defs _ _).mono (fun r h c => ⟨(h c).1.trans (Cert.Kernel23Ideal.Adam.final4 m c),
      (h c).2.1.trans (Cert.Kernel23Ideal.Adam.final5 m c), (h c).2.2.1.trans (Cert.Kernel23Ideal.Adam.final6 m c),
      (h c).2.2.2.1.trans (Cert.Kernel23Ideal.Adam.final7 m c), (h c).2.2.2.2⟩)
      (Cert.Kernel23Ideal.Value.run_blocks m ρ),
    (θ_run Cert.Reference23Ideal.defs _ _).mono (fun r h c => ⟨(h c).1.trans ?_, (h c).2.1.trans ?_, (h c).2.2.1.trans ?_, (h c).2.2.2.1.trans ?_,
      (h c).2.2.2.2⟩) (Cert.Reference23Ideal.Value.run m' ρ')⟩
  all_goals
    obtain ⟨h0, h1, h2, h3⟩ := hag c
  · rw [h3]
    exact (Cert.Reference23Ideal.Read.val_main_v1_eq ..).trans (Cert.Reference23Ideal.result0 _)
  · rw [h0, h1, h2, h3]
    exact (Cert.Reference23Ideal.Read.val_main_v25_eq ..).trans (Cert.Reference23Ideal.result1 _ _ _ _)
  · rw [h1, h3]
    exact (Cert.Reference23Ideal.Read.val_main_v6_eq ..).trans (Cert.Reference23Ideal.result2 _ _)
  · rw [h2, h3]
    exact (Cert.Reference23Ideal.Read.val_main_v12_eq ..).trans (Cert.Reference23Ideal.result3 _ _)

end

/-! ## The step on `w_ff1` -/

section

attribute [local instance] Cert.Kernel24Ideal.Gen.facts Cert.Reference24Ideal.Gen.facts

theorem frame_reference24 : Cert.quiescent_Reference24Ideal := fun m ρ _ =>
  (θ_run Cert.Reference24Ideal.defs _ _).mono
    (fun r h => ⟨fun c => (h c).2.2.2.2, sem_eq_zero_of_no_sems (by decide) r.2⟩) (Cert.Reference24Ideal.Value.run m ρ)

theorem algebraic24 : Cert.algebraic_Kernel24Ideal_Reference24Ideal := fun m ρ m' ρ' _ hag => by
  refine ⟨fun c => mat (total (Cert.Kernel24Ideal.Adam.parts m c)),
    fun c => mat (stepW (Cert.Kernel24Ideal.Adam.w m c) (Cert.Kernel24Ideal.Adam.mom m c) (Cert.Kernel24Ideal.Adam.vel m c) (Cert.Kernel24Ideal.Adam.parts m c)),
    fun c => mat (stepM (Cert.Kernel24Ideal.Adam.mom m c) (Cert.Kernel24Ideal.Adam.parts m c)),
    fun c => mat (stepV (Cert.Kernel24Ideal.Adam.vel m c) (Cert.Kernel24Ideal.Adam.parts m c)),
    (θ_run Cert.Kernel24Ideal.defs _ _).mono (fun r h c => ⟨(h c).1.trans (Cert.Kernel24Ideal.Adam.final4 m c),
      (h c).2.1.trans (Cert.Kernel24Ideal.Adam.final5 m c), (h c).2.2.1.trans (Cert.Kernel24Ideal.Adam.final6 m c),
      (h c).2.2.2.1.trans (Cert.Kernel24Ideal.Adam.final7 m c), (h c).2.2.2.2⟩)
      (Cert.Kernel24Ideal.Value.run_blocks m ρ),
    (θ_run Cert.Reference24Ideal.defs _ _).mono (fun r h c => ⟨(h c).1.trans ?_, (h c).2.1.trans ?_, (h c).2.2.1.trans ?_, (h c).2.2.2.1.trans ?_,
      (h c).2.2.2.2⟩) (Cert.Reference24Ideal.Value.run m' ρ')⟩
  all_goals
    obtain ⟨h0, h1, h2, h3⟩ := hag c
  · rw [h3]
    exact (Cert.Reference24Ideal.Read.val_main_v1_eq ..).trans (Cert.Reference24Ideal.result0 _)
  · rw [h0, h1, h2, h3]
    exact (Cert.Reference24Ideal.Read.val_main_v25_eq ..).trans (Cert.Reference24Ideal.result1 _ _ _ _)
  · rw [h1, h3]
    exact (Cert.Reference24Ideal.Read.val_main_v6_eq ..).trans (Cert.Reference24Ideal.result2 _ _)
  · rw [h2, h3]
    exact (Cert.Reference24Ideal.Read.val_main_v12_eq ..).trans (Cert.Reference24Ideal.result3 _ _)

end

/-! ## The step on `w_ff2` -/

section

attribute [local instance] Cert.Kernel25Ideal.Gen.facts Cert.Reference25Ideal.Gen.facts

theorem frame_reference25 : Cert.quiescent_Reference25Ideal := fun m ρ _ =>
  (θ_run Cert.Reference25Ideal.defs _ _).mono
    (fun r h => ⟨fun c => (h c).2.2.2.2, sem_eq_zero_of_no_sems (by decide) r.2⟩) (Cert.Reference25Ideal.Value.run m ρ)

theorem algebraic25 : Cert.algebraic_Kernel25Ideal_Reference25Ideal := fun m ρ m' ρ' _ hag => by
  refine ⟨fun c => mat (total (Cert.Kernel25Ideal.Adam.parts m c)),
    fun c => mat (stepW (Cert.Kernel25Ideal.Adam.w m c) (Cert.Kernel25Ideal.Adam.mom m c) (Cert.Kernel25Ideal.Adam.vel m c) (Cert.Kernel25Ideal.Adam.parts m c)),
    fun c => mat (stepM (Cert.Kernel25Ideal.Adam.mom m c) (Cert.Kernel25Ideal.Adam.parts m c)),
    fun c => mat (stepV (Cert.Kernel25Ideal.Adam.vel m c) (Cert.Kernel25Ideal.Adam.parts m c)),
    (θ_run Cert.Kernel25Ideal.defs _ _).mono (fun r h c => ⟨(h c).1.trans (Cert.Kernel25Ideal.Adam.final4 m c),
      (h c).2.1.trans (Cert.Kernel25Ideal.Adam.final5 m c), (h c).2.2.1.trans (Cert.Kernel25Ideal.Adam.final6 m c),
      (h c).2.2.2.1.trans (Cert.Kernel25Ideal.Adam.final7 m c), (h c).2.2.2.2⟩)
      (Cert.Kernel25Ideal.Value.run_blocks m ρ),
    (θ_run Cert.Reference25Ideal.defs _ _).mono (fun r h c => ⟨(h c).1.trans ?_, (h c).2.1.trans ?_, (h c).2.2.1.trans ?_, (h c).2.2.2.1.trans ?_,
      (h c).2.2.2.2⟩) (Cert.Reference25Ideal.Value.run m' ρ')⟩
  all_goals
    obtain ⟨h0, h1, h2, h3⟩ := hag c
  · rw [h3]
    exact (Cert.Reference25Ideal.Read.val_main_v1_eq ..).trans (Cert.Reference25Ideal.result0 _)
  · rw [h0, h1, h2, h3]
    exact (Cert.Reference25Ideal.Read.val_main_v25_eq ..).trans (Cert.Reference25Ideal.result1 _ _ _ _)
  · rw [h1, h3]
    exact (Cert.Reference25Ideal.Read.val_main_v6_eq ..).trans (Cert.Reference25Ideal.result2 _ _)
  · rw [h2, h3]
    exact (Cert.Reference25Ideal.Read.val_main_v12_eq ..).trans (Cert.Reference25Ideal.result3 _ _)

end

/-! ## The step on the branches' output weights -/

section

attribute [local instance] Cert.Kernel26Ideal.Gen.facts Cert.Reference26Ideal.Gen.facts

theorem frame_reference26 : Cert.quiescent_Reference26Ideal := fun m ρ _ =>
  (θ_run Cert.Reference26Ideal.defs _ _).mono
    (fun r h => ⟨fun c => (h c).2.2.2.2, sem_eq_zero_of_no_sems (by decide) r.2⟩) (Cert.Reference26Ideal.Value.run m ρ)

theorem algebraic26 : Cert.algebraic_Kernel26Ideal_Reference26Ideal := fun m ρ m' ρ' _ hag => by
  refine ⟨fun c => mat (total (Cert.Kernel26Ideal.Adam.parts m c)),
    fun c => mat (stepW (Cert.Kernel26Ideal.Adam.w m c) (Cert.Kernel26Ideal.Adam.mom m c) (Cert.Kernel26Ideal.Adam.vel m c) (Cert.Kernel26Ideal.Adam.parts m c)),
    fun c => mat (stepM (Cert.Kernel26Ideal.Adam.mom m c) (Cert.Kernel26Ideal.Adam.parts m c)),
    fun c => mat (stepV (Cert.Kernel26Ideal.Adam.vel m c) (Cert.Kernel26Ideal.Adam.parts m c)),
    (θ_run Cert.Kernel26Ideal.defs _ _).mono (fun r h c => ⟨(h c).1.trans (Cert.Kernel26Ideal.Adam.final4 m c),
      (h c).2.1.trans (Cert.Kernel26Ideal.Adam.final5 m c), (h c).2.2.1.trans (Cert.Kernel26Ideal.Adam.final6 m c),
      (h c).2.2.2.1.trans (Cert.Kernel26Ideal.Adam.final7 m c), (h c).2.2.2.2⟩)
      (Cert.Kernel26Ideal.Value.run_blocks m ρ),
    (θ_run Cert.Reference26Ideal.defs _ _).mono (fun r h c => ⟨(h c).1.trans ?_, (h c).2.1.trans ?_, (h c).2.2.1.trans ?_, (h c).2.2.2.1.trans ?_,
      (h c).2.2.2.2⟩) (Cert.Reference26Ideal.Value.run m' ρ')⟩
  all_goals
    obtain ⟨h0, h1, h2, h3⟩ := hag c
  · rw [h3]
    exact (Cert.Reference26Ideal.Read.val_main_v1_eq ..).trans (Cert.Reference26Ideal.result0 _)
  · rw [h0, h1, h2, h3]
    exact (Cert.Reference26Ideal.Read.val_main_v25_eq ..).trans (Cert.Reference26Ideal.result1 _ _ _ _)
  · rw [h1, h3]
    exact (Cert.Reference26Ideal.Read.val_main_v6_eq ..).trans (Cert.Reference26Ideal.result2 _ _)
  · rw [h2, h3]
    exact (Cert.Reference26Ideal.Read.val_main_v12_eq ..).trans (Cert.Reference26Ideal.result3 _ _)

end

/-! ## The step on the convolutions' taps -/

section

attribute [local instance] Cert.Kernel27Ideal.Gen.facts Cert.Reference27Ideal.Gen.facts

theorem frame_reference27 : Cert.quiescent_Reference27Ideal := fun m ρ _ =>
  (θ_run Cert.Reference27Ideal.defs _ _).mono
    (fun r h => ⟨fun c => (h c).2.2.2.2, sem_eq_zero_of_no_sems (by decide) r.2⟩) (Cert.Reference27Ideal.Value.run m ρ)

theorem algebraic27 : Cert.algebraic_Kernel27Ideal_Reference27Ideal := fun m ρ m' ρ' _ hag => by
  refine ⟨fun c => mat (total (Cert.Kernel27Ideal.Adam.parts m c)),
    fun c => mat (stepW (Cert.Kernel27Ideal.Adam.w m c) (Cert.Kernel27Ideal.Adam.mom m c) (Cert.Kernel27Ideal.Adam.vel m c) (Cert.Kernel27Ideal.Adam.parts m c)),
    fun c => mat (stepM (Cert.Kernel27Ideal.Adam.mom m c) (Cert.Kernel27Ideal.Adam.parts m c)),
    fun c => mat (stepV (Cert.Kernel27Ideal.Adam.vel m c) (Cert.Kernel27Ideal.Adam.parts m c)),
    (θ_run Cert.Kernel27Ideal.defs _ _).mono (fun r h c => ⟨(h c).1.trans (Cert.Kernel27Ideal.Adam.final4 m c),
      (h c).2.1.trans (Cert.Kernel27Ideal.Adam.final5 m c), (h c).2.2.1.trans (Cert.Kernel27Ideal.Adam.final6 m c),
      (h c).2.2.2.1.trans (Cert.Kernel27Ideal.Adam.final7 m c), (h c).2.2.2.2⟩)
      (Cert.Kernel27Ideal.Value.run_blocks m ρ),
    (θ_run Cert.Reference27Ideal.defs _ _).mono (fun r h c => ⟨(h c).1.trans ?_, (h c).2.1.trans ?_, (h c).2.2.1.trans ?_, (h c).2.2.2.1.trans ?_,
      (h c).2.2.2.2⟩) (Cert.Reference27Ideal.Value.run m' ρ')⟩
  all_goals
    obtain ⟨h0, h1, h2, h3⟩ := hag c
  · rw [h3]
    exact (Cert.Reference27Ideal.Read.val_main_v0_eq ..).trans (Cert.Reference27Ideal.result0 _)
  · rw [h0, h1, h2, h3]
    exact (Cert.Reference27Ideal.Read.val_main_v24_eq ..).trans (Cert.Reference27Ideal.result1 _ _ _ _)
  · rw [h1, h3]
    exact (Cert.Reference27Ideal.Read.val_main_v5_eq ..).trans (Cert.Reference27Ideal.result2 _ _)
  · rw [h2, h3]
    exact (Cert.Reference27Ideal.Read.val_main_v11_eq ..).trans (Cert.Reference27Ideal.result3 _ _)

end

/-! ## The step on the weights that every device holds whole -/

section

attribute [local instance] Cert.Kernel28Ideal.Gen.facts Cert.Reference28Ideal.Gen.facts

theorem frame_reference28 : Cert.quiescent_Reference28Ideal := fun m ρ _ =>
  (θ_run Cert.Reference28Ideal.defs _ _).mono
    (fun r h => ⟨fun c => (h c).2.2.2.2, sem_eq_zero_of_no_sems (by decide) r.2⟩) (Cert.Reference28Ideal.Value.run m ρ)

theorem algebraic28 : Cert.algebraic_Kernel28Ideal_Reference28Ideal := fun m ρ m' ρ' _ hag => by
  refine ⟨fun c => mat (total (Cert.Kernel28Ideal.Adam.parts m c)),
    fun c => mat (stepW (Cert.Kernel28Ideal.Adam.w m c) (Cert.Kernel28Ideal.Adam.mom m c) (Cert.Kernel28Ideal.Adam.vel m c) (Cert.Kernel28Ideal.Adam.parts m c)),
    fun c => mat (stepM (Cert.Kernel28Ideal.Adam.mom m c) (Cert.Kernel28Ideal.Adam.parts m c)),
    fun c => mat (stepV (Cert.Kernel28Ideal.Adam.vel m c) (Cert.Kernel28Ideal.Adam.parts m c)),
    (θ_run Cert.Kernel28Ideal.defs _ _).mono (fun r h c => ⟨(h c).1.trans (Cert.Kernel28Ideal.Adam.final4 m c),
      (h c).2.1.trans (Cert.Kernel28Ideal.Adam.final5 m c), (h c).2.2.1.trans (Cert.Kernel28Ideal.Adam.final6 m c),
      (h c).2.2.2.1.trans (Cert.Kernel28Ideal.Adam.final7 m c), (h c).2.2.2.2⟩)
      (Cert.Kernel28Ideal.Value.run_blocks m ρ),
    (θ_run Cert.Reference28Ideal.defs _ _).mono (fun r h c => ⟨(h c).1.trans ?_, (h c).2.1.trans ?_, (h c).2.2.1.trans ?_, (h c).2.2.2.1.trans ?_,
      (h c).2.2.2.2⟩) (Cert.Reference28Ideal.Value.run m' ρ')⟩
  all_goals
    obtain ⟨h0, h1, h2, h3⟩ := hag c
  · rw [h3]
    exact (Cert.Reference28Ideal.Read.val_main_v0_eq ..).trans (Cert.Reference28Ideal.result0 _)
  · rw [h0, h1, h2, h3]
    exact (Cert.Reference28Ideal.Read.val_main_v24_eq ..).trans (Cert.Reference28Ideal.result1 _ _ _ _)
  · rw [h1, h3]
    exact (Cert.Reference28Ideal.Read.val_main_v5_eq ..).trans (Cert.Reference28Ideal.result2 _ _)
  · rw [h2, h3]
    exact (Cert.Reference28Ideal.Read.val_main_v11_eq ..).trans (Cert.Reference28Ideal.result3 _ _)

end

end Cert.Proof

end
-- ==== Proof.MergeSpec.lean ====
/-
  The gated merge: what each of the backward's six results and of the forward's two holds at an index, as a function of the
  arguments over the extended reals. The kernel's blocks (MergeBlocks.lean) and the reference's operations (MergeReference.lean) are both
  read to these.

  The merge multiplies three branches `y_a`, `y_b`, `y_c` (each a product of a branch's activations with its output
  weights) by gates `σ(logit + bias)`, adds the three up and multiplies by `w_o`. The three branches' columns stand side
  by side: column `q < 3072` belongs to branch `q / 1024`.
-/
module

public import Idealize.ShloMosaic.Lib.Pointwise

@[expose] public section

noncomputable section

open Idealize.ShloMosaic

namespace Cert.Merge

/-- A matrix of extended reals, as the programs' arrays are indexed. -/
abbrev Mat (a b : ℕ) := (⟨2, ![a, b]⟩ : Shape).Idx → EReal

/-- The backward's ten arguments. The forward has no cotangent and does not multiply by `w_o`: those two are then zero. -/
structure Args where
  dr : Mat 16384 1024
  p : Mat 16384 7296
  ha : Mat 16384 512
  hb : Mat 16384 512
  hc : Mat 16384 512
  bg : Mat 1 3072
  wa : Mat 512 1024
  wb : Mat 512 1024
  wc : Mat 512 1024
  wo : Mat 1024 1024

/-- One branch's product, row `r`, column `l`. -/
def prod (h : Mat 16384 512) (w : Mat 512 1024) (r : Fin 16384) (l : Fin 1024) : EReal :=
  ∑ k : Fin 512, h (ix2 r k) * w (ix2 k l)

/-- Column `l` of the branch that begins at column `o`. -/
def col (o : ℕ) (h : o + 1024 ≤ 3072) (l : Fin 1024) : Fin 3072 := ⟨o + l, by omega⟩

variable (A : Args)

/-- The cotangent of the merged sum: `dr · w_oᵀ`. -/
def dm (r : Fin 16384) (l : Fin 1024) : EReal := ∑ k : Fin 1024, A.dr (ix2 r k) * A.wo (ix2 l k)

/-- The gate of column `q`. The gates' logits are columns 4096 to 7167 of the projection. -/
def gate (r : Fin 16384) (q : Fin 3072) : EReal :=
  Ideal.logistic (A.p (ix2 r ⟨4096 + q, by omega⟩) + A.bg (ix2 0 q))

/-- The three branches' products side by side. -/
def y (r : Fin 16384) (q : Fin 3072) : EReal :=
  if h : q.val < 1024 then prod A.ha A.wa r ⟨q, h⟩
  else if h' : q.val - 1024 < 1024 then prod A.hb A.wb r ⟨q - 1024, h'⟩
  else prod A.hc A.wc r ⟨q - 1024 - 1024, by omega⟩

theorem y_a (r : Fin 16384) (l : Fin 1024) : y A r (col 0 (by decide) l) = prod A.ha A.wa r l := by
  unfold y col
  rw [dif_pos (by dsimp only; omega)]
  exact congrArg _ (Fin.ext (Nat.zero_add _))

theorem y_b (r : Fin 16384) (l : Fin 1024) : y A r (col 1024 (by decide) l) = prod A.hb A.wb r l := by
  unfold y col
  rw [dif_neg (by dsimp only; omega), dif_pos (by dsimp only; omega)]
  exact congrArg _ (Fin.ext (by dsimp only; omega))

theorem y_c (r : Fin 16384) (l : Fin 1024) : y A r (col 2048 (by decide) l) = prod A.hc A.wc r l := by
  unfold y col
  rw [dif_neg (by dsimp only; omega), dif_neg (by dsimp only; omega)]
  exact congrArg _ (Fin.ext (by dsimp only; omega))

/-- The merged sum: each branch's product times its gate. -/
def merged (r : Fin 16384) (l : Fin 1024) : EReal :=
  gate A r (col 0 (by decide) l) * prod A.ha A.wa r l + gate A r (col 1024 (by decide) l) * prod A.hb A.wb r l
    + gate A r (col 2048 (by decide) l) * prod A.hc A.wc r l

/-- The column of the merged sum that column `q` goes to. -/
def fold (q : Fin 3072) : Fin 1024 := ⟨q % 1024, by omega⟩

/-- The cotangent of the branches' products: the merged sum's, times the gate. -/
def dy (r : Fin 16384) (q : Fin 3072) : EReal := dm A r (fold q) * gate A r q

/-- The cotangent of the gates' logits. -/
def dgate (r : Fin 16384) (q : Fin 3072) : EReal :=
  dm A r (fold q) * y A r q * gate A r q * (1 - gate A r q)

/-- The cotangent of the activations of the branch whose weights are `w` and whose columns begin at `o`. -/
def dh (w : Mat 512 1024) (o : ℕ) (h : o + 1024 ≤ 3072) (r : Fin 16384) (k : Fin 512) : EReal :=
  ∑ l : Fin 1024, dy A r (col o h l) * w (ix2 k l)

/-- The cotangent of the gates' bias: the logits' cotangent summed over the rows. -/
def dbias (q : Fin 3072) : EReal := ∑ r : Fin 16384, dgate A r q

end Cert.Merge

end
-- ==== Proof.MergeBlocks.lean ====
/-
  The gated merge's backward kernel: what each of its six result arrays holds, read at an index.

  The grid is 32 points, one per tile of 512 rows. A point reads its rows of the cotangent, of the branches' products and
  of the gates' logits (three windows of 1024 columns of the projection), and the whole of the weights and of the bias. It
  writes its rows of five results, and adds its rows' column sums into the sixth, the bias's cotangent, which the first
  point sets to zero and the last point writes back.
-/
module

public import Idealize.ShloMosaic.Lib.Pipeline.ValueKit
public import Idealize.ShloMosaic.Lib.StableHlo.ReadAt
public import proofs.«01_k».proof.Proof.MergeSpec
public import proofs.«01_k».proof.Proof.Gen.KernelIdeal.Value

@[expose] public section

set_option maxRecDepth 16384

noncomputable section

namespace Cert.KernelIdeal.Merge

open Cert.KernelIdeal Cert.KernelIdeal.Gen Cert.Merge
open Idealize Idealize.ShloMosaic Idealize.ShloMosaic.TcCoe Idealize.SL Idealize.SL.Sem

variable (m : (ℓ : Loc nD τ sig) → Buf (Elt Ideal) ℓ)

/-- The kernel's arguments on device `c`. -/
def args (c : Dev nD) : Args where
  dr := m ((c : Thread nD τ).loc main_arg0)
  p := m ((c : Thread nD τ).loc main_arg1)
  ha := m ((c : Thread nD τ).loc main_arg2)
  hb := m ((c : Thread nD τ).loc main_arg3)
  hc := m ((c : Thread nD τ).loc main_arg4)
  bg := m ((c : Thread nD τ).loc main_arg5)
  wa := m ((c : Thread nD τ).loc main_arg6)
  wb := m ((c : Thread nD τ).loc main_arg7)
  wc := m ((c : Thread nD τ).loc main_arg8)
  wo := m ((c : Thread nD τ).loc main_arg9)

/-- The array row that row `a` of point `t`'s tile is. -/
def row (t : Fin cfg0.N) (a : Fin 512) : Fin 16384 := ⟨t.val * 512 + a.val, by idx_bounds; omega⟩

theorem fold_col (o : ℕ) (h : o + 1024 ≤ 3072) (l : Fin 1024) (ho : o % 1024 = 0) : fold (col o h l) = l :=
  Fin.ext (by simp only [fold, col]; omega)

/-! ## The windows' blocks -/

/-- The products that the host prepares, side by side. -/
theorem y_host (c : Dev nD) (r : Fin 16384) (q : Fin 3072) : V m c main_v10 (ix2 r q) = y (args m c) r q := by
  unfold V hostOps0
  after_reads_at
  unfold y
  refine dite_congr rfl (fun _ => ?_) fun _ => dite_congr rfl (fun _ => ?_) fun _ => ?_
  all_goals
    after_reads_at
    rfl

theorem blk0 (c : Dev nD) (t : Fin cfg0.N) (a : Fin 512) (k : Fin 1024) :
    iblk m c 0 t (ix2 a k) = (args m c).dr (ix2 (row t a) k) := by
  have e : ∀ t : Fin cfg0.N, win0_0.index t = ![t.val, 0] := (by decide +kernel : ∀ t : Fin grid0.N, _)
  blk_simp [iblk]
  rw [V_main_arg0]
  unfold args row
  blk_ext [e]

theorem blk1 (c : Dev nD) (t : Fin cfg0.N) (l k : Fin 1024) :
    iblk m c 1 t (ix2 l k) = (args m c).wo (ix2 l k) := by
  have e : ∀ t : Fin cfg0.N, win0_1.index t = ![0, 0] := (by decide +kernel : ∀ t : Fin grid0.N, _)
  blk_simp [iblk]
  rw [V_main_arg9]
  unfold args
  blk_ext [e]

theorem blk2 (c : Dev nD) (t : Fin cfg0.N) (a : Fin 512) (q : Fin 3072) :
    iblk m c 2 t (ix2 a q) = y (args m c) (row t a) q := by
  have e : ∀ t : Fin cfg0.N, win0_2.index t = ![t.val, 0] := (by decide +kernel : ∀ t : Fin grid0.N, _)
  rw [← y_host]
  unfold row
  blk_simp [iblk]
  blk_ext [e]

theorem blk3 (c : Dev nD) (t : Fin cfg0.N) (a : Fin 512) (l : Fin 1024) :
    X0_3 m c t (ix2 a l) = (args m c).p (ix2 (row t a) ⟨4096 + col 0 (by decide) l, by omega⟩) := by
  have e : ∀ t : Fin cfg0.N, win0_3.index t = ![t.val, 4] := (by decide +kernel : ∀ t : Fin grid0.N, _)
  unfold X0_3 Pipeline.Window.fill
  rw [dif_pos (moved0_3 t _)]
  blk_simp [iblk]
  rw [V_main_arg1]
  unfold args row col
  blk_ext [e]

theorem blk4 (c : Dev nD) (t : Fin cfg0.N) (a : Fin 512) (l : Fin 1024) :
    X0_4 m c t (ix2 a l) = (args m c).p (ix2 (row t a) ⟨4096 + col 1024 (by decide) l, by omega⟩) := by
  have e : ∀ t : Fin cfg0.N, win0_4.index t = ![t.val, 5] := (by decide +kernel : ∀ t : Fin grid0.N, _)
  unfold X0_4 Pipeline.Window.fill
  rw [dif_pos (moved0_4 t _)]
  blk_simp [iblk]
  rw [V_main_arg1]
  unfold args row col
  blk_ext [e]

theorem blk5 (c : Dev nD) (t : Fin cfg0.N) (a : Fin 512) (l : Fin 1024) :
    X0_5 m c t (ix2 a l) = (args m c).p (ix2 (row t a) ⟨4096 + col 2048 (by decide) l, by omega⟩) := by
  have e : ∀ t : Fin cfg0.N, win0_5.index t = ![t.val, 6] := (by decide +kernel : ∀ t : Fin grid0.N, _)
  unfold X0_5 Pipeline.Window.fill
  rw [dif_pos (moved0_5 t _)]
  blk_simp [iblk]
  rw [V_main_arg1]
  unfold args row col
  blk_ext [e]

theorem blk6 (c : Dev nD) (t : Fin cfg0.N) (q : Fin 3072) :
    iblk m c 6 t (ix2 0 q) = (args m c).bg (ix2 0 q) := by
  have e : ∀ t : Fin cfg0.N, win0_6.index t = ![0, 0] := (by decide +kernel : ∀ t : Fin grid0.N, _)
  blk_simp [iblk]
  rw [V_main_arg5]
  unfold args
  blk_ext [e]

theorem blk7 (c : Dev nD) (t : Fin cfg0.N) (k : Fin 512) (l : Fin 1024) :
    iblk m c 7 t (ix2 k l) = (args m c).wa (ix2 k l) := by
  have e : ∀ t : Fin cfg0.N, win0_7.index t = ![0, 0] := (by decide +kernel : ∀ t : Fin grid0.N, _)
  blk_simp [iblk]
  rw [V_main_arg6]
  unfold args
  blk_ext [e]

theorem blk8 (c : Dev nD) (t : Fin cfg0.N) (k : Fin 512) (l : Fin 1024) :
    iblk m c 8 t (ix2 k l) = (args m c).wb (ix2 k l) := by
  have e : ∀ t : Fin cfg0.N, win0_8.index t = ![0, 0] := (by decide +kernel : ∀ t : Fin grid0.N, _)
  blk_simp [iblk]
  rw [V_main_arg7]
  unfold args
  blk_ext [e]

theorem blk9 (c : Dev nD) (t : Fin cfg0.N) (k : Fin 512) (l : Fin 1024) :
    iblk m c 9 t (ix2 k l) = (args m c).wc (ix2 k l) := by
  have e : ∀ t : Fin cfg0.N, win0_9.index t = ![0, 0] := (by decide +kernel : ∀ t : Fin grid0.N, _)
  blk_simp [iblk]
  rw [V_main_arg8]
  unfold args
  blk_ext [e]

/-! ## What one point computes -/

/-- The merged sum's cotangent on a tile. -/
theorem dm_tile (c : Dev nD) (t : Fin cfg0.N) (a : Fin 512) (l : Fin 1024) :
    k0_pay8 (F := Ideal) (iblk m c 0 t) (iblk m c 1 t) (ix2 a l) = dm (args m c) (row t a) l := by
  pointwise [k0_pay8]
  simp only [blk0, blk1]
  rfl

/-- One branch's gate on a tile, its logits `g` and its part of the bias `b` given. -/
theorem gate_tile (A : Args) (o : ℕ) (h : o + 1024 ≤ 3072) (r : Fin 512 → Fin 16384) (g : Vec Ideal S512x1024 .bf16)
    (b : Vec Ideal S1x1024 .f32)
    (hg : ∀ a l, g (ix2 a l) = A.p (ix2 (r a) ⟨4096 + col o h l, by omega⟩))
    (hb : ∀ l, b (ix2 0 l) = A.bg (ix2 0 (col o h l))) (a : Fin 512) (l : Fin 1024) :
    k0_pay9 g b (ix2 a l) = gate A (r a) (col o h l) := by
  pointwise [k0_pay9]
  rw [hg, hb]
  rfl

/-- One branch's part of the logits' cotangent on a tile. -/
theorem dgate_tile (A : Args) (o : ℕ) (h : o + 1024 ≤ 3072) (ho : o % 1024 = 0) (r : Fin 512 → Fin 16384)
    (d : FVec Ideal S512x1024 .f32) (g : Vec Ideal S512x1024 .bf16) (b : Vec Ideal S1x1024 .f32) (u : Vec Ideal S512x1024 .bf16)
    (hd : ∀ a l, d (ix2 a l) = dm A (r a) l)
    (hg : ∀ a l, g (ix2 a l) = A.p (ix2 (r a) ⟨4096 + col o h l, by omega⟩))
    (hb : ∀ l, b (ix2 0 l) = A.bg (ix2 0 (col o h l)))
    (hu : ∀ a l, u (ix2 a l) = y A (r a) (col o h l)) (a : Fin 512) (l : Fin 1024) :
    k0_pay16 d g b u (ix2 a l) = dgate A (r a) (col o h l) := by
  have e : k0_pay15 g b (ix2 a l) = gate A (r a) (col o h l) := gate_tile A o h r g b hg hb a l
  pointwise [k0_pay16]
  rw [hd, hu, e]
  unfold dgate
  rw [fold_col o h l ho]

/-- One branch's part of the products' cotangent on a tile. -/
theorem dy_tile (A : Args) (o : ℕ) (h : o + 1024 ≤ 3072) (ho : o % 1024 = 0) (r : Fin 512 → Fin 16384)
    (d : FVec Ideal S512x1024 .f32) (g : Vec Ideal S512x1024 .bf16) (b : Vec Ideal S1x1024 .f32)
    (hd : ∀ a l, d (ix2 a l) = dm A (r a) l)
    (hg : ∀ a l, g (ix2 a l) = A.p (ix2 (r a) ⟨4096 + col o h l, by omega⟩))
    (hb : ∀ l, b (ix2 0 l) = A.bg (ix2 0 (col o h l))) (a : Fin 512) (l : Fin 1024) :
    k0_pay19 d g b (ix2 a l) = dy A (r a) (col o h l) := by
  have e : k0_pay15 g b (ix2 a l) = gate A (r a) (col o h l) := gate_tile A o h r g b hg hb a l
  pointwise [k0_pay19]
  rw [hd, e]
  unfold dy
  rw [fold_col o h l ho]

/-- A column's sum over a tile's rows, added to what the accumulator held. -/
theorem sum_tile (v : Vec Ideal S1x1024 .f32) (d : FVec Ideal S512x1024 .f32) (g : Vec Ideal S512x1024 .bf16) (b : Vec Ideal S1x1024 .f32)
    (u : Vec Ideal S512x1024 .bf16) (l : Fin 1024) :
    k0_pay18 d g b u v (ix2 0 l) = v (ix2 0 l) + ∑ a : Fin 512, k0_pay16 d g b u (ix2 a l) := by
  pointwise [k0_pay18]

/-- One branch's activations' cotangent on a tile. -/
theorem dh_tile (A : Args) (o : ℕ) (h : o + 1024 ≤ 3072) (r : Fin 16384) (w : Mat 512 1024)
    (d : FVec Ideal S512x1024 .bf16) (x : Vec Ideal S512x1024 .bf16) (a : Fin 512)
    (hd : ∀ l, d (ix2 a l) = dy A r (col o h l)) (hx : ∀ k l, x (ix2 k l) = w (ix2 k l)) (k : Fin 512) :
    k0_pay14 d x (ix2 a k) = dh A w o h r k := by
  pointwise [k0_pay14]
  simp only [hd, hx]
  rfl

/-- The bias block's part that a branch reads. -/
theorem bias_part (c : Dev nD) (t : Fin cfg0.N) (o : ℕ) (h : o + 1024 ≤ 3072) (inb) (l : Fin 1024) :
    View.ld (iblk m c 6 t) (Rect.unit ![0, o] ![1, 1024] inb) (ix2 0 l) = (args m c).bg (ix2 0 (col o h l)) := by
  rw [← blk6 m c t]
  pointwise
  rfl

/-- The products' block's part that a branch reads. -/
theorem y_part (c : Dev nD) (t : Fin cfg0.N) (o : ℕ) (h : o + 1024 ≤ 3072) (inb) (a : Fin 512) (l : Fin 1024) :
    View.ld (iblk m c 2 t) (Rect.unit ![0, o] ![512, 1024] inb) (ix2 a l) = y (args m c) (row t a) (col o h l) := by
  rw [← blk2 m c t]
  pointwise
  rfl

/-! ## Stores of column ranges -/

section Columns

variable {R C o n : ℕ} (inb : ∀ a, (![0, o] : Fin 2 → ℕ) a + (![R, n] : Fin 2 → ℕ) a ≤ (⟨2, ![R, C]⟩ : Shape).size a)

/-- Columns `o` to `o + n` of a matrix, every row. -/
abbrev cols : Rect (⟨2, ![R, C]⟩ : Shape) := Rect.unit ![0, o] ![R, n] inb

theorem cols_emb (r : Fin R) (l : Fin n) (q : Fin C) (h : q.val = o + l.val) :
    (cols inb).emb (ix2 r l : (⟨2, ![R, n]⟩ : Shape).Idx) = (ix2 r q : (⟨2, ![R, C]⟩ : Shape).Idx) := by
  funext a
  apply Fin.ext
  refine (ValueKit.rect_emb_unit_val _ _ inb _ a).trans ?_
  match a with
  | ⟨0, _⟩ => exact Nat.zero_add _
  | ⟨1, _⟩ => exact h.symm

variable (w : Mat R n) (L : List (View.Piece (Elt Ideal) (⟨2, ![R, C]⟩ : Shape) .f32))

/-- The last store read at one of its own columns. -/
theorem canon_hit (r : Fin R) (l : Fin n) (q : Fin C) (h : q.val = o + l.val) :
    View.canon ((⟨cols inb, w⟩ : View.Piece (Elt Ideal) (⟨2, ![R, C]⟩ : Shape) .f32) :: L) (ix2 r q) = w (ix2 r l) := by
  rw [← cols_emb inb r l q h]
  exact View.canon_cons_emb (Val := Elt Ideal) (e := .f32) (cols inb) w L _

/-- The last store passed over at a column that is none of its own. -/
theorem canon_miss (r : Fin R) (q : Fin C) (h : q.val < o ∨ o + n ≤ q.val) :
    View.canon ((⟨cols inb, w⟩ : View.Piece (Elt Ideal) (⟨2, ![R, C]⟩ : Shape) .f32) :: L) (ix2 r q)
      = View.canon L (ix2 r q) := by
  refine View.canon_cons_of_not_mem _ L fun hm => ?_
  have h1 : o ≤ q.val ∧ q.val < o + n := (Rect.mem_set_unit (inb := inb)).mp hm 1
  omega

/-- A load of a column range reads what the stores left there. -/
theorem load_cols {sig : RefSig} {sp : Space} (v : View sig .tc sp (⟨2, ![R, C]⟩ : Shape) .f32) (r : Fin R) (l : Fin n)
    (q : Fin C) (h : q.val = o + l.val) :
    v.readCov L (cols inb).toLoadRect (ix2 r l : (⟨2, ![R, n]⟩ : Shape).Idx) = View.canon L (ix2 r q) := by
  rw [View.readCov_eq_canon']
  exact congrArg _ (cols_emb inb r l q h)

end Columns

/-! ## What the body leaves at a point -/

theorem out10 (c : Dev nD) (t : Fin cfg0.N) (a : Fin 512) (q : Fin 3072) :
    (outsAt0 (F := Ideal) m c t.val t.isLt).1 (ix2 a q) = dgate (args m c) (row t a) q := by
  by_cases h : t.val % 32 = 0
  on_goal 1 => rw [Gen.outsAt0_A m c t h]
  on_goal 2 => rw [Gen.outsAt0_B m c t h]
  all_goals
    frame_out
    canon_tiles x hx
    all_goals
      idx_vars x
      obtain rfl : a = x0 := Fin.ext hx0
    · obtain rfl : q = col 2048 (by decide) x1 := Fin.ext hx1
      exact dgate_tile _ 2048 _ rfl (row t) _ _ _ _ (dm_tile m c t) (blk5 m c t) (bias_part m c t 2048 _ _) (y_part m c t 2048 _ _) _ _
    · obtain rfl : q = col 1024 (by decide) x1 := Fin.ext hx1
      exact dgate_tile _ 1024 _ rfl (row t) _ _ _ _ (dm_tile m c t) (blk4 m c t) (bias_part m c t 1024 _ _) (y_part m c t 1024 _ _) _ _
    · obtain rfl : q = col 0 (by decide) x1 := Fin.ext (hx1.trans (Nat.zero_add _).symm)
      exact dgate_tile _ 0 _ rfl (row t) _ _ _ _ (dm_tile m c t) (blk3 m c t) (bias_part m c t 0 _ _) (y_part m c t 0 _ _) _ _

theorem out11 (c : Dev nD) (t : Fin cfg0.N) (a : Fin 512) (q : Fin 3072) :
    (outsAt0 (F := Ideal) m c t.val t.isLt).2.1 (ix2 a q) = dy (args m c) (row t a) q := by
  by_cases h : t.val % 32 = 0
  on_goal 1 => rw [Gen.outsAt0_A m c t h]
  on_goal 2 => rw [Gen.outsAt0_B m c t h]
  all_goals
    frame_out
    canon_tiles x hx
    all_goals
      idx_vars x
      obtain rfl : a = x0 := Fin.ext hx0
    · obtain rfl : q = col 2048 (by decide) x1 := Fin.ext hx1
      exact dy_tile _ 2048 _ rfl (row t) _ _ _ (dm_tile m c t) (blk5 m c t) (bias_part m c t 2048 _ _) _ _
    · obtain rfl : q = col 1024 (by decide) x1 := Fin.ext hx1
      exact dy_tile _ 1024 _ rfl (row t) _ _ _ (dm_tile m c t) (blk4 m c t) (bias_part m c t 1024 _ _) _ _
    · obtain rfl : q = col 0 (by decide) x1 := Fin.ext (hx1.trans (Nat.zero_add _).symm)
      exact dy_tile _ 0 _ rfl (row t) _ _ _ (dm_tile m c t) (blk3 m c t) (bias_part m c t 0 _ _) _ _

theorem out12 (c : Dev nD) (t : Fin cfg0.N) (a k : Fin 512) :
    (outsAt0 (F := Ideal) m c t.val t.isLt).2.2.1 (ix2 a k) = dh (args m c) (args m c).wa 0 (by decide) (row t a) k := by
  by_cases h : t.val % 32 = 0
  on_goal 1 => rw [Gen.outsAt0_A m c t h]
  on_goal 2 => rw [Gen.outsAt0_B m c t h]
  all_goals
    frame_out
    exact dh_tile _ 0 _ _ _ _ _ a (dy_tile _ 0 _ rfl (row t) _ _ _ (dm_tile m c t) (blk3 m c t) (bias_part m c t 0 _ _) a)
      (blk7 m c t) k

theorem out13 (c : Dev nD) (t : Fin cfg0.N) (a k : Fin 512) :
    (outsAt0 (F := Ideal) m c t.val t.isLt).2.2.2.1 (ix2 a k) = dh (args m c) (args m c).wb 1024 (by decide) (row t a) k := by
  by_cases h : t.val % 32 = 0
  on_goal 1 => rw [Gen.outsAt0_A m c t h]
  on_goal 2 => rw [Gen.outsAt0_B m c t h]
  all_goals
    frame_out
    exact dh_tile _ 1024 _ _ _ _ _ a (dy_tile _ 1024 _ rfl (row t) _ _ _ (dm_tile m c t) (blk4 m c t) (bias_part m c t 1024 _ _) a)
      (blk8 m c t) k

theorem out14 (c : Dev nD) (t : Fin cfg0.N) (a k : Fin 512) :
    (outsAt0 (F := Ideal) m c t.val t.isLt).2.2.2.2.1 (ix2 a k) = dh (args m c) (args m c).wc 2048 (by decide) (row t a) k := by
  by_cases h : t.val % 32 = 0
  on_goal 1 => rw [Gen.outsAt0_A m c t h]
  on_goal 2 => rw [Gen.outsAt0_B m c t h]
  all_goals
    frame_out
    exact dh_tile _ 2048 _ _ _ _ _ a (dy_tile _ 2048 _ rfl (row t) _ _ _ (dm_tile m c t) (blk5 m c t) (bias_part m c t 2048 _ _) a)
      (blk9 m c t) k

/-- A load of a column range of what the accumulator held. -/
theorem acc_part (x : Vec Ideal S1x3072 .f32) (o : ℕ) (h : o + 1024 ≤ 3072) (inb) (l : Fin 1024) :
    View.ld x (Rect.unit ![0, o] ![1, 1024] inb) (ix2 0 l) = x (ix2 0 (col o h l)) := by
  pointwise
  rfl

theorem col_cases {P : Fin 3072 → Prop} (h2 : ∀ l, P (col 2048 (by decide) l)) (h1 : ∀ l, P (col 1024 (by decide) l))
    (h0 : ∀ l, P (col 0 (by decide) l)) (q : Fin 3072) : P q := by
  by_cases a : q.val < 1024
  · exact (Fin.ext (Nat.zero_add _) : col 0 (by decide) ⟨q, a⟩ = q) ▸ h0 ⟨q, a⟩
  by_cases b : q.val < 2048
  · exact (Fin.ext (by simp only [col]; omega) : col 1024 (by decide) ⟨q - 1024, by omega⟩ = q) ▸ h1 ⟨q - 1024, by omega⟩
  · exact (Fin.ext (by simp only [col]; omega) : col 2048 (by decide) ⟨q - 2048, by omega⟩ = q) ▸ h2 ⟨q - 2048, by omega⟩

/-- The zeros that the first point stores. -/
theorem zero_canon (inb) (L : List (View.Piece (Elt Ideal) S1x3072 .f32)) (q : Fin 3072) :
    View.canon (⟨Rect.unit ![0, 0] ![1, 3072] inb, k0_pay7 (F := Ideal)⟩ :: L) (ix2 0 q) = 0 := by
  refine (canon_hit inb (k0_pay7 (F := Ideal)) L 0 q q (Nat.zero_add _).symm).trans ?_
  pointwise [k0_pay7]

theorem out15_A (c : Dev nD) (t : Fin cfg0.N) (h : t.val % 32 = 0) (q : Fin 3072) :
    (outsAt0 (F := Ideal) m c t.val t.isLt).2.2.2.2.2 (ix2 0 q) = 0 + ∑ a : Fin 512, dgate (args m c) (row t a) q := by
  rw [Gen.outsAt0_A m c t h]
  frame_out
  revert q
  refine col_cases (fun l => ?_) (fun l => ?_) fun l => ?_
  · refine (canon_hit _ _ _ 0 l _ rfl).trans ((sum_tile _ _ _ _ _ l).trans ?_)
    refine congrArg₂ (· + ·) ?_ (Finset.sum_congr rfl fun a _ => dgate_tile _ 2048 _ rfl (row t) _ _ _ _ (dm_tile m c t)
      (blk5 m c t) (bias_part m c t 2048 _ _) (y_part m c t 2048 _ _) _ _)
    refine (load_cols _ _ _ 0 l (col 2048 (by decide) l) rfl).trans ?_
    refine (canon_miss _ _ _ 0 _ (by simp only [col]; omega)).trans ?_
    refine (canon_miss _ _ _ 0 _ (by simp only [col]; omega)).trans ?_
    exact zero_canon _ _ _
  · refine (canon_miss _ _ _ 0 _ (by simp only [col]; omega)).trans ?_
    refine (canon_hit _ _ _ 0 l _ rfl).trans ((sum_tile _ _ _ _ _ l).trans ?_)
    refine congrArg₂ (· + ·) ?_ (Finset.sum_congr rfl fun a _ => dgate_tile _ 1024 _ rfl (row t) _ _ _ _ (dm_tile m c t)
      (blk4 m c t) (bias_part m c t 1024 _ _) (y_part m c t 1024 _ _) _ _)
    refine (load_cols _ _ _ 0 l (col 1024 (by decide) l) rfl).trans ?_
    refine (canon_miss _ _ _ 0 _ (by simp only [col]; omega)).trans ?_
    exact zero_canon _ _ _
  · refine (canon_miss _ _ _ 0 _ (by simp only [col]; omega)).trans ?_
    refine (canon_miss _ _ _ 0 _ (by simp only [col]; omega)).trans ?_
    refine (canon_hit _ _ _ 0 l _ rfl).trans ((sum_tile _ _ _ _ _ l).trans ?_)
    refine congrArg₂ (· + ·) ?_ (Finset.sum_congr rfl fun a _ => dgate_tile _ 0 _ rfl (row t) _ _ _ _ (dm_tile m c t)
      (blk3 m c t) (bias_part m c t 0 _ _) (y_part m c t 0 _ _) _ _)
    refine (load_cols _ _ _ 0 l (col 0 (by decide) l) rfl).trans ?_
    exact zero_canon _ _ _

theorem out15_B (c : Dev nD) (t : Fin cfg0.N) (h : ¬ t.val % 32 = 0) (q : Fin 3072) :
    (outsAt0 (F := Ideal) m c t.val t.isLt).2.2.2.2.2 (ix2 0 q)
      = (outsAt0 (F := Ideal) m c (t.val - 1) (Nat.lt_of_le_of_lt (Nat.sub_le _ _) t.isLt)).2.2.2.2.2 (ix2 0 q)
        + ∑ a : Fin 512, dgate (args m c) (row t a) q := by
  rw [Gen.outsAt0_B m c t h]
  frame_out
  revert q
  refine col_cases (fun l => ?_) (fun l => ?_) fun l => ?_
  · refine (canon_hit _ _ _ 0 l _ rfl).trans ((sum_tile _ _ _ _ _ l).trans ?_)
    exact congrArg₂ (· + ·) (acc_part _ 2048 _ _ l) (Finset.sum_congr rfl fun a _ => dgate_tile _ 2048 _ rfl (row t) _ _ _ _ (dm_tile m c t)
      (blk5 m c t) (bias_part m c t 2048 _ _) (y_part m c t 2048 _ _) _ _)
  · refine (canon_miss _ _ _ 0 _ (by simp only [col]; omega)).trans ?_
    refine (canon_hit _ _ _ 0 l _ rfl).trans ((sum_tile _ _ _ _ _ l).trans ?_)
    exact congrArg₂ (· + ·) (acc_part _ 1024 _ _ l) (Finset.sum_congr rfl fun a _ => dgate_tile _ 1024 _ rfl (row t) _ _ _ _ (dm_tile m c t)
      (blk4 m c t) (bias_part m c t 1024 _ _) (y_part m c t 1024 _ _) _ _)
  · refine (canon_miss _ _ _ 0 _ (by simp only [col]; omega)).trans ?_
    refine (canon_miss _ _ _ 0 _ (by simp only [col]; omega)).trans ?_
    refine (canon_hit _ _ _ 0 l _ rfl).trans ((sum_tile _ _ _ _ _ l).trans ?_)
    exact congrArg₂ (· + ·) (acc_part _ 0 _ _ l) (Finset.sum_congr rfl fun a _ => dgate_tile _ 0 _ rfl (row t) _ _ _ _ (dm_tile m c t)
      (blk3 m c t) (bias_part m c t 0 _ _) (y_part m c t 0 _ _) _ _)

/-! ## The result arrays -/

/-- A matrix from its entries. -/
abbrev mat {a b : ℕ} (f : Fin a → Fin b → EReal) : Mat a b := fun i => f (i 0) (i 1)

theorem final10 (c : Dev nD) : (dats m 0 c).arrAt 10 cfg0.N = mat (dgate (args m c)) := by
  have e : ∀ t : Fin cfg0.N, win0_10.index t = ![t.val, 0] := (by decide +kernel : ∀ t : Fin grid0.N, _)
  refine (dats m 0 c).arrAt_eq_of_covers 10 _ (by decide +kernel) fun t hf j => ?_
  blk_simp
  rw [after0_10]
  idx_vars j
  refine (out10 m c t _ _).trans (congrArg₂ (dgate _) (Fin.ext ?_) (Fin.ext ?_))
  all_goals blk_simp [e, row]

theorem final11 (c : Dev nD) : (dats m 0 c).arrAt 11 cfg0.N = mat (dy (args m c)) := by
  have e : ∀ t : Fin cfg0.N, win0_11.index t = ![t.val, 0] := (by decide +kernel : ∀ t : Fin grid0.N, _)
  refine (dats m 0 c).arrAt_eq_of_covers 11 _ (by decide +kernel) fun t hf j => ?_
  blk_simp
  rw [after0_11]
  idx_vars j
  refine (out11 m c t _ _).trans (congrArg₂ (dy _) (Fin.ext ?_) (Fin.ext ?_))
  all_goals blk_simp [e, row]

theorem final12 (c : Dev nD) : (dats m 0 c).arrAt 12 cfg0.N = mat (dh (args m c) (args m c).wa 0 (by decide)) := by
  have e : ∀ t : Fin cfg0.N, win0_12.index t = ![t.val, 0] := (by decide +kernel : ∀ t : Fin grid0.N, _)
  refine (dats m 0 c).arrAt_eq_of_covers 12 _ (by decide +kernel) fun t hf j => ?_
  blk_simp
  rw [after0_12]
  idx_vars j
  refine (out12 m c t _ _).trans (congrArg₂ (dh _ _ _ _) (Fin.ext ?_) (Fin.ext ?_))
  all_goals blk_simp [e, row]

theorem final13 (c : Dev nD) : (dats m 0 c).arrAt 13 cfg0.N = mat (dh (args m c) (args m c).wb 1024 (by decide)) := by
  have e : ∀ t : Fin cfg0.N, win0_13.index t = ![t.val, 0] := (by decide +kernel : ∀ t : Fin grid0.N, _)
  refine (dats m 0 c).arrAt_eq_of_covers 13 _ (by decide +kernel) fun t hf j => ?_
  blk_simp
  rw [after0_13]
  idx_vars j
  refine (out13 m c t _ _).trans (congrArg₂ (dh _ _ _ _) (Fin.ext ?_) (Fin.ext ?_))
  all_goals blk_simp [e, row]

theorem final14 (c : Dev nD) : (dats m 0 c).arrAt 14 cfg0.N = mat (dh (args m c) (args m c).wc 2048 (by decide)) := by
  have e : ∀ t : Fin cfg0.N, win0_14.index t = ![t.val, 0] := (by decide +kernel : ∀ t : Fin grid0.N, _)
  refine (dats m 0 c).arrAt_eq_of_covers 14 _ (by decide +kernel) fun t hf j => ?_
  blk_simp
  rw [after0_14]
  idx_vars j
  refine (out14 m c t _ _).trans (congrArg₂ (dh _ _ _ _) (Fin.ext ?_) (Fin.ext ?_))
  all_goals blk_simp [e, row]

/-- The last point. -/
abbrev last : Fin cfg0.N := ⟨31, by decide +kernel⟩

/-- After the last point the accumulator holds the sum over every row. -/
theorem out15 (c : Dev nD) (q : Fin 3072) :
    (outsAt0 (F := Ideal) m c last.val last.isLt).2.2.2.2.2 (ix2 0 q) = dbias (args m c) q := by
  refine (Pipeline.eq_sum_fin_of_reset_step_apply_last (fun n h (q : Fin 3072) => (outsAt0 (F := Ideal) m c n h).2.2.2.2.2 (ix2 0 q)) 32
    (fun _ => 0) (fun t q => ∑ a : Fin 512, dgate (args m c) (row t a) q) (out15_A m c) (out15_B m c) (le_of_eq N_0) last (by decide +kernel) q).trans ?_
  rw [zero_add]
  exact Fin.sum_mul_add_congr (fun t a hl => rfl) (by decide +kernel)

theorem final15 (c : Dev nD) : (dats m 0 c).arrAt 15 cfg0.N = mat (fun _ => dbias (args m c)) := by
  refine (dats m 0 c).arrAt_eq_of_after_last 15 last (by decide +kernel) _ fun j => ?_
  blk_simp
  rw [after0_15]
  idx_vars j
  obtain rfl : j0 = 0 := Subsingleton.elim _ _
  exact out15 m c _

end Cert.KernelIdeal.Merge

end
-- ==== Proof.MergeReference.lean ====
/-
  The gated merge's backward reference: what each of its six results holds, read at an index.
-/
module

public import proofs.«01_k».proof.Proof.MergeSpec
public import proofs.«01_k».proof.Proof.Gen.ReferenceIdeal.Run
public import proofs.«01_k».proof.Proof.Gen.ReferenceIdeal.Read

@[expose] public section

set_option maxRecDepth 16384

noncomputable section

namespace Cert.ReferenceIdeal.Merge

open Cert.ReferenceIdeal Cert.ReferenceIdeal.Gen Cert.ReferenceIdeal.Read Cert.Merge
open Idealize Idealize.ShloMosaic Idealize.ShloMosaic.TcCoe Idealize.SL Idealize.SL.Sem

/-- A matrix from its entries. -/
abbrev mat {a b : ℕ} (f : Fin a → Fin b → EReal) : Mat a b := fun i => f (i 0) (i 1)

variable (A : Args)

/-- The reference computes each sigmoid as `1 / (1 + exp (−x))`. -/
theorem gate_apply (r : Fin 16384) (q : Fin 3072) : val_main_v20 (F := Ideal) A.p A.bg (ix2 r q) = gate A r q := by
  pointwise [val_main_v20, val_main_v19, val_main_v18, val_main_v17, val_main_v16, val_main_v15, val_main_v14, val_main_v13, val_main_v9,
    val_main_v1, val_main_cst, val_main_cst_0]
  rfl

/-- The same sigmoid, computed a second time. -/
theorem gate_apply' (r : Fin 16384) (q : Fin 3072) : val_main_v57 (F := Ideal) A.p A.bg (ix2 r q) = gate A r q :=
  gate_apply A r q

theorem dm_apply (r : Fin 16384) (l : Fin 1024) : val_main_v33 (F := Ideal) A.dr A.wo (ix2 r l) = dm A r l := by
  pointwise [val_main_v33, val_main_v0, val_main_v8]
  rfl

theorem dm_apply' (r : Fin 16384) (l : Fin 1024) : val_main_v67 (F := Ideal) A.dr A.wo (ix2 r l) = dm A r l :=
  dm_apply A r l

theorem prod_apply (h : Mat 16384 512) (w : Mat 512 1024) (r : Fin 16384) (l : Fin 1024) :
    val_main_v10 (F := Ideal) h w (ix2 r l) = prod h w r l := by
  pointwise [val_main_v10, val_main_v2, val_main_v5]
  rfl

theorem fold_eq (q : Fin 3072) (l : Fin 1024) (h : l.val = q.val % 1024) : fold q = l := Fin.ext h.symm

/-- The cotangent of the gates' logits, before its rounding. -/
theorem dgate_apply (r : Fin 16384) (q : Fin 3072) :
    val_main_v41 (F := Ideal) A.dr A.p A.ha A.hb A.hc A.bg A.wa A.wb A.wc A.wo (ix2 r q) = dgate A r q := by
  pointwise [val_main_v41, val_main_v40, val_main_v39, val_main_v37, val_main_v35, val_main_v23, val_main_v22, val_main_v21, val_main_cst_1]
  rw [gate_apply]
  unfold dgate
  rw [mul_assoc _ (gate A r q)]
  refine congrArg (· * _) ?_
  unfold y
  split
  · rw [dm_apply, prod_apply, fold_eq q ⟨q, by assumption⟩ (by dsimp only; omega)]
  split
  · rw [dm_apply, fold_eq q ⟨q - 1024, by assumption⟩ (by dsimp only; omega)]
    exact congrArg _ (prod_apply _ _ _ _)
  · rw [dm_apply, fold_eq q ⟨q - 1024 - 1024, by omega⟩ (by dsimp only; omega)]
    exact congrArg _ (prod_apply _ _ _ _)

/-- The cotangent of the branches' products, before its rounding. -/
theorem dy_apply (r : Fin 16384) (q : Fin 3072) :
    val_main_v71 (F := Ideal) A.dr A.p A.bg A.wo (ix2 r q) = dy A r q := by
  pointwise [val_main_v71, val_main_v70, val_main_v69, val_main_v68, val_main_v60, val_main_v59, val_main_v58]
  simp only [gate_apply', dm_apply']
  unfold dy
  rw [mul_comm]
  split
  · rw [fold_eq q ⟨q, by assumption⟩ (by dsimp only; omega)]
  split
  · rw [fold_eq q ⟨q - 1024, by assumption⟩ (by dsimp only; omega)]
    exact congrArg (fun k => gate A r k * _) (Fin.ext (by dsimp only; omega))
  · rw [fold_eq q ⟨q - 1024 - 1024, by omega⟩ (by dsimp only; omega)]
    exact congrArg (fun k => gate A r k * _) (Fin.ext (by dsimp only; omega))

/-- The product of a gate's slice with the shared cotangent is a slice of `dy`. -/
theorem slice_dy (r : Fin 16384) (o : ℕ) (ho : o + 1024 ≤ 3072) (l : Fin 1024) (hm : o % 1024 = 0) (h : o + l.val < 3072) :
    gate A r ⟨o + l.val, h⟩ * dm A r l = dy A r (col o ho l) := by
  unfold dy
  rw [fold_eq (col o ho l) l (by simp only [col]; omega), mul_comm]
  rfl

theorem result0 : val_main_v72 (F := Ideal) A.dr A.p A.ha A.hb A.hc A.bg A.wa A.wb A.wc A.wo = mat (dgate A) := by
  funext i
  idx_vars i
  exact dgate_apply A _ _

theorem result1 : val_main_v73 (F := Ideal) A.dr A.p A.bg A.wo = mat (dy A) := by
  funext i
  idx_vars i
  exact dy_apply A _ _

theorem result2 : val_main_v46 (F := Ideal) A.dr A.p A.bg A.wa A.wo = mat (dh A A.wa 0 (by decide)) := by
  funext i
  idx_vars i
  pointwise [val_main_v46, val_main_v38, val_main_v24, val_main_v5]
  simp only [gate_apply, dm_apply]
  exact Finset.sum_congr rfl fun l _ => congrArg (· * _)
    ((congrArg (fun k => gate A i0 k * dm A i0 l) (Fin.ext (Nat.zero_add l.val).symm)).trans
      (slice_dy A i0 0 (by decide) l (by decide) (by omega)))

theorem result3 : val_main_v45 (F := Ideal) A.dr A.p A.bg A.wb A.wo = mat (dh A A.wb 1024 (by decide)) := by
  funext i
  idx_vars i
  pointwise [val_main_v45, val_main_v36, val_main_v25, val_main_v6]
  simp only [gate_apply, dm_apply]
  exact Finset.sum_congr rfl fun l _ => congrArg (· * _) (slice_dy A i0 1024 (by decide) l (by decide) (by omega))

theorem result4 : val_main_v44 (F := Ideal) A.dr A.p A.bg A.wc A.wo = mat (dh A A.wc 2048 (by decide)) := by
  funext i
  idx_vars i
  pointwise [val_main_v44, val_main_v34, val_main_v26, val_main_v7]
  simp only [gate_apply, dm_apply]
  exact Finset.sum_congr rfl fun l _ => congrArg (· * _) (slice_dy A i0 2048 (by decide) l (by decide) (by omega))

theorem result5 : val_main_v43 (F := Ideal) A.dr A.p A.ha A.hb A.hc A.bg A.wa A.wb A.wc A.wo = mat (fun _ => dbias A) := by
  funext i
  idx_vars i
  pointwise [val_main_v43, val_main_v42, val_main_cst_2]
  simp only [dgate_apply, zero_add]
  exact show _ = dbias A i1 from rfl

variable (m : (ℓ : Loc nD τ sig) → Buf (Elt Ideal) ℓ)

/-- The reference's arguments at device `c`. -/
abbrev args (c : Dev nD) : Args where
  dr := m ((c.tc : Thread nD τ).loc main_arg0)
  p := m ((c.tc : Thread nD τ).loc main_arg1)
  ha := m ((c.tc : Thread nD τ).loc main_arg2)
  hb := m ((c.tc : Thread nD τ).loc main_arg3)
  hc := m ((c.tc : Thread nD τ).loc main_arg4)
  bg := m ((c.tc : Thread nD τ).loc main_arg5)
  wa := m ((c.tc : Thread nD τ).loc main_arg6)
  wb := m ((c.tc : Thread nD τ).loc main_arg7)
  wc := m ((c.tc : Thread nD τ).loc main_arg8)
  wo := m ((c.tc : Thread nD τ).loc main_arg9)

/-- The reference runs; its six results, in the order it returns them, and its arguments kept. -/
theorem run (ρ : Dev nD → PrngReg) : θ_run defs (onTc (τ := τ) (main (F := Ideal))) ⟨m, fun _ => 0, ρ⟩ fun r => ∀ c : Dev nD,
    r.2.mem ((c.tc : Thread nD τ).loc main_v72) = mat (dgate (args m c))
    ∧ r.2.mem ((c.tc : Thread nD τ).loc main_v73) = mat (dy (args m c))
    ∧ r.2.mem ((c.tc : Thread nD τ).loc main_v46) = mat (dh (args m c) (args m c).wa 0 (by decide))
    ∧ r.2.mem ((c.tc : Thread nD τ).loc main_v45) = mat (dh (args m c) (args m c).wb 1024 (by decide))
    ∧ r.2.mem ((c.tc : Thread nD τ).loc main_v44) = mat (dh (args m c) (args m c).wc 2048 (by decide))
    ∧ r.2.mem ((c.tc : Thread nD τ).loc main_v43) = mat (fun _ => dbias (args m c))
    ∧ r.2.mem ((c.tc : Thread nD τ).loc main_arg0) = (args m c).dr
    ∧ r.2.mem ((c.tc : Thread nD τ).loc main_arg1) = (args m c).p
    ∧ r.2.mem ((c.tc : Thread nD τ).loc main_arg2) = (args m c).ha
    ∧ r.2.mem ((c.tc : Thread nD τ).loc main_arg3) = (args m c).hb
    ∧ r.2.mem ((c.tc : Thread nD τ).loc main_arg4) = (args m c).hc
    ∧ r.2.mem ((c.tc : Thread nD τ).loc main_arg5) = (args m c).bg
    ∧ r.2.mem ((c.tc : Thread nD τ).loc main_arg6) = (args m c).wa
    ∧ r.2.mem ((c.tc : Thread nD τ).loc main_arg7) = (args m c).wb
    ∧ r.2.mem ((c.tc : Thread nD τ).loc main_arg8) = (args m c).wc
    ∧ r.2.mem ((c.tc : Thread nD τ).loc main_arg9) = (args m c).wo :=
  (θ_run defs _ _).mono (fun r h c => by
    obtain ⟨h0, h1, h2, h3, h4, h5, hk⟩ := h c
    exact ⟨h0.trans ((val_main_v72_eq ..).trans (result0 (args m c))), h1.trans ((val_main_v73_eq ..).trans (result1 (args m c))),
      h2.trans ((val_main_v46_eq ..).trans (result2 (args m c))), h3.trans ((val_main_v45_eq ..).trans (result3 (args m c))),
      h4.trans ((val_main_v44_eq ..).trans (result4 (args m c))), h5.trans ((val_main_v43_eq ..).trans (result5 (args m c))), hk⟩)
    (Cert.ReferenceIdeal.Value.run m ρ)

end Cert.ReferenceIdeal.Merge

end
-- ==== Proof.MergeClaims.lean ====
/-
  The gated merge's backward call: the claims about the kernel and its reference, from the two runs.
-/
module

public import proofs.«01_k».proof.Defs
public import proofs.«01_k».proof.Proof.Gen.Kernel
public import proofs.«01_k».proof.Proof.MergeBlocks
public import proofs.«01_k».proof.Proof.MergeReference
public import Idealize.ShloMosaic.Adequacy
public import Idealize.ShloMosaic.Init

@[expose] public section

set_option maxRecDepth 16384

noncomputable section

namespace Cert.Proof.Merge

open Idealize.ShloMosaic Idealize.SL.Sem Cert.Merge

attribute [local instance] Cert.Kernel.Gen.facts Cert.KernelIdeal.Gen.facts Cert.ReferenceIdeal.Gen.facts

theorem frame_reference : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Merge.run m ρ)

/-- Memories that agree on the arguments give both programs the same matrices. -/
theorem algebraic : Cert.algebraic_KernelIdeal_ReferenceIdeal := fun m ρ m' ρ' _ hag => by
  have e : ∀ c, Cert.ReferenceIdeal.Merge.args m' c = Cert.KernelIdeal.Merge.args m c := fun c => by
    obtain ⟨h0, h1, h2, h3, h4, h5, h6, h7, h8, h9⟩ := hag c
    unfold Cert.ReferenceIdeal.Merge.args Cert.KernelIdeal.Merge.args
    rw [h0, h1, h2, h3, h4, h5, h6, h7, h8, h9]
  let A := Cert.KernelIdeal.Merge.args m
  refine ⟨fun c => Cert.KernelIdeal.Merge.mat (dgate (A c)), fun c => Cert.KernelIdeal.Merge.mat (dy (A c)),
    fun c => Cert.KernelIdeal.Merge.mat (dh (A c) (A c).wa 0 (by decide)), fun c => Cert.KernelIdeal.Merge.mat (dh (A c) (A c).wb 1024 (by decide)),
    fun c => Cert.KernelIdeal.Merge.mat (dh (A c) (A c).wc 2048 (by decide)), fun c => Cert.KernelIdeal.Merge.mat (fun _ => dbias (A c)),
    (θ_run Cert.KernelIdeal.defs _ _).mono (fun r h c => ?_) (Cert.KernelIdeal.Value.run_blocks m ρ),
    (θ_run Cert.ReferenceIdeal.defs _ _).mono (fun r h c => ?_) (Cert.ReferenceIdeal.Merge.run m' ρ')⟩
  · obtain ⟨h0, h1, h2, h3, h4, h5, hk⟩ := h c
    exact ⟨h0.trans (Cert.KernelIdeal.Merge.final10 m c), h1.trans (Cert.KernelIdeal.Merge.final11 m c),
      h2.trans (Cert.KernelIdeal.Merge.final12 m c), h3.trans (Cert.KernelIdeal.Merge.final13 m c),
      h4.trans (Cert.KernelIdeal.Merge.final14 m c), h5.trans (Cert.KernelIdeal.Merge.final15 m c), hk⟩
  · obtain ⟨h0, h1, h2, h3, h4, h5, hk⟩ := h c
    rw [e c] at h0 h1 h2 h3 h4 h5
    exact ⟨h0, h1, h2, h3, h4, h5, hk⟩

end Cert.Proof.Merge

end
-- ==== Proof.DenseReferences.lean ====
/-
  The references of the step's products: what each result holds. `jax.vjp` prints a product's weight gradient as the
  transpose of `ctᵀ · x`, which is `xᵀ · ct`, and the squared ReLU's slope as a choice by the sign of its argument.
-/
module

public import Idealize.ShloMosaic.Lib.Pipeline.ValueKit
public import proofs.«01_k».proof.Proof.Products
public import proofs.«01_k».proof.Proof.MergeSpec
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import proofs.«01_k».proof.Proof.Gen.Reference8Ideal.Read
public import proofs.«01_k».proof.Proof.Gen.Reference9Ideal.Read
public import proofs.«01_k».proof.Proof.Gen.Reference11Ideal.Read
public import proofs.«01_k».proof.Proof.Gen.Reference19Ideal.Read
public import proofs.«01_k».proof.Proof.Gen.Reference20Ideal.Read
public import proofs.«01_k».proof.Proof.Gen.Reference21Ideal.Read

@[expose] public section

set_option maxRecDepth 16384

noncomputable section

open Idealize Idealize.ShloMosaic

namespace Cert.Reference3Ideal

open Read Cert.Step

theorem act_apply (x : Mat 16384 1024) (w : Mat 1024 4096) (b : Mat 1 4096) (r : Fin 16384) (l : Fin 4096) :
    val_main_v7 (F := Ideal) x w b (ix2 r l) = act x w b r l := by
  pointwise [val_main_v7, val_main_v6, val_main_v5, val_main_v4, val_main_v3, val_main_v2, val_main_v1, val_main_call0_v0, val_main_call0_cst]
  rfl

theorem result (ct x : Mat 16384 1024) (w : Mat 1024 4096) (b : Mat 1 4096) :
    val_main_v11 (F := Ideal) ct x w b = mat (tn (mat (act x w b)) ct) := by
  funext i
  idx_vars i
  pointwise [val_main_v11, val_main_v10, val_main_v0]
  simp only [act_apply]
  exact Finset.sum_congr rfl fun _ _ => mul_comm _ _

end Cert.Reference3Ideal

namespace Cert.Reference4Ideal

open Read Cert.Step

theorem result (ct : Mat 16384 4096) (x : Mat 16384 1024) : val_main_v5 (F := Ideal) ct x = mat (tn x ct) := by
  funext i
  idx_vars i
  pointwise [val_main_v5, val_main_v4, val_main_v3, val_main_v2, val_main_v1, val_main_v0]
  exact Finset.sum_congr rfl fun _ _ => mul_comm _ _

end Cert.Reference4Ideal

namespace Cert.Reference11Ideal

open Read Cert.Step

theorem result (ct x : Mat 16384 1024) : val_main_v5 (F := Ideal) ct x = mat (tn x ct) := by
  funext i
  idx_vars i
  pointwise [val_main_v5, val_main_v4, val_main_v3, val_main_v2, val_main_v1, val_main_v0]
  exact Finset.sum_congr rfl fun _ _ => mul_comm _ _

end Cert.Reference11Ideal

namespace Cert.Reference19Ideal

open Read Cert.Step

theorem result (ct : Mat 16384 3072) (x : Mat 16384 512) : val_main_v6 (F := Ideal) ct x = mat (tn x (branch 0 ct)) := by
  funext i
  idx_vars i
  pointwise [val_main_v6, val_main_v5, val_main_v4, val_main_v3, val_main_v2, val_main_v1, val_main_v0]
  refine Finset.sum_congr rfl fun _ _ => (mul_comm _ _).trans (congrArg (fun j => x _ * ct (ix2 _ j)) (Fin.ext ?_))
  exact (Nat.zero_add _).symm.trans (congrArg (· + _) (Nat.zero_mul 1024).symm)

end Cert.Reference19Ideal

namespace Cert.Reference20Ideal

open Read Cert.Step

theorem result (ct : Mat 16384 3072) (x : Mat 16384 512) : val_main_v6 (F := Ideal) ct x = mat (tn x (branch 1 ct)) := by
  funext i
  idx_vars i
  pointwise [val_main_v6, val_main_v5, val_main_v4, val_main_v3, val_main_v2, val_main_v1, val_main_v0]
  exact Finset.sum_congr rfl fun _ _ => mul_comm _ _

end Cert.Reference20Ideal

namespace Cert.Reference21Ideal

open Read Cert.Step

theorem result (ct : Mat 16384 3072) (x : Mat 16384 512) : val_main_v6 (F := Ideal) ct x = mat (tn x (branch 2 ct)) := by
  funext i
  idx_vars i
  pointwise [val_main_v6, val_main_v5, val_main_v4, val_main_v3, val_main_v2, val_main_v1, val_main_v0]
  exact Finset.sum_congr rfl fun _ _ => mul_comm _ _

end Cert.Reference21Ideal

namespace Cert.Reference5Ideal

open Read Cert.Step

theorem result (ct : Mat 16384 7296) (x : Mat 16384 1024) : val_main_v5 (F := Ideal) ct x = mat (tn x ct) := by
  funext i
  idx_vars i
  pointwise [val_main_v5, val_main_v4, val_main_v3, val_main_v2, val_main_v1, val_main_v0]
  exact Finset.sum_congr rfl fun _ _ => mul_comm _ _

end Cert.Reference5Ideal

namespace Cert.Reference6Ideal

open Read Cert.Step

theorem result (ct : Mat 16384 7296) (w : Mat 1024 7296) (res : Mat 16384 1024) :
    val_main_v9 (F := Ideal) ct w res = mat (fun i j => nt ct w i j + Ideal.ofBits .f32 0x3FB504F3#32 * res (ix2 i j)) := by
  funext i
  idx_vars i
  pointwise [val_main_v9, val_main_v8, val_main_v7, val_main_v6, val_main_v5, val_main_v1, val_main_cst_1]
  exact add_comm _ _

end Cert.Reference6Ideal

namespace Cert.Reference9Ideal

open Read Cert.Step

theorem result (x : Mat 16384 1024) (w : Mat 1024 7296) : val_main_v3 (F := Ideal) x w = mat (nn x w) := by
  funext i
  idx_vars i
  pointwise [val_main_v3, val_main_v2, val_main_v1, val_main_v0]
  rfl

end Cert.Reference9Ideal

namespace Cert.Reference8Ideal

open Read Cert.Step

theorem result0 (x : Mat 16384 1024) (w : Mat 1024 4096) (b : Mat 1 4096) : val_main_v5 (F := Ideal) x w b = mat (pre x w b) := by
  funext i
  idx_vars i
  pointwise [val_main_v5, val_main_v4, val_main_v3, val_main_v2, val_main_v1, val_main_v0]
  rfl

theorem result1 (x : Mat 16384 1024) (w : Mat 1024 4096) (b : Mat 1 4096) : val_main_v8 (F := Ideal) x w b = mat (act x w b) := by
  funext i
  idx_vars i
  pointwise [val_main_v8, val_main_v7, val_main_v6, val_main_v4, val_main_v3, val_main_v2, val_main_v1, val_main_v0, val_main_call0_v0, val_main_call0_cst]
  rfl

end Cert.Reference8Ideal

namespace Cert.Reference2Ideal

open Read Cert.Step

variable (ct x : Mat 16384 1024) (w1 : Mat 1024 4096) (b : Mat 1 4096) (w2 : Mat 4096 1024)

theorem pre_apply (r : Fin 16384) (l : Fin 4096) : val_main_v6 (F := Ideal) x w1 b (ix2 r l) = pre x w1 b r l := by
  pointwise [val_main_v6, val_main_v5, val_main_v4, val_main_v2, val_main_v1]
  rfl

/-- Where the hidden layer is positive both are the product; elsewhere both are zero. -/
theorem dpre_apply (r : Fin 16384) (l : Fin 4096) :
    val_main_v18 (F := Ideal) ct x w1 b w2 (ix2 r l) = dpre ct w2 (mat (pre x w1 b)) r l := by
  pointwise [val_main_v18, val_main_v17, val_main_v16, val_main_v15, val_main_v13, val_main_v12, val_main_v9, val_main_v8, val_main_v7,
    val_main_v3, val_main_v0, val_main_call0_v0, val_main_call0_cst, val_main_cst, val_main_cst_1, val_main_cst_2]
  rw [pre_apply]
  unfold dpre
  split
  · rfl
  · rename_i h
    exact (congrArg (fun v => nt ct w2 r l * (two * v)) (max_eq_right (not_lt.mp h))).trans (by rw [mul_zero, mul_zero]) |>.symm

theorem result0 : val_main_v21 (F := Ideal) ct x w1 b w2 = mat (dpre ct w2 (mat (pre x w1 b))) := by
  funext i
  idx_vars i
  exact dpre_apply ct x w1 b w2 _ _

theorem result1 : val_main_v20 (F := Ideal) ct x w1 b w2 = mat (fun _ : Fin 1 => fun l => ∑ r, dpre ct w2 (mat (pre x w1 b)) r l) := by
  funext i
  idx_vars i
  pointwise [val_main_v20, val_main_v19, val_main_cst_3]
  simp only [dpre_apply]
  rfl

end Cert.Reference2Ideal

namespace Cert.Reference7Ideal

open Read Cert.Merge

variable (A : Args)

theorem gate_apply (r : Fin 16384) (q : Fin 3072) : val_main_v18 (F := Ideal) A.p A.bg (ix2 r q) = gate A r q := by
  pointwise [val_main_v18, val_main_v17, val_main_v16, val_main_v15, val_main_v14, val_main_v13, val_main_v12, val_main_v11, val_main_v10,
    val_main_v0, val_main_cst, val_main_cst_0]
  rfl

theorem prod_apply (h : Mat 16384 512) (w : Mat 512 1024) (r : Fin 16384) (l : Fin 1024) :
    val_main_v7 (F := Ideal) h w (ix2 r l) = prod h w r l := by
  pointwise [val_main_v7, val_main_v1, val_main_v4]
  rfl

theorem result0 : val_main_v23 (F := Ideal) A.ha A.hb A.hc A.wa A.wb A.wc = Cert.Step.mat (y A) := by
  funext i
  idx_vars i
  refine Eq.trans ?_ (show y A i0 i1 = _ from rfl)
  pointwise [val_main_v23, val_main_v22]
  unfold y
  split
  · exact prod_apply _ _ _ _
  split
  · exact prod_apply _ _ _ _
  · exact prod_apply _ _ _ _

theorem result1 : val_main_v29 (F := Ideal) A.p A.ha A.hb A.hc A.wa A.wb A.wc A.bg = Cert.Step.mat (merged A) := by
  funext i
  idx_vars i
  pointwise [val_main_v29, val_main_v28, val_main_v27, val_main_v26, val_main_v25, val_main_v24, val_main_v21, val_main_v20, val_main_v19]
  rw [show (⟨i1.val, by omega⟩ : Fin 3072) = col 0 (by decide) i1 from Fin.ext (Nat.zero_add _).symm]
  simp only [gate_apply]
  exact congrArg₂ (· + ·) (congrArg₂ (· + ·) (congrArg (_ * ·) (prod_apply _ _ _ _)) (congrArg (_ * ·) (prod_apply _ _ _ _)))
    (congrArg (_ * ·) (prod_apply _ _ _ _))

end Cert.Reference7Ideal

end
-- ==== Proof.Ff2Bwd.lean ====
/-
  The second feed-forward product's cotangent through the squared ReLU: the kernel's arrays are `dpre` and its sum over the rows.

  The grid is 4 × 16 points, one for each tile of 1024 columns and 1024 rows. The sum over the rows is one block for each
  tile of columns: its first point sets it to zero, every point adds its part, and the last point writes it back.
-/
module

public import Idealize.ShloMosaic.Lib.Pipeline.ValueKit
public import Idealize.ShloMosaic.Lib.StableHlo.ReadAt
public import proofs.«01_k».proof.Proof.Products
public import proofs.«01_k».proof.Proof.Gen.Kernel2Ideal.Value

@[expose] public section

set_option maxRecDepth 16384

noncomputable section

namespace Cert.Kernel2Ideal.Dense

open Cert.Kernel2Ideal Cert.Kernel2Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := m ((c : Thread nD τ).loc main_arg0)
abbrev x (c : Dev nD) : Mat 16384 1024 := m ((c : Thread nD τ).loc main_arg1)
abbrev w1 (c : Dev nD) : Mat 1024 4096 := m ((c : Thread nD τ).loc main_arg2)
abbrev bias (c : Dev nD) : Mat 1 4096 := m ((c : Thread nD τ).loc main_arg3)
abbrev w2 (c : Dev nD) : Mat 4096 1024 := m ((c : Thread nD τ).loc main_arg4)

/-- The hidden layer that the host prepares. -/
abbrev h (c : Dev nD) : Mat 16384 4096 := mat (pre (x m c) (w1 m c) (bias m c))

theorem h_host (c : Dev nD) : V m c main_v5 = h m c := by
  funext i
  idx_vars i
  unfold V hostOps0
  after_reads_at
  rfl

/-- The row and the column of a point. -/
def row (t : Fin cfg0.N) (r : Fin 1024) : Fin 16384 := ⟨t.val % 16 * 1024 + r.val, by idx_bounds; omega⟩
def col (t : Fin cfg0.N) (l : Fin 1024) : Fin 4096 := ⟨t.val / 16 * 1024 + l.val, by have := t.isLt; have := l.isLt; simp only [show cfg0.N = 64 from N_0] at *; omega⟩

theorem blk0 (c : Dev nD) (t : Fin cfg0.N) (r k : Fin 1024) : iblk m c 0 t (ix2 r k) = ct m c (ix2 (row t r) k) := by
  have e : ∀ t : Fin cfg0.N, win0_0.index t = ![t.val % 16, 0] := (by decide +kernel : ∀ t : Fin grid0.N, _)
  blk_simp [iblk]
  rw [V_main_arg0]
  unfold row
  blk_ext [e]

theorem blk1 (c : Dev nD) (t : Fin cfg0.N) (l k : Fin 1024) : iblk m c 1 t (ix2 l k) = w2 m c (ix2 (col t l) k) := by
  have e : ∀ t : Fin cfg0.N, win0_1.index t = ![t.val / 16, 0] := (by decide +kernel : ∀ t : Fin grid0.N, _)
  blk_simp [iblk]
  rw [V_main_arg4]
  unfold col
  blk_ext [e]

theorem blk2 (c : Dev nD) (t : Fin cfg0.N) (r l : Fin 1024) : iblk m c 2 t (ix2 r l) = h m c (ix2 (row t r) (col t l)) := by
  have e : ∀ t : Fin cfg0.N, win0_2.index t = ![t.val % 16, t.val / 16] := (by decide +kernel : ∀ t : Fin grid0.N, _)
  blk_simp [iblk]
  rw [h_host]
  unfold row col
  blk_ext [e]

abbrev dh (c : Dev nD) (i : Fin 16384) (j : Fin 4096) : EReal := dpre (ct m c) (w2 m c) (h m c) i j

theorem dh_tile (c : Dev nD) (t : Fin cfg0.N) (r l : Fin 1024) :
    k0_pay2 (F := Ideal) (iblk m c 0 t) (iblk m c 1 t) (iblk m c 2 t) (ix2 r l) = dh m c (row t r) (col t l) := by
  pointwise [k0_pay2]
  simp only [blk0, blk1, blk2]
  rfl

theorem out3 (c : Dev nD) (t : Fin cfg0.N) (r l : Fin 1024) :
    (outsAt0 (F := Ideal) m c t.val t.isLt).1 (ix2 r l) = dh m c (row t r) (col t l) := by
  by_cases h : t.val % 16 = 0
  on_goal 1 => rw [Gen.outsAt0_A m c t h]
  on_goal 2 => rw [Gen.outsAt0_B m c t h]
  all_goals
    frame_out
    exact dh_tile m c t r l

/-- One tile's part of a column's sum. -/
def part (c : Dev nD) (t : Fin cfg0.N) (l : Fin 1024) : EReal := ∑ r : Fin 1024, dh m c (row t r) (col t l)

theorem step (c : Dev nD) (t : Fin cfg0.N) (v : Vec Ideal S1x1024 .f32) (l : Fin 1024) :
    k0_pay4 (iblk m c 0 t) (iblk m c 1 t) (iblk m c 2 t) v (ix2 0 l) = v (ix2 0 l) + part m c t l := by
  pointwise [k0_pay4]
  simp only [dh_tile]
  rfl

theorem out_A (c : Dev nD) (t : Fin cfg0.N) (ht : t.val % 16 = 0) (l : Fin 1024) :
    (outsAt0 (F := Ideal) m c t.val t.isLt).2 (ix2 0 l) = 0 + part m c t l := by
  rw [Gen.outsAt0_A m c t ht]
  frame_out
  refine (step m c t _ _).trans (congrArg (· + _) ?_)
  pointwise [k0_pay1]

theorem out_B (c : Dev nD) (t : Fin cfg0.N) (ht : ¬ t.val % 16 = 0) (l : Fin 1024) :
    (outsAt0 (F := Ideal) m c t.val t.isLt).2 (ix2 0 l)
      = (outsAt0 (F := Ideal) m c (t.val - 1) (Nat.lt_of_le_of_lt (Nat.sub_le _ _) t.isLt)).2 (ix2 0 l) + part m c t l := by
  rw [Gen.outsAt0_B m c t ht]
  frame_out
  exact step m c t _ _

theorem out4 (c : Dev nD) (t : Fin cfg0.N) (ht : t.val % 16 = 15) (l : Fin 1024) :
    (outsAt0 (F := Ideal) m c t.val t.isLt).2 (ix2 0 l) = ∑ i, dh m c i (col t l) := by
  refine (Pipeline.eq_sum_fin_of_reset_step_apply_of_flush
    (fun n hn l => (outsAt0 (F := Ideal) m c n hn).2 (ix2 0 l)) 16 (fun _ => 0) (part m c) (out_A m c) (out_B m c) t ht l).trans ?_
  rw [zero_add]
  refine sum_runs 16 1024 16384 rfl _ _ fun s r hr => ?_
  have e0 : row ⟨16 * (t.val / 16) + s.val, Pipeline.run_point_lt_of_flush t ht s⟩ r = ⟨s.val * 1024 + r.val, hr⟩ :=
    Fin.ext (by simp only [row]; omega)
  have e1 : col ⟨16 * (t.val / 16) + s.val, Pipeline.run_point_lt_of_flush t ht s⟩ l = col t l :=
    Fin.ext (by simp only [col]; omega)
  rw [e0, e1]

theorem final3 (c : Dev nD) : (dats m 0 c).arrAt 3 cfg0.N = mat (dh m c) := by
  have e : ∀ t : Fin cfg0.N, win0_3.index t = ![t.val % 16, t.val / 16] := (by decide +kernel : ∀ t : Fin grid0.N, _)
  refine (dats m 0 c).arrAt_eq_of_covers 3 _ (by decide +kernel) fun t hf j => ?_
  blk_simp
  rw [after0_3]
  idx_vars j
  refine (out3 m c t _ _).trans (congrArg₂ (dh m c) (Fin.ext ?_) (Fin.ext ?_))
  all_goals blk_simp [e, row, col]

theorem final4 (c : Dev nD) : (dats m 0 c).arrAt 4 cfg0.N = mat (fun _ : Fin 1 => fun j => ∑ i, dh m c i j) := by
  have e : ∀ t : Fin cfg0.N, win0_4.index t = ![0, t.val / 16] := (by decide +kernel : ∀ t : Fin grid0.N, _)
  refine (dats m 0 c).arrAt_eq_of_covers 4 _ (by decide +kernel) fun t hf j => ?_
  blk_simp
  rw [after0_4]
  idx_vars j
  obtain rfl : j0 = 0 := Subsingleton.elim _ _
  refine (out4 m c t ((flush0_4 t).mp hf) _).trans (congrArg (fun j => ∑ i, dh m c i j) (Fin.ext ?_))
  blk_simp [e, col]

end Cert.Kernel2Ideal.Dense

end
-- ==== Proof.DwFf2.lean ====
/-
  The gradient of `w_ff2`: the kernel's array is `hᵀ · ct`.

  The grid is 4 × 1 × 16 points: 4 tiles of 1024 rows of the result, and for each 16 steps of 1024 rows of the contracted
  axis. A tile's first step sets it to zero, every step adds its part, and the last step writes it back.
-/
module

public import Idealize.ShloMosaic.Lib.Pipeline.ValueKit
public import Idealize.ShloMosaic.Lib.StableHlo.ReadAt
public import proofs.«01_k».proof.Proof.Products
public import proofs.«01_k».proof.Proof.Gen.Kernel3Ideal.Value

@[expose] public section

set_option maxRecDepth 16384

noncomputable section

namespace Cert.Kernel3Ideal.Dense

open Cert.Kernel3Ideal Cert.Kernel3Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := m ((c : Thread nD τ).loc main_arg0)
abbrev x (c : Dev nD) : Mat 16384 1024 := m ((c : Thread nD τ).loc main_arg1)
abbrev w (c : Dev nD) : Mat 1024 4096 := m ((c : Thread nD τ).loc main_arg2)
abbrev bias (c : Dev nD) : Mat 1 4096 := m ((c : Thread nD τ).loc main_arg3)

/-- The hidden layer that the host prepares. -/
abbrev h (c : Dev nD) : Mat 16384 4096 := mat (act (x m c) (w m c) (bias m c))

theorem h_host (c : Dev nD) : V m c main_v7 = h m c := by
  funext i
  idx_vars i
  unfold V hostOps0
  after_reads_at
  rfl

/-- The contracted row, and the result's row, of a point. -/
def row (t : Fin cfg0.N) (r : Fin 1024) : Fin 16384 := ⟨t.val % 16 * 1024 + r.val, by idx_bounds; omega⟩
def col (t : Fin cfg0.N) (a : Fin 1024) : Fin 4096 := ⟨t.val / 16 * 1024 + a.val, by have := t.isLt; have := a.isLt; simp only [show cfg0.N = 64 from N_0] at *; omega⟩

theorem blk0 (c : Dev nD) (t : Fin cfg0.N) (r a : Fin 1024) : iblk m c 0 t (ix2 r a) = h m c (ix2 (row t r) (col t a)) := by
  have e : ∀ t : Fin cfg0.N, win0_0.index t = ![t.val % 16, t.val / 16] := (by decide +kernel : ∀ t : Fin grid0.N, _)
  blk_simp [iblk]
  rw [h_host]
  unfold row col
  blk_ext [e]

theorem blk1 (c : Dev nD) (t : Fin cfg0.N) (r l : Fin 1024) : iblk m c 1 t (ix2 r l) = ct m c (ix2 (row t r) l) := by
  have e : ∀ t : Fin cfg0.N, win0_1.index t = ![t.val % 16, 0] := (by decide +kernel : ∀ t : Fin grid0.N, _)
  blk_simp [iblk]
  rw [V_main_arg0]
  unfold row
  blk_ext [e]

/-- One step's part of an entry. -/
def part (c : Dev nD) (t : Fin cfg0.N) (a l : Fin 1024) : EReal :=
  ∑ r : Fin 1024, h m c (ix2 (row t r) (col t a)) * ct m c (ix2 (row t r) l)

theorem step (c : Dev nD) (t : Fin cfg0.N) (v : Vec Ideal S1024x1024 .f32) (a l : Fin 1024) :
    k0_pay2 v (iblk m c 0 t) (iblk m c 1 t) (ix2 a l) = v (ix2 a l) + part m c t a l := by
  pointwise [k0_pay2]
  simp only [blk0, blk1]
  rfl

theorem out_A (c : Dev nD) (t : Fin cfg0.N) (ht : t.val % 16 = 0) (q : Fin 1024 × Fin 1024) :
    outsAt0 (F := Ideal) m c t.val t.isLt (ix2 q.1 q.2) = 0 + part m c t q.1 q.2 := by
  rw [Gen.outsAt0_A m c t ht]
  frame_out
  refine (step m c t _ _ _).trans (congrArg (· + _) ?_)
  pointwise [k0_pay1]

theorem out_B (c : Dev nD) (t : Fin cfg0.N) (ht : ¬ t.val % 16 = 0) (q : Fin 1024 × Fin 1024) :
    outsAt0 (F := Ideal) m c t.val t.isLt (ix2 q.1 q.2)
      = outsAt0 (F := Ideal) m c (t.val - 1) (Nat.lt_of_le_of_lt (Nat.sub_le _ _) t.isLt) (ix2 q.1 q.2) + part m c t q.1 q.2 := by
  rw [Gen.outsAt0_B m c t ht]
  frame_out
  exact step m c t _ _ _

theorem out (c : Dev nD) (t : Fin cfg0.N) (ht : t.val % 16 = 15) (a l : Fin 1024) :
    outsAt0 (F := Ideal) m c t.val t.isLt (ix2 a l) = tn (h m c) (ct m c) (col t a) l := by
  refine (Pipeline.eq_sum_fin_of_reset_step_apply_of_flush
    (fun n hn (q : Fin 1024 × Fin 1024) => outsAt0 (F := Ideal) m c n hn (ix2 q.1 q.2)) 16 (fun _ => 0)
    (fun t q => part m c t q.1 q.2) (out_A m c) (out_B m c) t ht (a, l)).trans ?_
  rw [zero_add]
  refine sum_runs 16 1024 16384 rfl _ _ fun s r hr => ?_
  have e0 : row ⟨16 * (t.val / 16) + s.val, Pipeline.run_point_lt_of_flush t ht s⟩ r = ⟨s.val * 1024 + r.val, hr⟩ :=
    Fin.ext (by simp only [row]; omega)
  have e1 : col ⟨16 * (t.val / 16) + s.val, Pipeline.run_point_lt_of_flush t ht s⟩ a = col t a :=
    Fin.ext (by simp only [col]; omega)
  rw [e0, e1]

theorem final (c : Dev nD) : (dats m 0 c).arrAt 2 cfg0.N = mat (tn (h m c) (ct m c)) := by
  have e : ∀ t : Fin cfg0.N, win0_2.index t = ![t.val / 16, 0] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e, col]

end Cert.Kernel3Ideal.Dense

end
-- ==== Proof.DwFf1.lean ====
/-
  The gradient of `w_ff1`: the kernel's array is `xᵀ · ct`.

  The grid is 1 × 4 × 16 points: 4 tiles of 1024 columns of the result, and for each 16 steps of 1024 rows of the contracted
  axis. A tile's first step sets it to zero, every step adds its part, and the last step writes it back.
-/
module

public import Idealize.ShloMosaic.Lib.Pipeline.ValueKit
public import Idealize.ShloMosaic.Lib.StableHlo.ReadAt
public import proofs.«01_k».proof.Proof.Products
public import proofs.«01_k».proof.Proof.Gen.Kernel4Ideal.Value

@[expose] public section

set_option maxRecDepth 16384

noncomputable section

namespace Cert.Kernel4Ideal.Dense

open Cert.Kernel4Ideal Cert.Kernel4Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 4096 := m ((c : Thread nD τ).loc main_arg0)
abbrev x (c : Dev nD) : Mat 16384 1024 := m ((c : Thread nD τ).loc main_arg1)

/-- The contracted row, and the result's column, of a point. -/
def row (t : Fin cfg0.N) (r : Fin 1024) : Fin 16384 := ⟨t.val % 16 * 1024 + r.val, by idx_bounds; omega⟩
def col (t : Fin cfg0.N) (l : Fin 1024) : Fin 4096 := ⟨t.val / 16 * 1024 + l.val, by have := t.isLt; have := l.isLt; simp only [show cfg0.N = 64 from N_0] at *; omega⟩

theorem blk0 (c : Dev nD) (t : Fin cfg0.N) (r a : Fin 1024) : iblk m c 0 t (ix2 r a) = x m c (ix2 (row t r) a) := by
  have e : ∀ t : Fin cfg0.N, win0_0.index t = ![t.val % 16, 0] := (by decide +kernel : ∀ t : Fin grid0.N, _)
  blk_simp [iblk]
  rw [V_main_arg1]
  unfold row
  blk_ext [e]

theorem blk1 (c : Dev nD) (t : Fin cfg0.N) (r : Fin 1024) (l : Fin 1024) : iblk m c 1 t (ix2 r l) = ct m c (ix2 (row t r) (col t l)) := by
  have e : ∀ t : Fin cfg0.N, win0_1.index t = ![t.val % 16, t.val / 16] := (by decide +kernel : ∀ t : Fin grid0.N, _)
  blk_simp [iblk]
  rw [V_main_arg0]
  unfold row col
  blk_ext [e]

/-- One step's part of an entry. -/
def part (c : Dev nD) (t : Fin cfg0.N) (a : Fin 1024) (l : Fin 1024) : EReal :=
  ∑ r : Fin 1024, x m c (ix2 (row t r) a) * ct m c (ix2 (row t r) (col t l))

theorem step (c : Dev nD) (t : Fin cfg0.N) (v : Vec Ideal S1024x1024 .f32) (a : Fin 1024) (l : Fin 1024) :
    k0_pay2 v (iblk m c 0 t) (iblk m c 1 t) (ix2 a l) = v (ix2 a l) + part m c t a l := by
  pointwise [k0_pay2]
  simp only [blk0, blk1]
  rfl

theorem out_A (c : Dev nD) (t : Fin cfg0.N) (ht : t.val % 16 = 0) (q : Fin 1024 × Fin 1024) :
    outsAt0 (F := Ideal) m c t.val t.isLt (ix2 q.1 q.2) = 0 + part m c t q.1 q.2 := by
  rw [Gen.outsAt0_A m c t ht]
  frame_out
  refine (step m c t _ _ _).trans (congrArg (· + _) ?_)
  pointwise [k0_pay1]

theorem out_B (c : Dev nD) (t : Fin cfg0.N) (ht : ¬ t.val % 16 = 0) (q : Fin 1024 × Fin 1024) :
    outsAt0 (F := Ideal) m c t.val t.isLt (ix2 q.1 q.2)
      = outsAt0 (F := Ideal) m c (t.val - 1) (Nat.lt_of_le_of_lt (Nat.sub_le _ _) t.isLt) (ix2 q.1 q.2) + part m c t q.1 q.2 := by
  rw [Gen.outsAt0_B m c t ht]
  frame_out
  exact step m c t _ _ _

theorem out (c : Dev nD) (t : Fin cfg0.N) (ht : t.val % 16 = 15) (a : Fin 1024) (l : Fin 1024) :
    outsAt0 (F := Ideal) m c t.val t.isLt (ix2 a l) = tn (x m c) (ct m c) a (col t l) := by
  refine (Pipeline.eq_sum_fin_of_reset_step_apply_of_flush
    (fun n hn (q : Fin 1024 × Fin 1024) => outsAt0 (F := Ideal) m c n hn (ix2 q.1 q.2)) 16 (fun _ => 0)
    (fun t q => part m c t q.1 q.2) (out_A m c) (out_B m c) t ht (a, l)).trans ?_
  rw [zero_add]
  refine sum_runs 16 1024 16384 rfl _ _ fun s r hr => ?_
  have e0 : row ⟨16 * (t.val / 16) + s.val, Pipeline.run_point_lt_of_flush t ht s⟩ r = ⟨s.val * 1024 + r.val, hr⟩ :=
    Fin.ext (by simp only [row]; omega)
  have e1 : col ⟨16 * (t.val / 16) + s.val, Pipeline.run_point_lt_of_flush t ht s⟩ l = col t l :=
    Fin.ext (by simp only [col]; omega)
  rw [e0, e1]

theorem final (c : Dev nD) : (dats m 0 c).arrAt 2 cfg0.N = mat (tn (x m c) (ct m c)) := by
  have e : ∀ t : Fin cfg0.N, win0_2.index t = ![0, t.val / 16] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e, col]

end Cert.Kernel4Ideal.Dense

end
-- ==== Proof.DwProj.lean ====
/-
  The gradient of the projections' weight: the kernel's array is `xᵀ · ct`.

  The grid is 1 × 3 × 16 points: 3 tiles of 2432 columns of the result, and for each 16 steps of 1024 rows of the contracted
  axis. A tile's first step sets it to zero, every step adds its part, and the last step writes it back.
-/
module

public import Idealize.ShloMosaic.Lib.Pipeline.ValueKit
public import Idealize.ShloMosaic.Lib.StableHlo.ReadAt
public import proofs.«01_k».proof.Proof.Products
public import proofs.«01_k».proof.Proof.Gen.Kernel5Ideal.Value

@[expose] public section

set_option maxRecDepth 16384

noncomputable section

namespace Cert.Kernel5Ideal.Dense

open Cert.Kernel5Ideal Cert.Kernel5Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 7296 := m ((c : Thread nD τ).loc main_arg0)
abbrev x (c : Dev nD) : Mat 16384 1024 := m ((c : Thread nD τ).loc main_arg1)

/-- The contracted row, and the result's column, of a point. -/
def row (t : Fin cfg0.N) (r : Fin 1024) : Fin 16384 := ⟨t.val % 16 * 1024 + r.val, by idx_bounds; omega⟩
def col (t : Fin cfg0.N) (l : Fin 2432) : Fin 7296 := ⟨t.val / 16 * 2432 + l.val, by have := t.isLt; have := l.isLt; simp only [show cfg0.N = 48 from N_0] at *; omega⟩

theorem blk0 (c : Dev nD) (t : Fin cfg0.N) (r a : Fin 1024) : iblk m c 0 t (ix2 r a) = x m c (ix2 (row t r) a) := by
  have e : ∀ t : Fin cfg0.N, win0_0.index t = ![t.val % 16, 0] := (by decide +kernel : ∀ t : Fin grid0.N, _)
  blk_simp [iblk]
  rw [V_main_arg1]
  unfold row
  blk_ext [e]

theorem blk1 (c : Dev nD) (t : Fin cfg0.N) (r : Fin 1024) (l : Fin 2432) : iblk m c 1 t (ix2 r l) = ct m c (ix2 (row t r) (col t l)) := by
  have e : ∀ t : Fin cfg0.N, win0_1.index t = ![t.val % 16, t.val / 16] := (by decide +kernel : ∀ t : Fin grid0.N, _)
  blk_simp [iblk]
  rw [V_main_arg0]
  unfold row col
  blk_ext [e]

/-- One step's part of an entry. -/
def part (c : Dev nD) (t : Fin cfg0.N) (a : Fin 1024) (l : Fin 2432) : EReal :=
  ∑ r : Fin 1024, x m c (ix2 (row t r) a) * ct m c (ix2 (row t r) (col t l))

theorem step (c : Dev nD) (t : Fin cfg0.N) (v : Vec Ideal S1024x2432 .f32) (a : Fin 1024) (l : Fin 2432) :
    k0_pay2 v (iblk m c 0 t) (iblk m c 1 t) (ix2 a l) = v (ix2 a l) + part m c t a l := by
  pointwise [k0_pay2]
  simp only [blk0, blk1]
  rfl

theorem out_A (c : Dev nD) (t : Fin cfg0.N) (ht : t.val % 16 = 0) (q : Fin 1024 × Fin 2432) :
    outsAt0 (F := Ideal) m c t.val t.isLt (ix2 q.1 q.2) = 0 + part m c t q.1 q.2 := by
  rw [Gen.outsAt0_A m c t ht]
  frame_out
  refine (step m c t _ _ _).trans (congrArg (· + _) ?_)
  pointwise [k0_pay1]

theorem out_B (c : Dev nD) (t : Fin cfg0.N) (ht : ¬ t.val % 16 = 0) (q : Fin 1024 × Fin 2432) :
    outsAt0 (F := Ideal) m c t.val t.isLt (ix2 q.1 q.2)
      = outsAt0 (F := Ideal) m c (t.val - 1) (Nat.lt_of_le_of_lt (Nat.sub_le _ _) t.isLt) (ix2 q.1 q.2) + part m c t q.1 q.2 := by
  rw [Gen.outsAt0_B m c t ht]
  frame_out
  exact step m c t _ _ _

theorem out (c : Dev nD) (t : Fin cfg0.N) (ht : t.val % 16 = 15) (a : Fin 1024) (l : Fin 2432) :
    outsAt0 (F := Ideal) m c t.val t.isLt (ix2 a l) = tn (x m c) (ct m c) a (col t l) := by
  refine (Pipeline.eq_sum_fin_of_reset_step_apply_of_flush
    (fun n hn (q : Fin 1024 × Fin 2432) => outsAt0 (F := Ideal) m c n hn (ix2 q.1 q.2)) 16 (fun _ => 0)
    (fun t q => part m c t q.1 q.2) (out_A m c) (out_B m c) t ht (a, l)).trans ?_
  rw [zero_add]
  refine sum_runs 16 1024 16384 rfl _ _ fun s r hr => ?_
  have e0 : row ⟨16 * (t.val / 16) + s.val, Pipeline.run_point_lt_of_flush t ht s⟩ r = ⟨s.val * 1024 + r.val, hr⟩ :=
    Fin.ext (by simp only [row]; omega)
  have e1 : col ⟨16 * (t.val / 16) + s.val, Pipeline.run_point_lt_of_flush t ht s⟩ l = col t l :=
    Fin.ext (by simp only [col]; omega)
  rw [e0, e1]

theorem final (c : Dev nD) : (dats m 0 c).arrAt 2 cfg0.N = mat (tn (x m c) (ct m c)) := by
  have e : ∀ t : Fin cfg0.N, win0_2.index t = ![0, t.val / 16] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e, col]

end Cert.Kernel5Ideal.Dense

end
-- ==== Proof.DwO.lean ====
/-
  The gradient of `w_o`: the kernel's array is `xᵀ · ct`, with `x` the merge's result.

  The grid is 16 steps of 1024 rows of the contracted axis over the one tile that is the whole result. The first step sets it
  to zero, every step adds its part, and the last step writes it back.
-/
module

public import Idealize.ShloMosaic.Lib.Pipeline.ValueKit
public import Idealize.ShloMosaic.Lib.StableHlo.ReadAt
public import proofs.«01_k».proof.Proof.Products
public import proofs.«01_k».proof.Proof.Gen.Kernel11Ideal.Value

@[expose] public section

set_option maxRecDepth 16384

noncomputable section

namespace Cert.Kernel11Ideal.Dense

open Cert.Kernel11Ideal Cert.Kernel11Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := m ((c : Thread nD τ).loc main_arg0)
abbrev x (c : Dev nD) : Mat 16384 1024 := m ((c : Thread nD τ).loc main_arg1)

/-- The contracted row of a step. -/
def row (t : Fin cfg0.N) (r : Fin 1024) : Fin 16384 := ⟨t.val % 16 * 1024 + r.val, by idx_bounds; omega⟩

theorem blk0 (c : Dev nD) (t : Fin cfg0.N) (r a : Fin 1024) : iblk m c 0 t (ix2 r a) = x m c (ix2 (row t r) a) := by
  have e : ∀ t : Fin cfg0.N, win0_0.index t = ![t.val % 16, 0] := (by decide +kernel : ∀ t : Fin grid0.N, _)
  blk_simp [iblk]
  rw [V_main_arg1]
  unfold row
  blk_ext [e]

theorem blk1 (c : Dev nD) (t : Fin cfg0.N) (r l : Fin 1024) : iblk m c 1 t (ix2 r l) = ct m c (ix2 (row t r) l) := by
  have e : ∀ t : Fin cfg0.N, win0_1.index t = ![t.val % 16, 0] := (by decide +kernel : ∀ t : Fin grid0.N, _)
  blk_simp [iblk]
  rw [V_main_arg0]
  unfold row
  blk_ext [e]

/-- One step's part of an entry. -/
def part (c : Dev nD) (t : Fin cfg0.N) (q : Fin 1024 × Fin 1024) : EReal :=
  ∑ r : Fin 1024, x m c (ix2 (row t r) q.1) * ct m c (ix2 (row t r) q.2)

theorem step (c : Dev nD) (t : Fin cfg0.N) (v : Vec Ideal S1024x1024 .f32) (q : Fin 1024 × Fin 1024) :
    k0_pay2 v (iblk m c 0 t) (iblk m c 1 t) (ix2 q.1 q.2) = v (ix2 q.1 q.2) + part m c t q := by
  pointwise [k0_pay2]
  simp only [blk0, blk1]
  rfl

theorem out_A (c : Dev nD) (t : Fin cfg0.N) (ht : t.val % 16 = 0) (q : Fin 1024 × Fin 1024) :
    outsAt0 (F := Ideal) m c t.val t.isLt (ix2 q.1 q.2) = 0 + part m c t q := by
  rw [Gen.outsAt0_A m c t ht]
  frame_out
  refine (step m c t _ _).trans (congrArg (· + _) ?_)
  pointwise [k0_pay1]

theorem out_B (c : Dev nD) (t : Fin cfg0.N) (ht : ¬ t.val % 16 = 0) (q : Fin 1024 × Fin 1024) :
    outsAt0 (F := Ideal) m c t.val t.isLt (ix2 q.1 q.2)
      = outsAt0 (F := Ideal) m c (t.val - 1) (Nat.lt_of_le_of_lt (Nat.sub_le _ _) t.isLt) (ix2 q.1 q.2) + part m c t q := by
  rw [Gen.outsAt0_B m c t ht]
  frame_out
  exact step m c t _ _

theorem out (c : Dev nD) (t : Fin cfg0.N) (ht : t.val % 16 = 15) (a l : Fin 1024) :
    outsAt0 (F := Ideal) m c t.val t.isLt (ix2 a l) = tn (x m c) (ct m c) a l := by
  refine (Pipeline.eq_sum_fin_of_reset_step_apply_of_flush
    (fun n hn (q : Fin 1024 × Fin 1024) => outsAt0 (F := Ideal) m c n hn (ix2 q.1 q.2)) 16 (fun _ => 0)
    (fun t q => part m c t q) (out_A m c) (out_B m c) t ht (a, l)).trans ?_
  rw [zero_add]
  refine sum_runs 16 1024 16384 rfl _ _ fun s r hr => ?_
  rw [show row ⟨16 * (t.val / 16) + s.val, Pipeline.run_point_lt_of_flush t ht s⟩ r = ⟨s.val * 1024 + r.val, hr⟩ from
    Fin.ext (by simp only [row]; omega)]

theorem final (c : Dev nD) : (dats m 0 c).arrAt 2 cfg0.N = mat (tn (x m c) (ct m c)) := by
  have e : ∀ t : Fin cfg0.N, win0_2.index t = ![0, 0] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e]

end Cert.Kernel11Ideal.Dense

end
-- ==== Proof.DwP.lean ====
/-
  The gradients of the three branches' output products: each kernel's array is `xᵀ · ct`, with `x` the branch's output and `ct`
  its third of the cotangents' columns.

  The grid is 16 steps of 1024 rows of the contracted axis over the one tile that is the whole result. The first step sets it
  to zero, every step adds its part, and the last step writes it back.
-/
module

public import Idealize.ShloMosaic.Lib.Pipeline.ValueKit
public import Idealize.ShloMosaic.Lib.StableHlo.ReadAt
public import proofs.«01_k».proof.Proof.Products
public import proofs.«01_k».proof.Proof.Gen.Kernel19Ideal.Value
public import proofs.«01_k».proof.Proof.Gen.Kernel20Ideal.Value
public import proofs.«01_k».proof.Proof.Gen.Kernel21Ideal.Value

@[expose] public section

set_option maxRecDepth 16384

noncomputable section

namespace Cert.Kernel19Ideal.Dense

open Cert.Kernel19Ideal Cert.Kernel19Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := branch 0 (m ((c : Thread nD τ).loc main_arg0))
abbrev x (c : Dev nD) : Mat 16384 512 := m ((c : Thread nD τ).loc main_arg1)

/-- The contracted row of a step. -/
def row (t : Fin cfg0.N) (r : Fin 1024) : Fin 16384 := ⟨t.val % 16 * 1024 + r.val, by idx_bounds; omega⟩

theorem blk0 (c : Dev nD) (t : Fin cfg0.N) (r : Fin 1024) (a : Fin 512) : iblk m c 0 t (ix2 r a) = x m c (ix2 (row t r) a) := by
  have e : ∀ t : Fin cfg0.N, win0_0.index t = ![t.val % 16, 0] := (by decide +kernel : ∀ t : Fin grid0.N, _)
  blk_simp [iblk]
  rw [V_main_arg1]
  unfold row
  blk_ext [e]

theorem blk1 (c : Dev nD) (t : Fin cfg0.N) (r l : Fin 1024) : iblk m c 1 t (ix2 r l) = ct m c (ix2 (row t r) l) := by
  have e : ∀ t : Fin cfg0.N, win0_1.index t = ![t.val % 16, 0] := (by decide +kernel : ∀ t : Fin grid0.N, _)
  blk_simp [iblk]
  rw [V_main_arg0]
  unfold ct branch row
  blk_ext [e]

/-- One step's part of an entry. -/
def part (c : Dev nD) (t : Fin cfg0.N) (q : Fin 512 × Fin 1024) : EReal :=
  ∑ r : Fin 1024, x m c (ix2 (row t r) q.1) * ct m c (ix2 (row t r) q.2)

theorem step (c : Dev nD) (t : Fin cfg0.N) (v : Vec Ideal S512x1024 .f32) (q : Fin 512 × Fin 1024) :
    k0_pay2 v (iblk m c 0 t) (iblk m c 1 t) (ix2 q.1 q.2) = v (ix2 q.1 q.2) + part m c t q := by
  pointwise [k0_pay2]
  simp only [blk0, blk1]
  rfl

theorem out_A (c : Dev nD) (t : Fin cfg0.N) (ht : t.val % 16 = 0) (q : Fin 512 × Fin 1024) :
    outsAt0 (F := Ideal) m c t.val t.isLt (ix2 q.1 q.2) = 0 + part m c t q := by
  rw [Gen.outsAt0_A m c t ht]
  frame_out
  refine (step m c t _ _).trans (congrArg (· + _) ?_)
  pointwise [k0_pay1]

theorem out_B (c : Dev nD) (t : Fin cfg0.N) (ht : ¬ t.val % 16 = 0) (q : Fin 512 × Fin 1024) :
    outsAt0 (F := Ideal) m c t.val t.isLt (ix2 q.1 q.2)
      = outsAt0 (F := Ideal) m c (t.val - 1) (Nat.lt_of_le_of_lt (Nat.sub_le _ _) t.isLt) (ix2 q.1 q.2) + part m c t q := by
  rw [Gen.outsAt0_B m c t ht]
  frame_out
  exact step m c t _ _

theorem out (c : Dev nD) (t : Fin cfg0.N) (ht : t.val % 16 = 15) (a : Fin 512) (l : Fin 1024) :
    outsAt0 (F := Ideal) m c t.val t.isLt (ix2 a l) = tn (x m c) (ct m c) a l := by
  refine (Pipeline.eq_sum_fin_of_reset_step_apply_of_flush
    (fun n hn (q : Fin 512 × Fin 1024) => outsAt0 (F := Ideal) m c n hn (ix2 q.1 q.2)) 16 (fun _ => 0)
    (fun t q => part m c t q) (out_A m c) (out_B m c) t ht (a, l)).trans ?_
  rw [zero_add]
  refine sum_runs 16 1024 16384 rfl _ _ fun s r hr => ?_
  rw [show row ⟨16 * (t.val / 16) + s.val, Pipeline.run_point_lt_of_flush t ht s⟩ r = ⟨s.val * 1024 + r.val, hr⟩ from
    Fin.ext (by simp only [row]; omega)]

theorem final (c : Dev nD) : (dats m 0 c).arrAt 2 cfg0.N = mat (tn (x m c) (ct m c)) := by
  have e : ∀ t : Fin cfg0.N, win0_2.index t = ![0, 0] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e]

end Cert.Kernel19Ideal.Dense

namespace Cert.Kernel20Ideal.Dense

open Cert.Kernel20Ideal Cert.Kernel20Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := branch 1 (m ((c : Thread nD τ).loc main_arg0))
abbrev x (c : Dev nD) : Mat 16384 512 := m ((c : Thread nD τ).loc main_arg1)

/-- The contracted row of a step. -/
def row (t : Fin cfg0.N) (r : Fin 1024) : Fin 16384 := ⟨t.val % 16 * 1024 + r.val, by idx_bounds; omega⟩

theorem blk0 (c : Dev nD) (t : Fin cfg0.N) (r : Fin 1024) (a : Fin 512) : iblk m c 0 t (ix2 r a) = x m c (ix2 (row t r) a) := by
  have e : ∀ t : Fin cfg0.N, win0_0.index t = ![t.val % 16, 0] := (by decide +kernel : ∀ t : Fin grid0.N, _)
  blk_simp [iblk]
  rw [V_main_arg1]
  unfold row
  blk_ext [e]

theorem blk1 (c : Dev nD) (t : Fin cfg0.N) (r l : Fin 1024) : iblk m c 1 t (ix2 r l) = ct m c (ix2 (row t r) l) := by
  have e : ∀ t : Fin cfg0.N, win0_1.index t = ![t.val % 16, 1] := (by decide +kernel : ∀ t : Fin grid0.N, _)
  blk_simp [iblk]
  rw [V_main_arg0]
  unfold ct branch row
  blk_ext [e]

/-- One step's part of an entry. -/
def part (c : Dev nD) (t : Fin cfg0.N) (q : Fin 512 × Fin 1024) : EReal :=
  ∑ r : Fin 1024, x m c (ix2 (row t r) q.1) * ct m c (ix2 (row t r) q.2)

theorem step (c : Dev nD) (t : Fin cfg0.N) (v : Vec Ideal S512x1024 .f32) (q : Fin 512 × Fin 1024) :
    k0_pay2 v (iblk m c 0 t) (iblk m c 1 t) (ix2 q.1 q.2) = v (ix2 q.1 q.2) + part m c t q := by
  pointwise [k0_pay2]
  simp only [blk0, blk1]
  rfl

theorem out_A (c : Dev nD) (t : Fin cfg0.N) (ht : t.val % 16 = 0) (q : Fin 512 × Fin 1024) :
    outsAt0 (F := Ideal) m c t.val t.isLt (ix2 q.1 q.2) = 0 + part m c t q := by
  rw [Gen.outsAt0_A m c t ht]
  frame_out
  refine (step m c t _ _).trans (congrArg (· + _) ?_)
  pointwise [k0_pay1]

theorem out_B (c : Dev nD) (t : Fin cfg0.N) (ht : ¬ t.val % 16 = 0) (q : Fin 512 × Fin 1024) :
    outsAt0 (F := Ideal) m c t.val t.isLt (ix2 q.1 q.2)
      = outsAt0 (F := Ideal) m c (t.val - 1) (Nat.lt_of_le_of_lt (Nat.sub_le _ _) t.isLt) (ix2 q.1 q.2) + part m c t q := by
  rw [Gen.outsAt0_B m c t ht]
  frame_out
  exact step m c t _ _

theorem out (c : Dev nD) (t : Fin cfg0.N) (ht : t.val % 16 = 15) (a : Fin 512) (l : Fin 1024) :
    outsAt0 (F := Ideal) m c t.val t.isLt (ix2 a l) = tn (x m c) (ct m c) a l := by
  refine (Pipeline.eq_sum_fin_of_reset_step_apply_of_flush
    (fun n hn (q : Fin 512 × Fin 1024) => outsAt0 (F := Ideal) m c n hn (ix2 q.1 q.2)) 16 (fun _ => 0)
    (fun t q => part m c t q) (out_A m c) (out_B m c) t ht (a, l)).trans ?_
  rw [zero_add]
  refine sum_runs 16 1024 16384 rfl _ _ fun s r hr => ?_
  rw [show row ⟨16 * (t.val / 16) + s.val, Pipeline.run_point_lt_of_flush t ht s⟩ r = ⟨s.val * 1024 + r.val, hr⟩ from
    Fin.ext (by simp only [row]; omega)]

theorem final (c : Dev nD) : (dats m 0 c).arrAt 2 cfg0.N = mat (tn (x m c) (ct m c)) := by
  have e : ∀ t : Fin cfg0.N, win0_2.index t = ![0, 0] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e]

end Cert.Kernel20Ideal.Dense

namespace Cert.Kernel21Ideal.Dense

open Cert.Kernel21Ideal Cert.Kernel21Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := branch 2 (m ((c : Thread nD τ).loc main_arg0))
abbrev x (c : Dev nD) : Mat 16384 512 := m ((c : Thread nD τ).loc main_arg1)

/-- The contracted row of a step. -/
def row (t : Fin cfg0.N) (r : Fin 1024) : Fin 16384 := ⟨t.val % 16 * 1024 + r.val, by idx_bounds; omega⟩

theorem blk0 (c : Dev nD) (t : Fin cfg0.N) (r : Fin 1024) (a : Fin 512) : iblk m c 0 t (ix2 r a) = x m c (ix2 (row t r) a) := by
  have e : ∀ t : Fin cfg0.N, win0_0.index t = ![t.val % 16, 0] := (by decide +kernel : ∀ t : Fin grid0.N, _)
  blk_simp [iblk]
  rw [V_main_arg1]
  unfold row
  blk_ext [e]

theorem blk1 (c : Dev nD) (t : Fin cfg0.N) (r l : Fin 1024) : iblk m c 1 t (ix2 r l) = ct m c (ix2 (row t r) l) := by
  have e : ∀ t : Fin cfg0.N, win0_1.index t = ![t.val % 16, 2] := (by decide +kernel : ∀ t : Fin grid0.N, _)
  blk_simp [iblk]
  rw [V_main_arg0]
  unfold ct branch row
  blk_ext [e]

/-- One step's part of an entry. -/
def part (c : Dev nD) (t : Fin cfg0.N) (q : Fin 512 × Fin 1024) : EReal :=
  ∑ r : Fin 1024, x m c (ix2 (row t r) q.1) * ct m c (ix2 (row t r) q.2)

theorem step (c : Dev nD) (t : Fin cfg0.N) (v : Vec Ideal S512x1024 .f32) (q : Fin 512 × Fin 1024) :
    k0_pay2 v (iblk m c 0 t) (iblk m c 1 t) (ix2 q.1 q.2) = v (ix2 q.1 q.2) + part m c t q := by
  pointwise [k0_pay2]
  simp only [blk0, blk1]
  rfl

theorem out_A (c : Dev nD) (t : Fin cfg0.N) (ht : t.val % 16 = 0) (q : Fin 512 × Fin 1024) :
    outsAt0 (F := Ideal) m c t.val t.isLt (ix2 q.1 q.2) = 0 + part m c t q := by
  rw [Gen.outsAt0_A m c t ht]
  frame_out
  refine (step m c t _ _).trans (congrArg (· + _) ?_)
  pointwise [k0_pay1]

theorem out_B (c : Dev nD) (t : Fin cfg0.N) (ht : ¬ t.val % 16 = 0) (q : Fin 512 × Fin 1024) :
    outsAt0 (F := Ideal) m c t.val t.isLt (ix2 q.1 q.2)
      = outsAt0 (F := Ideal) m c (t.val - 1) (Nat.lt_of_le_of_lt (Nat.sub_le _ _) t.isLt) (ix2 q.1 q.2) + part m c t q := by
  rw [Gen.outsAt0_B m c t ht]
  frame_out
  exact step m c t _ _

theorem out (c : Dev nD) (t : Fin cfg0.N) (ht : t.val % 16 = 15) (a : Fin 512) (l : Fin 1024) :
    outsAt0 (F := Ideal) m c t.val t.isLt (ix2 a l) = tn (x m c) (ct m c) a l := by
  refine (Pipeline.eq_sum_fin_of_reset_step_apply_of_flush
    (fun n hn (q : Fin 512 × Fin 1024) => outsAt0 (F := Ideal) m c n hn (ix2 q.1 q.2)) 16 (fun _ => 0)
    (fun t q => part m c t q) (out_A m c) (out_B m c) t ht (a, l)).trans ?_
  rw [zero_add]
  refine sum_runs 16 1024 16384 rfl _ _ fun s r hr => ?_
  rw [show row ⟨16 * (t.val / 16) + s.val, Pipeline.run_point_lt_of_flush t ht s⟩ r = ⟨s.val * 1024 + r.val, hr⟩ from
    Fin.ext (by simp only [row]; omega)]

theorem final (c : Dev nD) : (dats m 0 c).arrAt 2 cfg0.N = mat (tn (x m c) (ct m c)) := by
  have e : ∀ t : Fin cfg0.N, win0_2.index t = ![0, 0] := (by decide +kernel : ∀ t : Fin grid0.N, _)
  refine (dats m 0 c).arrAt_eq_of_covers 2 _ (by decide +kernel) fun t hf j => ?_
  blk_simp
  rw [after0_2]
  idx_vars j
  refine (out m c t ((flush0_2 t).mp hf) _ _).trans (congrArg₂ (tn _ _) (Fin.ext ?_) (Fin.ext ?_))
  all_goals blk_simp [e]

end Cert.Kernel21Ideal.Dense

end
-- ==== Proof.ProjBwd.lean ====
/-
  The gradient of a layer's input through the projections and the residual: the kernel's array is `ct · wᵀ + α r`.

  The grid is 16 × 3 points: 16 tiles of 1024 rows, and for each 3 steps of 2432 lanes of the contracted axis, added up in
  a buffer of the kernel's own. A tile's last step adds the residual's part and stores the result.
-/
module

public import Idealize.ShloMosaic.Lib.Pipeline.ValueKit
public import Idealize.ShloMosaic.Lib.StableHlo.ReadAt
public import proofs.«01_k».proof.Proof.Products
public import proofs.«01_k».proof.Proof.Gen.Kernel6Ideal.Value

@[expose] public section

set_option maxRecDepth 16384

noncomputable section

namespace Cert.Kernel6Ideal.Dense

open Cert.Kernel6Ideal Cert.Kernel6Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 7296 := m ((c : Thread nD τ).loc main_arg0)
abbrev w (c : Dev nD) : Mat 1024 7296 := m ((c : Thread nD τ).loc main_arg1)
abbrev res (c : Dev nD) : Mat 16384 1024 := m ((c : Thread nD τ).loc main_arg2)

/-- The row, and the contracted lane, of a point. -/
def row (t : Fin cfg0.N) (r : Fin 1024) : Fin 16384 := ⟨t.val / 3 * 1024 + r.val, by have := t.isLt; have := r.isLt; simp only [show cfg0.N = 48 from N_0] at *; omega⟩
def lane (t : Fin cfg0.N) (k : Fin 2432) : Fin 7296 := ⟨t.val % 3 * 2432 + k.val, by idx_bounds; omega⟩

theorem blk0 (c : Dev nD) (t : Fin cfg0.N) (r : Fin 1024) (k : Fin 2432) : iblk m c 0 t (ix2 r k) = ct m c (ix2 (row t r) (lane t k)) := by
  have e : ∀ t : Fin cfg0.N, win0_0.index t = ![t.val / 3, t.val % 3] := (by decide +kernel : ∀ t : Fin grid0.N, _)
  blk_simp [iblk]
  rw [V_main_arg0]
  unfold row lane
  blk_ext [e]

theorem blk1 (c : Dev nD) (t : Fin cfg0.N) (l : Fin 1024) (k : Fin 2432) : iblk m c 1 t (ix2 l k) = w m c (ix2 l (lane t k)) := by
  have e : ∀ t : Fin cfg0.N, win0_1.index t = ![0, t.val % 3] := (by decide +kernel : ∀ t : Fin grid0.N, _)
  blk_simp [iblk]
  rw [V_main_arg1]
  unfold lane
  blk_ext [e]

theorem blk2 (c : Dev nD) (t : Fin cfg0.N) (r l : Fin 1024) : iblk m c 2 t (ix2 r l) = res m c (ix2 (row t r) l) := by
  have e : ∀ t : Fin cfg0.N, win0_2.index t = ![t.val / 3, 0] := (by decide +kernel : ∀ t : Fin grid0.N, _)
  blk_simp [iblk]
  rw [V_main_arg2]
  unfold row
  blk_ext [e]

/-- One step's part of an entry. -/
def part (c : Dev nD) (t : Fin cfg0.N) (r l : Fin 1024) : EReal :=
  ∑ k : Fin 2432, ct m c (ix2 (row t r) (lane t k)) * w m c (ix2 l (lane t k))

theorem step (c : Dev nD) (t : Fin cfg0.N) (v : Vec Ideal S1024x1024 .f32) (r l : Fin 1024) :
    k0_pay2 v (iblk m c 0 t) (iblk m c 1 t) (ix2 r l) = v (ix2 r l) + part m c t r l := by
  pointwise [k0_pay2]
  simp only [blk0, blk1]
  rfl

theorem acc_A (c : Dev nD) (t : Fin cfg0.N) (ht : t.val % 3 = 0) (q : Fin 1024 × Fin 1024) :
    (outsAt0 (F := Ideal) m c t.val t.isLt).2 (ix2 q.1 q.2) = 0 + part m c t q.1 q.2 := by
  rw [Gen.outsAt0_A m c t ht (by omega)]
  frame_out
  refine (step m c t _ _ _).trans (congrArg (· + _) ?_)
  pointwise [k0_pay1]

theorem acc_B (c : Dev nD) (t : Fin cfg0.N) (ht : ¬ t.val % 3 = 0) (q : Fin 1024 × Fin 1024) :
    (outsAt0 (F := Ideal) m c t.val t.isLt).2 (ix2 q.1 q.2)
      = (outsAt0 (F := Ideal) m c (t.val - 1) (Nat.lt_of_le_of_lt (Nat.sub_le _ _) t.isLt)).2 (ix2 q.1 q.2) + part m c t q.1 q.2 := by
  by_cases h : t.val % 3 = 2
  on_goal 1 => rw [Gen.outsAt0_C m c t ht h]
  on_goal 2 => rw [Gen.outsAt0_B m c t ht h]
  all_goals
    frame_out
    exact (step m c t _ _ _).trans (congrArg (· + _) (congrFun (Memref.IsWhole.read_unread _ _) _))

/-- The residual's factor. -/
def scale : EReal := Ideal.ofBits .f32 0x3FB504F3#32

/-- A tile's last step stores the accumulator it leaves, the residual's part added. -/
theorem out_C (c : Dev nD) (t : Fin cfg0.N) (ht : t.val % 3 = 2) (r l : Fin 1024) :
    (outsAt0 (F := Ideal) m c t.val t.isLt).1 (ix2 r l)
      = (outsAt0 (F := Ideal) m c t.val t.isLt).2 (ix2 r l) + scale * res m c (ix2 (row t r) l) := by
  rw [Gen.outsAt0_C m c t (by omega) ht]
  frame_out
  pointwise [k0_pay3]
  rw [blk2]
  rfl

theorem out (c : Dev nD) (t : Fin cfg0.N) (ht : t.val % 3 = 2) (r l : Fin 1024) :
    (outsAt0 (F := Ideal) m c t.val t.isLt).1 (ix2 r l) = nt (ct m c) (w m c) (row t r) l + scale * res m c (ix2 (row t r) l) := by
  refine (out_C m c t ht r l).trans (congrArg (· + _) ?_)
  refine (Pipeline.eq_sum_fin_of_reset_step_apply_of_flush
    (fun n hn (q : Fin 1024 × Fin 1024) => (outsAt0 (F := Ideal) m c n hn).2 (ix2 q.1 q.2)) 3 (fun _ => 0)
    (fun t q => part m c t q.1 q.2) (acc_A m c) (acc_B m c) t ht (r, l)).trans ?_
  rw [zero_add]
  refine sum_runs 3 2432 7296 rfl _ _ fun s k hk => ?_
  have e0 : row ⟨3 * (t.val / 3) + s.val, Pipeline.run_point_lt_of_flush t ht s⟩ r = row t r :=
    Fin.ext (by simp only [row]; omega)
  have e1 : lane ⟨3 * (t.val / 3) + s.val, Pipeline.run_point_lt_of_flush t ht s⟩ k = ⟨s.val * 2432 + k.val, hk⟩ :=
    Fin.ext (by simp only [lane]; omega)
  rw [e0, e1]

theorem final (c : Dev nD) :
    (dats m 0 c).arrAt 3 cfg0.N = mat (fun i j => nt (ct m c) (w m c) i j + scale * res m c (ix2 i j)) := by
  have e : ∀ t : Fin cfg0.N, win0_3.index t = ![t.val / 3, 0] := (by decide +kernel : ∀ t : Fin grid0.N, _)
  refine (dats m 0 c).arrAt_eq_of_covers 3 _ (by decide +kernel) fun t hf j => ?_
  blk_simp
  rw [after0_3]
  idx_vars j
  refine (out m c t ((flush0_3 t).mp hf) _ _).trans
    (congrArg₂ (fun i j => nt (ct m c) (w m c) i j + scale * res m c (ix2 i j)) (Fin.ext ?_) (Fin.ext ?_))
  all_goals blk_simp [e, row]

end Cert.Kernel6Ideal.Dense

end
-- ==== Proof.MergeForward.lean ====
/-
  The gated merge, forward: the kernel's arrays are the three branches' products side by side and their gated sum. The grid
  is 32 points, one for each 512 rows.
-/
module

public import proofs.«01_k».proof.Proof.MergeBlocks
public import proofs.«01_k».proof.Proof.Gen.Kernel7Ideal.Value

@[expose] public section

set_option maxRecDepth 16384

noncomputable section

namespace Cert.Kernel7Ideal.Merge

open Cert.Kernel7Ideal Cert.Kernel7Ideal.Gen Cert.Merge
open Idealize Idealize.ShloMosaic Idealize.ShloMosaic.TcCoe Idealize.SL Idealize.SL.Sem

variable (m : (ℓ : Loc nD τ sig) → Buf (Elt Ideal) ℓ)

def args (c : Dev nD) : Args where
  dr := fun _ => 0
  p := m ((c : Thread nD τ).loc main_arg0)
  ha := m ((c : Thread nD τ).loc main_arg1)
  hb := m ((c : Thread nD τ).loc main_arg2)
  hc := m ((c : Thread nD τ).loc main_arg3)
  bg := m ((c : Thread nD τ).loc main_arg7)
  wa := m ((c : Thread nD τ).loc main_arg4)
  wb := m ((c : Thread nD τ).loc main_arg5)
  wc := m ((c : Thread nD τ).loc main_arg6)
  wo := fun _ => 0

/-- The row of a point. -/
def row (t : Fin cfg0.N) (a : Fin 512) : Fin 16384 := ⟨t.val * 512 + a.val, by have := t.isLt; have := a.isLt; simp only [show cfg0.N = 32 from N_0] at *; omega⟩

theorem blk0 (c : Dev nD) (t : Fin cfg0.N) (a : Fin 512) (l : Fin 1024) :
    X0_0 m c t (ix2 a l) = (args m c).p (ix2 (row t a) ⟨4096 + col 0 (by decide) l, by omega⟩) := by
  have e : ∀ t : Fin cfg0.N, win0_0.index t = ![t.val, 4] := (by decide +kernel : ∀ t : Fin grid0.N, _)
  unfold X0_0 Pipeline.Window.fill
  rw [dif_pos (moved0_0 t _)]
  blk_simp [iblk]
  rw [V_main_arg0]
  unfold args row col
  blk_ext [e]

theorem blk1 (c : Dev nD) (t : Fin cfg0.N) (a : Fin 512) (l : Fin 1024) :
    X0_1 m c t (ix2 a l) = (args m c).p (ix2 (row t a) ⟨4096 + col 1024 (by decide) l, by omega⟩) := by
  have e : ∀ t : Fin cfg0.N, win0_1.index t = ![t.val, 5] := (by decide +kernel : ∀ t : Fin grid0.N, _)
  unfold X0_1 Pipeline.Window.fill
  rw [dif_pos (moved0_1 t _)]
  blk_simp [iblk]
  rw [V_main_arg0]
  unfold args row col
  blk_ext [e]

theorem blk2 (c : Dev nD) (t : Fin cfg0.N) (a : Fin 512) (l : Fin 1024) :
    X0_2 m c t (ix2 a l) = (args m c).p (ix2 (row t a) ⟨4096 + col 2048 (by decide) l, by omega⟩) := by
  have e : ∀ t : Fin cfg0.N, win0_2.index t = ![t.val, 6] := (by decide +kernel : ∀ t : Fin grid0.N, _)
  unfold X0_2 Pipeline.Window.fill
  rw [dif_pos (moved0_2 t _)]
  blk_simp [iblk]
  rw [V_main_arg0]
  unfold args row col
  blk_ext [e]

theorem blk3 (c : Dev nD) (t : Fin cfg0.N) (a k : Fin 512) : iblk m c 3 t (ix2 a k) = (args m c).ha (ix2 (row t a) k) := by
  have e : ∀ t : Fin cfg0.N, win0_3.index t = ![t.val, 0] := (by decide +kernel : ∀ t : Fin grid0.N, _)
  blk_simp [iblk]
  rw [V_main_arg1]
  unfold args row
  blk_ext [e]

theorem blk4 (c : Dev nD) (t : Fin cfg0.N) (a k : Fin 512) : iblk m c 4 t (ix2 a k) = (args m c).hb (ix2 (row t a) k) := by
  have e : ∀ t : Fin cfg0.N, win0_4.index t = ![t.val, 0] := (by decide +kernel : ∀ t : Fin grid0.N, _)
  blk_simp [iblk]
  rw [V_main_arg2]
  unfold args row
  blk_ext [e]

theorem blk5 (c : Dev nD) (t : Fin cfg0.N) (a k : Fin 512) : iblk m c 5 t (ix2 a k) = (args m c).hc (ix2 (row t a) k) := by
  have e : ∀ t : Fin cfg0.N, win0_5.index t = ![t.val, 0] := (by decide +kernel : ∀ t : Fin grid0.N, _)
  blk_simp [iblk]
  rw [V_main_arg3]
  unfold args row
  blk_ext [e]

theorem blk6 (c : Dev nD) (t : Fin cfg0.N) (k : Fin 512) (l : Fin 1024) : iblk m c 6 t (ix2 k l) = (args m c).wa (ix2 k l) := by
  have e : ∀ t : Fin cfg0.N, win0_6.index t = ![0, 0] := (by decide +kernel : ∀ t : Fin grid0.N, _)
  blk_simp [iblk]
  rw [V_main_arg4]
  unfold args
  blk_ext [e]

theorem blk7 (c : Dev nD) (t : Fin cfg0.N) (k : Fin 512) (l : Fin 1024) : iblk m c 7 t (ix2 k l) = (args m c).wb (ix2 k l) := by
  have e : ∀ t : Fin cfg0.N, win0_7.index t = ![0, 0] := (by decide +kernel : ∀ t : Fin grid0.N, _)
  blk_simp [iblk]
  rw [V_main_arg5]
  unfold args
  blk_ext [e]

theorem blk8 (c : Dev nD) (t : Fin cfg0.N) (k : Fin 512) (l : Fin 1024) : iblk m c 8 t (ix2 k l) = (args m c).wc (ix2 k l) := by
  have e : ∀ t : Fin cfg0.N, win0_8.index t = ![0, 0] := (by decide +kernel : ∀ t : Fin grid0.N, _)
  blk_simp [iblk]
  rw [V_main_arg6]
  unfold args
  blk_ext [e]

theorem blk9 (c : Dev nD) (t : Fin cfg0.N) (q : Fin 3072) : iblk m c 9 t (ix2 0 q) = (args m c).bg (ix2 0 q) := by
  have e : ∀ t : Fin cfg0.N, win0_9.index t = ![0, 0] := (by decide +kernel : ∀ t : Fin grid0.N, _)
  blk_simp [iblk]
  rw [V_main_arg7]
  unfold args
  blk_ext [e]

theorem y_tile (c : Dev nD) (t : Fin cfg0.N) (a : Fin 512) (l : Fin 1024) :
    k0_pay4 (F := Ideal) (iblk m c 3 t) (iblk m c 6 t) (ix2 a l) = prod (args m c).ha (args m c).wa (row t a) l
      ∧ k0_pay6 (F := Ideal) (iblk m c 4 t) (iblk m c 7 t) (ix2 a l) = prod (args m c).hb (args m c).wb (row t a) l
      ∧ k0_pay1 (F := Ideal) (iblk m c 5 t) (iblk m c 8 t) (constant S512x1024 .f32 0x00000000#32) (ix2 a l)
        = prod (args m c).hc (args m c).wc (row t a) l := by
  refine ⟨?_, ?_, ?_⟩
  on_goal 1 => pointwise [k0_pay4]
  on_goal 2 => pointwise [k0_pay6]
  on_goal 3 => pointwise [k0_pay1]
  all_goals
    simp only [blk3, blk4, blk5, blk6, blk7, blk8]
    rfl

theorem out10 (c : Dev nD) (t : Fin cfg0.N) (a : Fin 512) (q : Fin 3072) :
    (outsAt0 (F := Ideal) m c t).1 (ix2 a q) = y (args m c) (row t a) q := by
  unfold outsAt0
  frame_out
  canon_tiles x hx
  all_goals
    idx_vars x
    obtain rfl : a = x0 := Fin.ext hx0
  · obtain rfl : q = col 2048 (by decide) x1 := Fin.ext hx1
    exact (y_tile m c t a x1).2.2.trans (y_c _ _ _).symm
  · obtain rfl : q = col 1024 (by decide) x1 := Fin.ext hx1
    exact (y_tile m c t a x1).2.1.trans (y_b _ _ _).symm
  · obtain rfl : q = col 0 (by decide) x1 := Fin.ext (hx1.trans (Nat.zero_add _).symm)
    exact (y_tile m c t a x1).1.trans (y_a _ _ _).symm

theorem out11 (c : Dev nD) (t : Fin cfg0.N) (a : Fin 512) (l : Fin 1024) :
    (outsAt0 (F := Ideal) m c t).2 (ix2 a l) = merged (args m c) (row t a) l := by
  unfold outsAt0
  frame_out
  pointwise [k0_pay3, k0_pay8]
  simp only [(y_tile m c t a l).1, (y_tile m c t a l).2.1, (y_tile m c t a l).2.2, blk0, blk1, blk2, blk9]
  rw [show (⟨l.val, by omega⟩ : Fin 3072) = col 0 (by decide) l from Fin.ext (Nat.zero_add _).symm]
  rfl

theorem final10 (c : Dev nD) : (dats m 0 c).arrAt 10 cfg0.N = Cert.KernelIdeal.Merge.mat (y (args m c)) := by
  have e : ∀ t : Fin cfg0.N, win0_10.index t = ![t.val, 0] := (by decide +kernel : ∀ t : Fin grid0.N, _)
  refine (dats m 0 c).arrAt_eq_of_covers 10 _ (by decide +kernel) fun t hf j => ?_
  blk_simp
  rw [after0_10]
  idx_vars j
  refine (out10 m c t _ _).trans (congrArg₂ (y _) (Fin.ext ?_) (Fin.ext ?_))
  all_goals blk_simp [e, row]

theorem final11 (c : Dev nD) : (dats m 0 c).arrAt 11 cfg0.N = Cert.KernelIdeal.Merge.mat (merged (args m c)) := by
  have e : ∀ t : Fin cfg0.N, win0_11.index t = ![t.val, 0] := (by decide +kernel : ∀ t : Fin grid0.N, _)
  refine (dats m 0 c).arrAt_eq_of_covers 11 _ (by decide +kernel) fun t hf j => ?_
  blk_simp
  rw [after0_11]
  idx_vars j
  refine (out11 m c t _ _).trans (congrArg₂ (merged _) (Fin.ext ?_) (Fin.ext ?_))
  all_goals blk_simp [e, row]

end Cert.Kernel7Ideal.Merge

end
-- ==== Proof.Ff1Fwd.lean ====
/-
  The feed-forward's first product: the kernel's arrays are `x · w + b` and its squared ReLU. The grid is 16 × 4 points,
  one for each tile of 1024 rows and 1024 columns.
-/
module

public import Idealize.ShloMosaic.Lib.Pipeline.ValueKit
public import Idealize.ShloMosaic.Lib.StableHlo.ReadAt
public import proofs.«01_k».proof.Proof.Products
public import proofs.«01_k».proof.Proof.Gen.Kernel8Ideal.Value

@[expose] public section

set_option maxRecDepth 16384

noncomputable section

namespace Cert.Kernel8Ideal.Dense

open Cert.Kernel8Ideal Cert.Kernel8Ideal.Gen Cert.Step
open Idealize Idealize.ShloMosaic Idealize.ShloMosaic.TcCoe Idealize.SL Idealize.SL.Sem

variable (m : (ℓ : Loc nD τ sig) → Buf (Elt Ideal) ℓ)

abbrev x (c : Dev nD) : Mat 16384 1024 := m ((c : Thread nD τ).loc main_arg0)
abbrev w (c : Dev nD) : Mat 1024 4096 := m ((c : Thread nD τ).loc main_arg1)
abbrev bias (c : Dev nD) : Mat 1 4096 := m ((c : Thread nD τ).loc main_arg2)

/-- The row and the column of a point. -/
def row (t : Fin cfg0.N) (r : Fin 1024) : Fin 16384 := ⟨t.val / 4 * 1024 + r.val, by have := t.isLt; have := r.isLt; simp only [show cfg0.N = 64 from N_0] at *; omega⟩
def col (t : Fin cfg0.N) (l : Fin 1024) : Fin 4096 := ⟨t.val % 4 * 1024 + l.val, by idx_bounds; omega⟩

theorem blk0 (c : Dev nD) (t : Fin cfg0.N) (r k : Fin 1024) : iblk m c 0 t (ix2 r k) = x m c (ix2 (row t r) k) := by
  have e : ∀ t : Fin cfg0.N, win0_0.index t = ![t.val / 4, 0] := (by decide +kernel : ∀ t : Fin grid0.N, _)
  blk_simp [iblk]
  rw [V_main_arg0]
  unfold row
  blk_ext [e]

theorem blk1 (c : Dev nD) (t : Fin cfg0.N) (k l : Fin 1024) : iblk m c 1 t (ix2 k l) = w m c (ix2 k (col t l)) := by
  have e : ∀ t : Fin cfg0.N, win0_1.index t = ![0, t.val % 4] := (by decide +kernel : ∀ t : Fin grid0.N, _)
  blk_simp [iblk]
  rw [V_main_arg1]
  unfold col
  blk_ext [e]

theorem blk2 (c : Dev nD) (t : Fin cfg0.N) (l : Fin 1024) : iblk m c 2 t (ix2 0 l) = bias m c (ix2 0 (col t l)) := by
  have e : ∀ t : Fin cfg0.N, win0_2.index t = ![0, t.val % 4] := (by decide +kernel : ∀ t : Fin grid0.N, _)
  blk_simp [iblk]
  rw [V_main_arg2]
  unfold col
  blk_ext [e]

theorem pre_tile (c : Dev nD) (t : Fin cfg0.N) (a l : Fin 1024) :
    k0_pay1 (F := Ideal) (iblk m c 0 t) (iblk m c 1 t) (iblk m c 2 t) (ix2 a l) = pre (x m c) (w m c) (bias m c) (row t a) (col t l) := by
  pointwise [k0_pay1]
  simp only [blk0, blk1, blk2]
  rfl

theorem final3 (c : Dev nD) : (dats m 0 c).arrAt 3 cfg0.N = mat (pre (x m c) (w m c) (bias m c)) := by
  have e : ∀ t : Fin cfg0.N, win0_3.index t = ![t.val / 4, t.val % 4] := (by decide +kernel : ∀ t : Fin grid0.N, _)
  refine (dats m 0 c).arrAt_eq_of_covers 3 _ (by decide +kernel) fun t hf j => ?_
  blk_simp
  rw [after0_3]
  idx_vars j
  frame_out
  refine (pre_tile m c t _ _).trans (congrArg₂ (pre _ _ _) (Fin.ext ?_) (Fin.ext ?_))
  all_goals blk_simp [e, row, col]

theorem final4 (c : Dev nD) : (dats m 0 c).arrAt 4 cfg0.N = mat (act (x m c) (w m c) (bias m c)) := by
  have e : ∀ t : Fin cfg0.N, win0_4.index t = ![t.val / 4, t.val % 4] := (by decide +kernel : ∀ t : Fin grid0.N, _)
  refine (dats m 0 c).arrAt_eq_of_covers 4 _ (by decide +kernel) fun t hf j => ?_
  blk_simp
  rw [after0_4]
  idx_vars j
  frame_out
  pointwise [k0_pay3]
  rw [pre_tile]
  refine congrArg₂ (act _ _ _) (Fin.ext ?_) (Fin.ext ?_)
  all_goals blk_simp [e, row, col]

end Cert.Kernel8Ideal.Dense

end
-- ==== Proof.ProjFwd.lean ====
/-
  The projections: the kernel's array is `x · w`. The grid is 3 × 16 points, one for each tile of 1024 rows and 2432 columns.
-/
module

public import Idealize.ShloMosaic.Lib.Pipeline.ValueKit
public import Idealize.ShloMosaic.Lib.StableHlo.ReadAt
public import proofs.«01_k».proof.Proof.Products
public import proofs.«01_k».proof.Proof.Gen.Kernel9Ideal.Value

@[expose] public section

set_option maxRecDepth 16384

noncomputable section

namespace Cert.Kernel9Ideal.Dense

open Cert.Kernel9Ideal Cert.Kernel9Ideal.Gen Cert.Step
open Idealize Idealize.ShloMosaic Idealize.ShloMosaic.TcCoe Idealize.SL Idealize.SL.Sem

variable (m : (ℓ : Loc nD τ sig) → Buf (Elt Ideal) ℓ)

abbrev x (c : Dev nD) : Mat 16384 1024 := m ((c : Thread nD τ).loc main_arg0)
abbrev w (c : Dev nD) : Mat 1024 7296 := m ((c : Thread nD τ).loc main_arg1)

/-- The row and the column of a point. -/
def row (t : Fin cfg0.N) (r : Fin 1024) : Fin 16384 := ⟨t.val % 16 * 1024 + r.val, by idx_bounds; omega⟩
def col (t : Fin cfg0.N) (l : Fin 2432) : Fin 7296 := ⟨t.val / 16 * 2432 + l.val, by have := t.isLt; have := l.isLt; simp only [show cfg0.N = 48 from N_0] at *; omega⟩

theorem blk0 (c : Dev nD) (t : Fin cfg0.N) (r k : Fin 1024) : iblk m c 0 t (ix2 r k) = x m c (ix2 (row t r) k) := by
  have e : ∀ t : Fin cfg0.N, win0_0.index t = ![t.val % 16, 0] := (by decide +kernel : ∀ t : Fin grid0.N, _)
  blk_simp [iblk]
  rw [V_main_arg0]
  unfold row
  blk_ext [e]

theorem blk1 (c : Dev nD) (t : Fin cfg0.N) (k : Fin 1024) (l : Fin 2432) : iblk m c 1 t (ix2 k l) = w m c (ix2 k (col t l)) := by
  have e : ∀ t : Fin cfg0.N, win0_1.index t = ![0, t.val / 16] := (by decide +kernel : ∀ t : Fin grid0.N, _)
  blk_simp [iblk]
  rw [V_main_arg1]
  unfold col
  blk_ext [e]

/-- One point computes its whole tile: it zeroes its accumulator, adds the product, and stores the result. -/
theorem out (c : Dev nD) (t : Fin cfg0.N) (a : Fin 1024) (l : Fin 2432) :
    outsAt0 (F := Ideal) m c t (ix2 a l) = nn (x m c) (w m c) (row t a) (col t l) := by
  unfold outsAt0
  frame_out
  pointwise [k0_pay3, k0_pay2, k0_pay1]
  simp only [blk0, blk1]
  rfl

theorem final (c : Dev nD) : (dats m 0 c).arrAt 2 cfg0.N = mat (nn (x m c) (w m c)) := by
  have e : ∀ t : Fin cfg0.N, win0_2.index t = ![t.val % 16, t.val / 16] := (by decide +kernel : ∀ t : Fin grid0.N, _)
  refine (dats m 0 c).arrAt_eq_of_covers 2 _ (by decide +kernel) fun t hf j => ?_
  blk_simp
  rw [after0_2]
  idx_vars j
  refine (out m c t _ _).trans (congrArg₂ (nn _ _) (Fin.ext ?_) (Fin.ext ?_))
  all_goals blk_simp [e, row, col]

end Cert.Kernel9Ideal.Dense

end
-- ==== Proof.DenseClaims.lean ====
/-
  The claims about the step's products and about the merge's forward: the references' frames, and that each kernel's results
  are its reference's, from the two runs.
-/
module

public import proofs.«01_k».proof.Defs
public import proofs.«01_k».proof.Proof.DenseReferences
public import proofs.«01_k».proof.Proof.Ff2Bwd
public import proofs.«01_k».proof.Proof.DwFf2
public import proofs.«01_k».proof.Proof.DwFf1
public import proofs.«01_k».proof.Proof.DwProj
public import proofs.«01_k».proof.Proof.DwO
public import proofs.«01_k».proof.Proof.DwP
public import proofs.«01_k».proof.Proof.ProjBwd
public import proofs.«01_k».proof.Proof.MergeForward
public import proofs.«01_k».proof.Proof.Ff1Fwd
public import proofs.«01_k».proof.Proof.ProjFwd
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference11Ideal.Run
public import proofs.«01_k».proof.Proof.Gen.Reference19Ideal.Run
public import proofs.«01_k».proof.Proof.Gen.Reference20Ideal.Run
public import proofs.«01_k».proof.Proof.Gen.Reference21Ideal.Run
public import Idealize.ShloMosaic.Adequacy
public import Idealize.ShloMosaic.Init

@[expose] public section

set_option maxRecDepth 16384

noncomputable section

namespace Cert.Proof

open Idealize.ShloMosaic Idealize.SL.Sem Cert.Step

/-! ## The squared ReLU's backward -/

section

attribute [local instance] Cert.Kernel2Ideal.Gen.facts Cert.Reference2Ideal.Gen.facts

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem algebraic2 : Cert.algebraic_Kernel2Ideal_Reference2Ideal := fun m ρ m' ρ' _ hag => by
  refine ⟨fun c => mat (Cert.Kernel2Ideal.Dense.dh m c), fun c => mat (fun _ : Fin 1 => fun j => ∑ i, Cert.Kernel2Ideal.Dense.dh m c i j),
    (θ_run Cert.Kernel2Ideal.defs _ _).mono (fun r h c => ⟨(h c).1.trans (Cert.Kernel2Ideal.Dense.final3 m c), (h c).2.1.trans (Cert.Kernel2Ideal.Dense.final4 m c), (h c).2.2⟩)
      (Cert.Kernel2Ideal.Value.run_blocks m ρ),
    (θ_run Cert.Reference2Ideal.defs _ _).mono (fun r h c => ⟨(h c).1.trans ?_, (h c).2.1.trans ?_, (h c).2.2⟩) (Cert.Reference2Ideal.Value.run m' ρ')⟩
  · obtain ⟨h0, h1, h2, h3, h4⟩ := hag c
    rw [h0, h1, h2, h3, h4]
    exact (Cert.Reference2Ideal.Read.val_main_v21_eq ..).trans (Cert.Reference2Ideal.result0 _ _ _ _ _)
  · obtain ⟨h0, h1, h2, h3, h4⟩ := hag c
    rw [h0, h1, h2, h3, h4]
    exact (Cert.Reference2Ideal.Read.val_main_v20_eq ..).trans (Cert.Reference2Ideal.result1 _ _ _ _ _)

end

/-! ## The gradient of `w_ff2` -/

section

attribute [local instance] Cert.Kernel3Ideal.Gen.facts Cert.Reference3Ideal.Gen.facts

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem algebraic3 : Cert.algebraic_Kernel3Ideal_Reference3Ideal := fun m ρ m' ρ' _ hag => by
  refine ⟨fun c => mat (tn (Cert.Kernel3Ideal.Dense.h m c) (Cert.Kernel3Ideal.Dense.ct m c)),
    (θ_run Cert.Kernel3Ideal.defs _ _).mono (fun r h c => ⟨(h c).1.trans (Cert.Kernel3Ideal.Dense.final m c), (h c).2⟩)
      (Cert.Kernel3Ideal.Value.run_blocks m ρ),
    (θ_run Cert.Reference3Ideal.defs _ _).mono (fun r h c => ⟨(h c).1.trans ?_, (h c).2⟩) (Cert.Reference3Ideal.Value.run m' ρ')⟩
  obtain ⟨h0, h1, h2, h3⟩ := hag c
  rw [h0, h1, h2, h3]
  exact (Cert.Reference3Ideal.Read.val_main_v11_eq ..).trans (Cert.Reference3Ideal.result _ _ _ _)

end

/-! ## The gradient of `w_ff1` -/

section

attribute [local instance] Cert.Kernel4Ideal.Gen.facts Cert.Reference4Ideal.Gen.facts

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic4 : Cert.algebraic_Kernel4Ideal_Reference4Ideal := fun m ρ m' ρ' _ hag => by
  refine ⟨fun c => mat (tn (Cert.Kernel4Ideal.Dense.x m c) (Cert.Kernel4Ideal.Dense.ct m c)),
    (θ_run Cert.Kernel4Ideal.defs _ _).mono (fun r h c => ⟨(h c).1.trans (Cert.Kernel4Ideal.Dense.final m c), (h c).2⟩)
      (Cert.Kernel4Ideal.Value.run_blocks m ρ),
    (θ_run Cert.Reference4Ideal.defs _ _).mono (fun r h c => ⟨(h c).1.trans ?_, (h c).2⟩) (Cert.Reference4Ideal.Value.run m' ρ')⟩
  obtain ⟨h0, h1⟩ := hag c
  rw [h0, h1]
  exact (Cert.Reference4Ideal.Read.val_main_v5_eq ..).trans (Cert.Reference4Ideal.result _ _)

end

/-! ## The gradient of `w_o` -/

section

attribute [local instance] Cert.Kernel11Ideal.Gen.facts Cert.Reference11Ideal.Gen.facts

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem algebraic11 : Cert.algebraic_Kernel11Ideal_Reference11Ideal := fun m ρ m' ρ' _ hag => by
  refine ⟨fun c => mat (tn (Cert.Kernel11Ideal.Dense.x m c) (Cert.Kernel11Ideal.Dense.ct m c)),
    (θ_run Cert.Kernel11Ideal.defs _ _).mono (fun r h c => ⟨(h c).1.trans (Cert.Kernel11Ideal.Dense.final m c), (h c).2⟩)
      (Cert.Kernel11Ideal.Value.run_blocks m ρ),
    (θ_run Cert.Reference11Ideal.defs _ _).mono (fun r h c => ⟨(h c).1.trans ?_, (h c).2⟩) (Cert.Reference11Ideal.Value.run m' ρ')⟩
  obtain ⟨h0, h1⟩ := hag c
  rw [h0, h1]
  exact (Cert.Reference11Ideal.Read.val_main_v5_eq ..).trans (Cert.Reference11Ideal.result _ _)

end

/-! ## The gradient of the first branch's output product -/

section

attribute [local instance] Cert.Kernel19Ideal.Gen.facts Cert.Reference19Ideal.Gen.facts

theorem frame_reference19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run m ρ)

theorem algebraic19 : Cert.algebraic_Kernel19Ideal_Reference19Ideal := fun m ρ m' ρ' _ hag => by
  refine ⟨fun c => mat (tn (Cert.Kernel19Ideal.Dense.x m c) (Cert.Kernel19Ideal.Dense.ct m c)),
    (θ_run Cert.Kernel19Ideal.defs _ _).mono (fun r h c => ⟨(h c).1.trans (Cert.Kernel19Ideal.Dense.final m c), (h c).2⟩)
      (Cert.Kernel19Ideal.Value.run_blocks m ρ),
    (θ_run Cert.Reference19Ideal.defs _ _).mono (fun r h c => ⟨(h c).1.trans ?_, (h c).2⟩) (Cert.Reference19Ideal.Value.run m' ρ')⟩
  obtain ⟨h0, h1⟩ := hag c
  rw [h0, h1]
  exact (Cert.Reference19Ideal.Read.val_main_v6_eq ..).trans (Cert.Reference19Ideal.result _ _)

end

/-! ## The gradient of the second branch's output product -/

section

attribute [local instance] Cert.Kernel20Ideal.Gen.facts Cert.Reference20Ideal.Gen.facts

theorem frame_reference20 : Cert.quiescent_Reference20Ideal := fun m ρ _ =>
  (θ_run Cert.Reference20Ideal.defs _ _).mono (fun r h => ⟨fun c => (h c).2, sem_eq_zero_of_no_sems (by decide) r.2⟩)
    (Cert.Reference20Ideal.Value.run m ρ)

theorem algebraic20 : Cert.algebraic_Kernel20Ideal_Reference20Ideal := fun m ρ m' ρ' _ hag => by
  refine ⟨fun c => mat (tn (Cert.Kernel20Ideal.Dense.x m c) (Cert.Kernel20Ideal.Dense.ct m c)),
    (θ_run Cert.Kernel20Ideal.defs _ _).mono (fun r h c => ⟨(h c).1.trans (Cert.Kernel20Ideal.Dense.final m c), (h c).2⟩)
      (Cert.Kernel20Ideal.Value.run_blocks m ρ),
    (θ_run Cert.Reference20Ideal.defs _ _).mono (fun r h c => ⟨(h c).1.trans ?_, (h c).2⟩) (Cert.Reference20Ideal.Value.run m' ρ')⟩
  obtain ⟨h0, h1⟩ := hag c
  rw [h0, h1]
  exact (Cert.Reference20Ideal.Read.val_main_v6_eq ..).trans (Cert.Reference20Ideal.result _ _)

end

/-! ## The gradient of the third branch's output product -/

section

attribute [local instance] Cert.Kernel21Ideal.Gen.facts Cert.Reference21Ideal.Gen.facts

theorem frame_reference21 : Cert.quiescent_Reference21Ideal := fun m ρ _ =>
  (θ_run Cert.Reference21Ideal.defs _ _).mono (fun r h => ⟨fun c => (h c).2, sem_eq_zero_of_no_sems (by decide) r.2⟩)
    (Cert.Reference21Ideal.Value.run m ρ)

theorem algebraic21 : Cert.algebraic_Kernel21Ideal_Reference21Ideal := fun m ρ m' ρ' _ hag => by
  refine ⟨fun c => mat (tn (Cert.Kernel21Ideal.Dense.x m c) (Cert.Kernel21Ideal.Dense.ct m c)),
    (θ_run Cert.Kernel21Ideal.defs _ _).mono (fun r h c => ⟨(h c).1.trans (Cert.Kernel21Ideal.Dense.final m c), (h c).2⟩)
      (Cert.Kernel21Ideal.Value.run_blocks m ρ),
    (θ_run Cert.Reference21Ideal.defs _ _).mono (fun r h c => ⟨(h c).1.trans ?_, (h c).2⟩) (Cert.Reference21Ideal.Value.run m' ρ')⟩
  obtain ⟨h0, h1⟩ := hag c
  rw [h0, h1]
  exact (Cert.Reference21Ideal.Read.val_main_v6_eq ..).trans (Cert.Reference21Ideal.result _ _)

end

/-! ## The gradient of the projections' weight -/

section

attribute [local instance] Cert.Kernel5Ideal.Gen.facts Cert.Reference5Ideal.Gen.facts

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic5 : Cert.algebraic_Kernel5Ideal_Reference5Ideal := fun m ρ m' ρ' _ hag => by
  refine ⟨fun c => mat (tn (Cert.Kernel5Ideal.Dense.x m c) (Cert.Kernel5Ideal.Dense.ct m c)),
    (θ_run Cert.Kernel5Ideal.defs _ _).mono (fun r h c => ⟨(h c).1.trans (Cert.Kernel5Ideal.Dense.final m c), (h c).2⟩)
      (Cert.Kernel5Ideal.Value.run_blocks m ρ),
    (θ_run Cert.Reference5Ideal.defs _ _).mono (fun r h c => ⟨(h c).1.trans ?_, (h c).2⟩) (Cert.Reference5Ideal.Value.run m' ρ')⟩
  obtain ⟨h0, h1⟩ := hag c
  rw [h0, h1]
  exact (Cert.Reference5Ideal.Read.val_main_v5_eq ..).trans (Cert.Reference5Ideal.result _ _)

end

/-! ## The projections' backward -/

section

attribute [local instance] Cert.Kernel6Ideal.Gen.facts Cert.Reference6Ideal.Gen.facts

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

theorem algebraic6 : Cert.algebraic_Kernel6Ideal_Reference6Ideal := fun m ρ m' ρ' _ hag => by
  refine ⟨fun c => mat (fun i j => nt (Cert.Kernel6Ideal.Dense.ct m c) (Cert.Kernel6Ideal.Dense.w m c) i j + Cert.Kernel6Ideal.Dense.scale * Cert.Kernel6Ideal.Dense.res m c (ix2 i j)),
    (θ_run Cert.Kernel6Ideal.defs _ _).mono (fun r h c => ⟨(h c).1.trans (Cert.Kernel6Ideal.Dense.final m c), (h c).2⟩)
      (Cert.Kernel6Ideal.Value.run_blocks m ρ),
    (θ_run Cert.Reference6Ideal.defs _ _).mono (fun r h c => ⟨(h c).1.trans ?_, (h c).2⟩) (Cert.Reference6Ideal.Value.run m' ρ')⟩
  obtain ⟨h0, h1, h2⟩ := hag c
  rw [h0, h1, h2]
  exact (Cert.Reference6Ideal.Read.val_main_v9_eq ..).trans (Cert.Reference6Ideal.result _ _ _)

end

/-! ## The merge's forward -/

section

attribute [local instance] Cert.Kernel7Ideal.Gen.facts Cert.Reference7Ideal.Gen.facts

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run m ρ)

theorem algebraic7 : Cert.algebraic_Kernel7Ideal_Reference7Ideal := fun m ρ m' ρ' _ hag => by
  refine ⟨fun c => mat (Cert.Merge.y (Cert.Kernel7Ideal.Merge.args m c)), fun c => mat (Cert.Merge.merged (Cert.Kernel7Ideal.Merge.args m c)),
    (θ_run Cert.Kernel7Ideal.defs _ _).mono (fun r h c => ⟨(h c).1.trans (Cert.Kernel7Ideal.Merge.final10 m c), (h c).2.1.trans (Cert.Kernel7Ideal.Merge.final11 m c), (h c).2.2⟩)
      (Cert.Kernel7Ideal.Value.run_blocks m ρ),
    (θ_run Cert.Reference7Ideal.defs _ _).mono (fun r h c => ⟨(h c).1.trans ?_, (h c).2.1.trans ?_, (h c).2.2⟩) (Cert.Reference7Ideal.Value.run m' ρ')⟩
  · obtain ⟨h0, h1, h2, h3, h4, h5, h6, h7⟩ := hag c
    rw [h1, h2, h3, h4, h5, h6]
    exact (Cert.Reference7Ideal.Read.val_main_v23_eq ..).trans (Cert.Reference7Ideal.result0 (Cert.Kernel7Ideal.Merge.args m c))
  · obtain ⟨h0, h1, h2, h3, h4, h5, h6, h7⟩ := hag c
    rw [h0, h1, h2, h3, h4, h5, h6, h7]
    exact (Cert.Reference7Ideal.Read.val_main_v29_eq ..).trans (Cert.Reference7Ideal.result1 (Cert.Kernel7Ideal.Merge.args m c))

end

/-! ## The feed-forward's first product -/

section

attribute [local instance] Cert.Kernel8Ideal.Gen.facts Cert.Reference8Ideal.Gen.facts

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

theorem algebraic8 : Cert.algebraic_Kernel8Ideal_Reference8Ideal := fun m ρ m' ρ' _ hag => by
  refine ⟨fun c => mat (pre (Cert.Kernel8Ideal.Dense.x m c) (Cert.Kernel8Ideal.Dense.w m c) (Cert.Kernel8Ideal.Dense.bias m c)), fun c => mat (act (Cert.Kernel8Ideal.Dense.x m c) (Cert.Kernel8Ideal.Dense.w m c) (Cert.Kernel8Ideal.Dense.bias m c)),
    (θ_run Cert.Kernel8Ideal.defs _ _).mono (fun r h c => ⟨(h c).1.trans (Cert.Kernel8Ideal.Dense.final3 m c), (h c).2.1.trans (Cert.Kernel8Ideal.Dense.final4 m c), (h c).2.2⟩)
      (Cert.Kernel8Ideal.Value.run_blocks m ρ),
    (θ_run Cert.Reference8Ideal.defs _ _).mono (fun r h c => ⟨(h c).1.trans ?_, (h c).2.1.trans ?_, (h c).2.2⟩) (Cert.Reference8Ideal.Value.run m' ρ')⟩
  · obtain ⟨h0, h1, h2⟩ := hag c
    rw [h0, h1, h2]
    exact (Cert.Reference8Ideal.Read.val_main_v5_eq ..).trans (Cert.Reference8Ideal.result0 _ _ _)
  · obtain ⟨h0, h1, h2⟩ := hag c
    rw [h0, h1, h2]
    exact (Cert.Reference8Ideal.Read.val_main_v8_eq ..).trans (Cert.Reference8Ideal.result1 _ _ _)

end

/-! ## The projections -/

section

attribute [local instance] Cert.Kernel9Ideal.Gen.facts Cert.Reference9Ideal.Gen.facts

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem algebraic9 : Cert.algebraic_Kernel9Ideal_Reference9Ideal := fun m ρ m' ρ' _ hag => by
  refine ⟨fun c => mat (nn (Cert.Kernel9Ideal.Dense.x m c) (Cert.Kernel9Ideal.Dense.w m c)),
    (θ_run Cert.Kernel9Ideal.defs _ _).mono (fun r h c => ⟨(h c).1.trans (Cert.Kernel9Ideal.Dense.final m c), (h c).2⟩)
      (Cert.Kernel9Ideal.Value.run_blocks m ρ),
    (θ_run Cert.Reference9Ideal.defs _ _).mono (fun r h c => ⟨(h c).1.trans ?_, (h c).2⟩) (Cert.Reference9Ideal.Value.run m' ρ')⟩
  obtain ⟨h0, h1⟩ := hag c
  rw [h0, h1]
  exact (Cert.Reference9Ideal.Read.val_main_v3_eq ..).trans (Cert.Reference9Ideal.result _ _)

end

end Cert.Proof

end
-- ==== Proof.LayerNorm.lean ====
/-
  A row's LayerNorm and its gradient, over the extended reals: the gradient as the step's kernels write it, as the derivative
  of the forward lines gives it, and that the two agree where the row and the cotangent are real.
-/
module

public import Idealize.ShloMosaic.Lib.Pipeline.ValueKit

@[expose] public section

noncomputable section

namespace Cert.Step

open Idealize.ShloMosaic

/-! ## Real values -/

/-- A value that is a real number. -/
def IsReal (e : EReal) : Prop := ∃ r : ℝ, e = r

theorem IsReal.coe (r : ℝ) : IsReal r := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {n : ℕ} {f : Fin n → EReal} (h : ∀ i, IsReal (f i)) : IsReal (∑ i, f i) := by
  choose r hr using h
  exact ⟨∑ i, r i, by simp only [hr, coe_sum]⟩

/-- What a finiteness precondition says of an entry. -/
theorem isReal_of_lt {e : EReal} (h : Ideal.cmp .olt (max e (-e)) (Ideal.ofBits .f32 0x7F800000#32) = 1#1) : IsReal e := by
  have top : Ideal.ofBits .f32 0x7F800000#32 = ⊤ := by simp [Ideal.ofBits, Ideal.ieee]
  rw [top] at h
  induction e with
  | bot => simp [Ideal.cmp] at h
  | top => simp [Ideal.cmp] at h
  | coe r => exact IsReal.coe r

/-! ## The constants -/

theorem two_real : Ideal.ofBits .f32 0x40000000#32 = ((2 : ℝ) : EReal) := by
  simp [Ideal.ofBits, Ideal.ieee, -EReal.coe_mul]; norm_num

theorem neg_half_real : Ideal.ofBits .f32 0xBF000000#32 = ((-(1 / 2) : ℝ) : EReal) := by
  simp [Ideal.ofBits, Ideal.ieee, -EReal.coe_mul]; norm_num

/-- The residual's factor, √2. -/
def root2 : EReal := Ideal.ofBits .f32 0x3FB504F3#32

theorem root2_real : IsReal root2 := by
  refine ⟨11863283 / 2 ^ 23, ?_⟩
  simp [root2, Ideal.ofBits, Ideal.ieee, -EReal.coe_mul]; norm_num

/-- The widths of the rows that are normalised. -/
abbrev w1024 : EReal := Ideal.ofBits .f32 0x44800000#32
abbrev w512 : EReal := Ideal.ofBits .f32 0x44000000#32

theorem width1024 : w1024 = (((1024 : ℕ) : ℝ) : EReal) := by
  simp [w1024, Ideal.ofBits, Ideal.ieee, -EReal.coe_mul]; norm_num

theorem width512 : w512 = (((512 : ℕ) : ℝ) : EReal) := by
  simp [w512, Ideal.ofBits, Ideal.ieee, -EReal.coe_mul]; norm_num

/-- The norms' epsilon. -/
def eps : EReal := Ideal.ofBits .f32 0x3727C5AC#32

theorem eps_real : ∃ e : ℝ, 0 < e ∧ eps = e := by
  refine ⟨10995116 / 2 ^ 40, by norm_num, ?_⟩
  simp [eps, Ideal.ofBits, Ideal.ieee, -EReal.coe_mul]; norm_num

/-! ## The norm of a row -/

variable {n : ℕ}

/-- A row's mean, its centred entries, the reciprocal of its deviation, and its normalised entries; `w` is the row's width. -/
def mean (w : EReal) (x : Fin n → EReal) : EReal := Ideal.div (∑ l, x l) w
def cen (w : EReal) (x : Fin n → EReal) (j : Fin n) : EReal := x j - mean w x
def dev (w : EReal) (x : Fin n → EReal) : EReal := mean w (fun l => cen w x l * cen w x l) + eps
def rstd (w : EReal) (x : Fin n → EReal) : EReal := Ideal.rsqrt (dev w x)
def xhat (w : EReal) (x : Fin n → EReal) (j : Fin n) : EReal := cen w x j * rstd w x

/-- The gradient of a row, as the kernels write it: `d` is the cotangent of the normalised row. -/
def lnBwd (w : EReal) (d x : Fin n → EReal) (j : Fin n) : EReal :=
  rstd w x * ((d j - mean w d) - xhat w x j * mean w (fun l => d l * xhat w x l))

/-- The variance's cotangent, over the width. -/
def dvar (w : EReal) (d x : Fin n → EReal) : EReal :=
  Ideal.div ((∑ l, cen w x l * d l) * (Ideal.ofBits .f32 0xBF000000#32 * Ideal.div (rstd w x) (dev w x))) w

/-- The gradient of a row, as the derivative of the forward lines gives it: through the centred entries, through the
    variance, and through the mean. -/
def lnVjp (w : EReal) (d x : Fin n → EReal) (j : Fin n) : EReal :=
  (d j * rstd w x + dvar w d x * (Ideal.ofBits .f32 0x40000000#32 * cen w x j))
    + Ideal.div ((∑ l, -(d l * rstd w x)) + ∑ l, -(dvar w d x * (Ideal.ofBits .f32 0x40000000#32 * cen w x l))) w

section

variable (hn : 0 < n) (x d : Fin n → ℝ)

theorem mean_coe (hn : 0 < n) (x : Fin n → ℝ) : mean ((n : ℝ) : EReal) (fun j => (x j : EReal)) = (((∑ l, x l) * (1 / n) : ℝ) : EReal) := by
  rw [mean, Ideal.div_coe (by positivity), ← coe_sum, EReal.coe_mul]

/-- The centred row, over the reals. -/
def cenR (x : Fin n → ℝ) (j : Fin n) : ℝ := x j - (∑ l, x l) * (1 / n)

theorem cen_coe (hn : 0 < n) (x : Fin n → ℝ) (j : Fin n) : cen ((n : ℝ) : EReal) (fun j => (x j : EReal)) j = (cenR x j : EReal) := by
  rw [cen, mean_coe hn, cenR, EReal.coe_sub]

theorem sum_cenR (hn : 0 < n) (x : Fin n → ℝ) : ∑ j, cenR x j = 0 := by
  have : (n : ℝ) ≠ 0 := by positivity
  simp only [cenR, Finset.sum_sub_distrib, Finset.sum_const, Finset.card_univ, Fintype.card_fin, nsmul_eq_mul]
  field_simp
  ring

theorem dev_coe (hn : 0 < n) (x : Fin n → ℝ) : ∃ v : ℝ, 0 < v ∧ dev ((n : ℝ) : EReal) (fun j => (x j : EReal)) = (v : EReal) := by
  obtain ⟨e, he, h⟩ := eps_real
  refine ⟨(∑ l, cenR x l * cenR x l) * (1 / n) + e, by have : 0 ≤ ∑ l, cenR x l * cenR x l := Finset.sum_nonneg fun l _ => mul_self_nonneg _; positivity, ?_⟩
  rw [dev, h, EReal.coe_add, ← mean_coe hn]
  simp only [cen_coe hn, EReal.coe_mul]

theorem rstd_coe (hn : 0 < n) (x : Fin n → ℝ) : IsReal (rstd ((n : ℝ) : EReal) (fun j => (x j : EReal))) := by
  obtain ⟨v, hv, e⟩ := dev_coe hn x
  refine ⟨(√v)⁻¹, ?_⟩
  rw [rstd, e]
  exact (if_neg (not_lt.mpr hv.le)).trans (if_neg hv.ne')

/-- A real row's normalised entries are real. -/
theorem xhat_real (hn : 0 < n) (x : Fin n → EReal) (hx : ∀ j, IsReal (x j)) (j : Fin n) : IsReal (xhat ((n : ℝ) : EReal) x j) := by
  choose x' hx using hx
  obtain rfl : x = fun j => (x' j : EReal) := funext hx
  exact IsReal.mul ⟨_, cen_coe hn x' j⟩ (rstd_coe hn x')

/-- The two gradients agree on a real row. -/
theorem lnBwd_eq (hn : 0 < n) (d x : Fin n → EReal) (hd : ∀ j, IsReal (d j)) (hx : ∀ j, IsReal (x j)) (j : Fin n) :
    lnBwd ((n : ℝ) : EReal) d x j = lnVjp ((n : ℝ) : EReal) d x j := by
  choose d' hd using hd
  choose x' hx using hx
  obtain rfl : d = fun j => (d' j : EReal) := funext hd
  obtain rfl : x = fun j => (x' j : EReal) := funext hx
  obtain ⟨v, hv, e⟩ := dev_coe hn x'
  have hr : rstd ((n : ℝ) : EReal) (fun j => (x' j : EReal)) = (((√v)⁻¹ : ℝ) : EReal) := by
    rw [rstd, e]
    exact (if_neg (not_lt.mpr hv.le)).trans (if_neg hv.ne')
  have hs : √v * √v = v := Real.mul_self_sqrt hv.le
  have hs0 : √v ≠ 0 := (Real.sqrt_pos.mpr hv).ne'
  have hn' : (n : ℝ) ≠ 0 := by positivity
  have hc := sum_cenR hn x'
  simp only [lnBwd, lnVjp, dvar, xhat, hr, e, cen_coe hn, mean, two_real, neg_half_real, Ideal.div_coe hn', Ideal.div_coe hv.ne',
    ← EReal.coe_mul, ← EReal.coe_neg, ← EReal.coe_sub, ← EReal.coe_add, ← coe_sum]
  refine congrArg _ ?_
  simp only [Finset.sum_neg_distrib, ← Finset.sum_mul, ← Finset.mul_sum, ← mul_assoc]
  have hv' : 1 / v = (√v)⁻¹ * (√v)⁻¹ := by rw [← mul_inv, hs, one_div]
  rw [hc, hv', Finset.sum_congr rfl fun i _ => mul_comm (d' i) (cenR x' i)]
  ring

end

end Cert.Step

end
-- ==== Proof.NormReferences.lean ====
/-
  The norms' gradients, as the references' operations give them, entry by entry.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Reference12Ideal.Read

@[expose] public section

set_option maxRecDepth 16384

noncomputable section

open Idealize Idealize.ShloMosaic

namespace Cert.Reference12Ideal

open Read Cert.Step

variable (ct x : Mat 16384 1024) (g : Mat 1 1024)

theorem cen_apply (i : Fin 16384) (l : Fin 1024) : val_main_v15 (F := Ideal) x (ix2 i l) = cen w1024 (fun l => x (ix2 i l)) l := by
  pointwise [val_main_v15, val_main_v14, val_main_v4, val_main_v3, val_main_v2, val_main_v1, val_main_cst_0, val_main_cst_1]
  rfl

theorem cen_apply' (i : Fin 16384) (l : Fin 1024) : val_main_v6 (F := Ideal) x (ix2 i l) = cen w1024 (fun l => x (ix2 i l)) l := by
  pointwise [val_main_v6, val_main_v5, val_main_v4, val_main_v3, val_main_v2, val_main_v1, val_main_cst_0, val_main_cst_1]
  rfl

theorem dev_apply (i : Fin 16384) : val_main_v17 (F := Ideal) x (ix2 i 0) = dev w1024 (fun l => x (ix2 i l)) := by
  pointwise [val_main_v17, val_main_v16, val_main_v13, val_main_v12, val_main_v11, val_main_v10, val_main_v7, val_main_cst_3, val_main_cst_4, val_main_cst_5]
  simp only [cen_apply']
  rfl

theorem rstd_apply (i : Fin 16384) : val_main_v18 (F := Ideal) x (ix2 i 0) = rstd w1024 (fun l => x (ix2 i l)) := by
  pointwise [val_main_v18]
  rw [dev_apply]
  rfl

theorem xhat_apply (i : Fin 16384) (l : Fin 1024) : val_main_v23 (F := Ideal) x (ix2 i l) = xhat w1024 (fun l => x (ix2 i l)) l := by
  pointwise [val_main_v23, val_main_v22]
  rw [cen_apply, rstd_apply]
  rfl

/-- A row's cotangent, at the normalised entries. -/
abbrev dhat (i : Fin 16384) (l : Fin 1024) : EReal := ct (ix2 i l) * g (ix2 0 l)

theorem dhat_apply (i : Fin 16384) (l : Fin 1024) : val_main_v35 (F := Ideal) ct g (ix2 i l) = dhat ct g i l := by
  pointwise [val_main_v35, val_main_v34, val_main_v28]

theorem dvar_apply (i : Fin 16384) : val_main_v46 (F := Ideal) ct x g (ix2 i 0) = dvar w1024 (dhat ct g i) (fun l => x (ix2 i l)) := by
  pointwise [val_main_v46, val_main_v45, val_main_v41, val_main_v38, val_main_v37, val_main_v36, val_main_v21, val_main_v20, val_main_v19, val_main_cst_6, val_main_cst_9, val_main_cst_11]
  simp only [cen_apply, dhat_apply, dev_apply, rstd_apply]
  rfl

theorem direct_apply (i : Fin 16384) (l : Fin 1024) :
    val_main_v40 (F := Ideal) ct x g (ix2 i l) = dhat ct g i l * rstd w1024 (fun l => x (ix2 i l)) := by
  pointwise [val_main_v40, val_main_v39]
  rw [dhat_apply, rstd_apply]

theorem through_apply (i : Fin 16384) (l : Fin 1024) :
    val_main_v49 (F := Ideal) ct x g (ix2 i l)
      = dvar w1024 (dhat ct g i) (fun l => x (ix2 i l)) * (Ideal.ofBits .f32 0x40000000#32 * cen w1024 (fun l => x (ix2 i l)) l) := by
  pointwise [val_main_v49, val_main_v48, val_main_v47, val_main_v9, val_main_v8, val_main_cst_2, val_main_cst_12]
  simp only [cen_apply', Fin.sum_univ_one, zero_add, dvar_apply]

theorem dx_apply (i : Fin 16384) (l : Fin 1024) :
    val_main_v59 (F := Ideal) ct x g (ix2 i l) = lnVjp w1024 (dhat ct g i) (fun l => x (ix2 i l)) l := by
  pointwise [val_main_v59, val_main_v58, val_main_v57, val_main_v56, val_main_v55, val_main_v54, val_main_v53, val_main_v52,
    val_main_v51, val_main_v50, val_main_v44, val_main_v43, val_main_v42, val_main_cst_10, val_main_cst_13, val_main_cst_14, val_main_cst_15]
  simp only [direct_apply, through_apply, Fin.sum_univ_one, zero_add]
  rfl

/-- On real arrays a row's gradient is the one the kernels write. -/
theorem dx_eq (hct : ∀ i, IsReal (ct i)) (hx : ∀ i, IsReal (x i)) (hg : ∀ i, IsReal (g i)) (i : Fin 16384) (l : Fin 1024) :
    val_main_v59 (F := Ideal) ct x g (ix2 i l) = lnBwd w1024 (dhat ct g i) (fun l => x (ix2 i l)) l := by
  rw [dx_apply, width1024]
  exact (lnBwd_eq (by decide) _ _ (fun l => (hct _).mul (hg _)) (fun l => hx _) l).symm

theorem result0 (hct : ∀ i, IsReal (ct i)) (hx : ∀ i, IsReal (x i)) (hg : ∀ i, IsReal (g i)) :
    val_main_v59 (F := Ideal) ct x g = mat fun i => lnBwd w1024 (dhat ct g i) (fun l => x (ix2 i l)) := by
  funext i
  idx_vars i
  exact dx_eq ct x g hct hx hg _ _

theorem result1 (hct : ∀ i, IsReal (ct i)) (hx : ∀ i, IsReal (x i)) (hg : ∀ i, IsReal (g i)) :
    val_main_v60 (F := Ideal) ct x g = mat fun i => lnBwd w1024 (dhat ct g i) (fun l => x (ix2 i l)) := by
  funext i
  idx_vars i
  pointwise [val_main_v60]
  exact dx_eq ct x g hct hx hg _ _

theorem result2 : val_main_v33 (F := Ideal) ct x
    = mat fun _ : Fin 1 => fun l => ∑ i : Fin 16384, ct (ix2 i l) * xhat w1024 (fun l => x (ix2 i l)) l := by
  funext i
  idx_vars i
  obtain rfl : i0 = 0 := Subsingleton.elim _ _
  pointwise [val_main_v33, val_main_v32, val_main_v31, val_main_v28, val_main_cst_8]
  simp only [xhat_apply]
  exact Finset.sum_congr rfl fun _ _ => mul_comm _ _

theorem result3 : val_main_v30 (F := Ideal) ct = mat fun _ : Fin 1 => fun l => ∑ i : Fin 16384, ct (ix2 i l) := by
  funext i
  idx_vars i
  obtain rfl : i0 = 0 := Subsingleton.elim _ _
  pointwise [val_main_v30, val_main_v29, val_main_cst_7]
  rfl

theorem result4 (hct : ∀ i, IsReal (ct i)) (hx : ∀ i, IsReal (x i)) (hg : ∀ i, IsReal (g i)) :
    val_main_v62 (F := Ideal) ct x g
      = mat fun _ : Fin 1 => fun l => ∑ i, lnBwd w1024 (dhat ct g i) (fun l => x (ix2 i l)) l := by
  funext i
  idx_vars i
  obtain rfl : i0 = 0 := Subsingleton.elim _ _
  pointwise [val_main_v62, val_main_v61, val_main_cst_16]
  simp only [dx_eq ct x g hct hx hg]
  rfl

end Cert.Reference12Ideal

end
-- ==== Proof.LnBwd.lean ====
/-
  The gradient of the layer's second norm, as the kernel writes it: its five arrays are the rows' gradients, the same once
  more in the narrow format, and the columns' sums of three row-wise arrays.

  The grid is 32 points of 512 rows. Each point writes its rows' gradients and adds its rows to the three sums, which the
  first point has set to zero and the last one writes back.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Kernel12Ideal.Value

@[expose] public section

set_option maxRecDepth 16384

noncomputable section

namespace Cert.Kernel12Ideal.Norm

open Cert.Kernel12Ideal Cert.Kernel12Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1024 := m ((c : Thread nD τ).loc main_arg0)
abbrev x (c : Dev nD) : Mat 16384 1024 := m ((c : Thread nD τ).loc main_arg1)
abbrev g (c : Dev nD) : Mat 1 1024 := m ((c : Thread nD τ).loc main_arg2)

/-- The row of the arrays at a point's row. -/
def row (t : Fin cfg0.N) (r : Fin 512) : Fin 16384 := ⟨t.val % 32 * 512 + r.val, by idx_bounds; omega⟩

theorem blk0 (c : Dev nD) (t : Fin cfg0.N) (r : Fin 512) (l : Fin 1024) : iblk m c 0 t (ix2 r l) = ct m c (ix2 (row t r) l) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (r : Fin 512) (l : Fin 1024) : iblk m c 1 t (ix2 r l) = x m c (ix2 (row t r) l) := by
  have e : ∀ t : Fin cfg0.N, win0_1.index t = ![t.val % 32, 0] := (by decide +kernel : ∀ t : Fin grid0.N, _)
  blk_simp [iblk]
  rw [V_main_arg1]
  unfold row
  blk_ext [e]

theorem blk2 (c : Dev nD) (t : Fin cfg0.N) (l : Fin 1024) : iblk m c 2 t (ix2 0 l) = g m c (ix2 0 l) := by
  have e : ∀ t : Fin cfg0.N, win0_2.index t = ![0, 0] := (by decide +kernel : ∀ t : Fin grid0.N, _)
  blk_simp [iblk]
  rw [V_main_arg2]
  blk_ext [e]

/-! ## A point's rows -/

theorem cen_pay (v : Vec Ideal S512x1024 .f32) (r : Fin 512) (l : Fin 1024) :
    k0_pay8 v (ix2 r l) = cen w1024 (fun l => v (ix2 r l)) l := by
  pointwise [k0_pay8]
  rfl

theorem rstd_pay (v : Vec Ideal S512x1024 .f32) (r : Fin 512) :
    k0_pay9 v (ix2 r 0) = rstd w1024 (fun l => v (ix2 r l)) := by
  pointwise [k0_pay9]
  simp only [cen_pay]
  rfl

theorem xhat_pay (v : Vec Ideal S512x1024 .f32) (r : Fin 512) (l : Fin 1024) :
    k0_pay10 v (ix2 r l) = xhat w1024 (fun l => v (ix2 r l)) l := by
  pointwise [k0_pay10]
  rw [cen_pay, rstd_pay]
  rfl

theorem dx_pay (d x : Vec Ideal S512x1024 .f32) (g : Vec Ideal S1x1024 .f32) (r : Fin 512) (l : Fin 1024) :
    k0_pay11 d x g (ix2 r l)
      = lnBwd w1024 (fun l => d (ix2 r l) * g (ix2 0 l)) (fun l => x (ix2 r l)) l := by
  pointwise [k0_pay11]
  simp only [xhat_pay, rstd_pay]
  rfl

/-- A row's gradient. -/
def dx (c : Dev nD) (i : Fin 16384) (l : Fin 1024) : EReal :=
  lnBwd w1024 (fun l => ct m c (ix2 i l) * g m c (ix2 0 l)) (fun l => x m c (ix2 i l)) l

theorem dx_tile (c : Dev nD) (t : Fin cfg0.N) (r : Fin 512) (l : Fin 1024) :
    k0_pay11 (F := Ideal) (iblk m c 0 t) (iblk m c 1 t) (iblk m c 2 t) (ix2 r l) = dx m c (row t r) l := by
  rw [dx_pay]
  simp only [blk0, blk1, blk2]
  rfl

theorem out3 (c : Dev nD) (t : Fin cfg0.N) (r : Fin 512) (l : Fin 1024) :
    (outsAt0 (F := Ideal) m c t.val t.isLt).1 (ix2 r l) = dx m c (row t r) l := by
  by_cases h : t.val % 32 = 0
  on_goal 1 => rw [Gen.outsAt0_A m c t h]
  on_goal 2 => rw [Gen.outsAt0_B m c t h]
  all_goals
    frame_out
    exact dx_tile m c t r l

theorem out4 (c : Dev nD) (t : Fin cfg0.N) (r : Fin 512) (l : Fin 1024) :
    (outsAt0 (F := Ideal) m c t.val t.isLt).2.1 (ix2 r l) = dx m c (row t r) l := by
  by_cases h : t.val % 32 = 0
  on_goal 1 => rw [Gen.outsAt0_A m c t h]
  on_goal 2 => rw [Gen.outsAt0_B m c t h]
  all_goals
    frame_out
    exact dx_tile m c t r l

/-! ## The columns' sums -/

/-- What the three sums add up, a row: the scale's and the shift's gradients, and the rows' gradients. -/
def term (c : Dev nD) (k : Fin 3) (i : Fin 16384) (l : Fin 1024) : EReal :=
  ![ct m c (ix2 i l) * xhat w1024 (fun l => x m c (ix2 i l)) l, ct m c (ix2 i l), dx m c i l] k

/-- One point's part of a sum. -/
def part (c : Dev nD) (t : Fin cfg0.N) (q : Fin 3 × Fin 1024) : EReal := ∑ r : Fin 512, term m c q.1 (row t r) q.2

/-- The three sums after a point. -/
def acc (c : Dev nD) (n : ℕ) (hn : n < cfg0.N) (q : Fin 3 × Fin 1024) : EReal :=
  ![(outsAt0 (F := Ideal) m c n hn).2.2.1 (ix2 0 q.2), (outsAt0 (F := Ideal) m c n hn).2.2.2.1 (ix2 0 q.2),
    (outsAt0 (F := Ideal) m c n hn).2.2.2.2 (ix2 0 q.2)] q.1

theorem step0 (c : Dev nD) (t : Fin cfg0.N) (v : Vec Ideal S1x1024 .f32) (l : Fin 1024) :
    k0_pay2 (iblk m c 0 t) (k0_pay10 (iblk m c 1 t)) v (ix2 0 l) = v (ix2 0 l) + part m c t (0, l) := by
  pointwise [k0_pay2]
  simp only [xhat_pay, blk0, blk1]
  rfl

theorem step1 (c : Dev nD) (t : Fin cfg0.N) (v : Vec Ideal S1x1024 .f32) (l : Fin 1024) :
    k0_pay3 (iblk m c 0 t) v (ix2 0 l) = v (ix2 0 l) + part m c t (1, l) := by
  pointwise [k0_pay3]
  simp only [blk0]
  rfl

theorem step2 (c : Dev nD) (t : Fin cfg0.N) (v : Vec Ideal S1x1024 .f32) (l : Fin 1024) :
    k0_pay4 (k0_pay11 (iblk m c 0 t) (iblk m c 1 t) (iblk m c 2 t)) v (ix2 0 l) = v (ix2 0 l) + part m c t (2, l) := by
  pointwise [k0_pay4]
  simp only [dx_tile]
  rfl

theorem out_A (c : Dev nD) (t : Fin cfg0.N) (ht : t.val % 32 = 0) (q : Fin 3 × Fin 1024) :
    acc m c t.val t.isLt q = 0 + part m c t q := by
  obtain ⟨k, l⟩ := q
  unfold acc
  rw [Gen.outsAt0_A m c t ht]
  fin_cases k
  · frame_out
    refine (step0 m c t _ _).trans (congrArg (· + _) ?_)
    pointwise [k0_pay5]
  · frame_out
    refine (step1 m c t _ _).trans (congrArg (· + _) ?_)
    pointwise [k0_pay6]
  · frame_out
    refine (step2 m c t _ _).trans (congrArg (· + _) ?_)
    pointwise [k0_pay7]

theorem out_B (c : Dev nD) (t : Fin cfg0.N) (ht : ¬ t.val % 32 = 0) (q : Fin 3 × Fin 1024) :
    acc m c t.val t.isLt q = acc m c (t.val - 1) (Nat.lt_of_le_of_lt (Nat.sub_le _ _) t.isLt) q + part m c t q := by
  obtain ⟨k, l⟩ := q
  unfold acc
  rw [Gen.outsAt0_B m c t ht]
  fin_cases k
  · frame_out
    exact step0 m c t _ _
  · frame_out
    exact step1 m c t _ _
  · frame_out
    exact step2 m c t _ _

theorem sums (c : Dev nD) (t : Fin cfg0.N) (ht : t.val % 32 = 31) (q : Fin 3 × Fin 1024) :
    acc m c t.val t.isLt q = ∑ i, term m c q.1 i q.2 := by
  refine (Pipeline.eq_sum_fin_of_reset_step_apply_of_flush (acc m c) 32 (fun _ => 0) (part m c) (out_A m c) (out_B m c) t ht q).trans ?_
  rw [zero_add]
  refine sum_runs 32 512 16384 rfl _ _ fun s r hr => ?_
  rw [show row ⟨32 * (t.val / 32) + s.val, Pipeline.run_point_lt_of_flush t ht s⟩ r = ⟨s.val * 512 + r.val, hr⟩ from
    Fin.ext (by simp only [row]; omega)]

/-! ## The arrays -/

theorem final3 (c : Dev nD) : (dats m 0 c).arrAt 3 cfg0.N = mat (dx m c) := by
  have e : ∀ t : Fin cfg0.N, win0_3.index t = ![t.val % 32, 0] := (by decide +kernel : ∀ t : Fin grid0.N, _)
  refine (dats m 0 c).arrAt_eq_of_covers 3 _ (by decide +kernel) fun t hf j => ?_
  blk_simp
  rw [after0_3]
  idx_vars j
  refine (out3 m c t _ _).trans (congrArg₂ (dx m c) (Fin.ext ?_) (Fin.ext ?_))
  all_goals blk_simp [e, row]

theorem final4 (c : Dev nD) : (dats m 0 c).arrAt 4 cfg0.N = mat (dx m c) := by
  have e : ∀ t : Fin cfg0.N, win0_4.index t = ![t.val % 32, 0] := (by decide +kernel : ∀ t : Fin grid0.N, _)
  refine (dats m 0 c).arrAt_eq_of_covers 4 _ (by decide +kernel) fun t hf j => ?_
  blk_simp
  rw [after0_4]
  idx_vars j
  refine (out4 m c t _ _).trans (congrArg₂ (dx m c) (Fin.ext ?_) (Fin.ext ?_))
  all_goals blk_simp [e, row]

/-- The array of a sum. -/
abbrev total (c : Dev nD) (k : Fin 3) : Mat 1 1024 := mat fun _ : Fin 1 => fun l => ∑ i, term m c k i l

theorem final5 (c : Dev nD) : (dats m 0 c).arrAt 5 cfg0.N = total m c 0 := by
  have e : ∀ t : Fin cfg0.N, win0_5.index t = ![0, 0] := (by decide +kernel : ∀ t : Fin grid0.N, _)
  refine (dats m 0 c).arrAt_eq_of_covers 5 _ (by decide +kernel) fun t hf j => ?_
  blk_simp
  rw [after0_5]
  idx_vars j
  obtain rfl : j0 = 0 := Subsingleton.elim _ _
  refine (sums m c t ((flush0_5 t).mp hf) (0, _)).trans (congrArg (fun j => ∑ i, term m c 0 i j) (Fin.ext ?_))
  blk_simp [e]

theorem final6 (c : Dev nD) : (dats m 0 c).arrAt 6 cfg0.N = total m c 1 := by
  have e : ∀ t : Fin cfg0.N, win0_6.index t = ![0, 0] := (by decide +kernel : ∀ t : Fin grid0.N, _)
  refine (dats m 0 c).arrAt_eq_of_covers 6 _ (by decide +kernel) fun t hf j => ?_
  blk_simp
  rw [after0_6]
  idx_vars j
  obtain rfl : j0 = 0 := Subsingleton.elim _ _
  refine (sums m c t ((flush0_6 t).mp hf) (1, _)).trans (congrArg (fun j => ∑ i, term m c 1 i j) (Fin.ext ?_))
  blk_simp [e]

theorem final7 (c : Dev nD) : (dats m 0 c).arrAt 7 cfg0.N = total m c 2 := by
  have e : ∀ t : Fin cfg0.N, win0_7.index t = ![0, 0] := (by decide +kernel : ∀ t : Fin grid0.N, _)
  refine (dats m 0 c).arrAt_eq_of_covers 7 _ (by decide +kernel) fun t hf j => ?_
  blk_simp
  rw [after0_7]
  idx_vars j
  obtain rfl : j0 = 0 := Subsingleton.elim _ _
  refine (sums m c t ((flush0_7 t).mp hf) (2, _)).trans (congrArg (fun j => ∑ i, term m c 2 i j) (Fin.ext ?_))
  blk_simp [e]

end Cert.Kernel12Ideal.Norm

end
-- ==== Proof.Ff1BwdLn.lean ====
/-
  The gradient through the feed-forward's first product, the residual beside it and the layer's first norm: the norm's output
  has the cotangent `ct · wᵀ + α r`, and the kernel's four arrays are the rows' gradients, the same once more in the narrow
  format, and the scale's and the shift's gradients.

  The grid is 32 points of 512 rows. Each point writes its rows' gradients and adds its rows to the two sums, which the first
  point has set to zero and the last one writes back.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Kernel14Ideal.Value

@[expose] public section

set_option maxRecDepth 16384

noncomputable section

namespace Cert.Kernel14Ideal.Norm

open Cert.Kernel14Ideal Cert.Kernel14Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 4096 := m ((c : Thread nD τ).loc main_arg0)
abbrev w (c : Dev nD) : Mat 1024 4096 := m ((c : Thread nD τ).loc main_arg1)
abbrev res (c : Dev nD) : Mat 16384 1024 := m ((c : Thread nD τ).loc main_arg2)
abbrev x (c : Dev nD) : Mat 16384 1024 := m ((c : Thread nD τ).loc main_arg3)
abbrev g (c : Dev nD) : Mat 1 1024 := m ((c : Thread nD τ).loc main_arg4)

/-- The row of the arrays at a point's row. -/
def row (t : Fin cfg0.N) (r : Fin 512) : Fin 16384 := ⟨t.val % 32 * 512 + r.val, by idx_bounds; omega⟩

theorem blk0 (c : Dev nD) (t : Fin cfg0.N) (r : Fin 512) (k : Fin 4096) : iblk m c 0 t (ix2 r k) = ct m c (ix2 (row t r) k) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (l : Fin 1024) (k : Fin 4096) : iblk m c 1 t (ix2 l k) = w m c (ix2 l k) := by
  have e : ∀ t : Fin cfg0.N, win0_1.index t = ![0, 0] := (by decide +kernel : ∀ t : Fin grid0.N, _)
  blk_simp [iblk]
  rw [V_main_arg1]
  blk_ext [e]

theorem blk2 (c : Dev nD) (t : Fin cfg0.N) (r : Fin 512) (l : Fin 1024) : iblk m c 2 t (ix2 r l) = res m c (ix2 (row t r) l) := by
  have e : ∀ t : Fin cfg0.N, win0_2.index t = ![t.val % 32, 0] := (by decide +kernel : ∀ t : Fin grid0.N, _)
  blk_simp [iblk]
  rw [V_main_arg2]
  unfold row
  blk_ext [e]

theorem blk3 (c : Dev nD) (t : Fin cfg0.N) (r : Fin 512) (l : Fin 1024) : iblk m c 3 t (ix2 r l) = x m c (ix2 (row t r) l) := by
  have e : ∀ t : Fin cfg0.N, win0_3.index t = ![t.val % 32, 0] := (by decide +kernel : ∀ t : Fin grid0.N, _)
  blk_simp [iblk]
  rw [V_main_arg3]
  unfold row
  blk_ext [e]

theorem blk4 (c : Dev nD) (t : Fin cfg0.N) (l : Fin 1024) : iblk m c 4 t (ix2 0 l) = g m c (ix2 0 l) := by
  have e : ∀ t : Fin cfg0.N, win0_4.index t = ![0, 0] := (by decide +kernel : ∀ t : Fin grid0.N, _)
  blk_simp [iblk]
  rw [V_main_arg4]
  blk_ext [e]

/-! ## A point's rows -/

/-- The cotangent of the norm's output. -/
def dn (c : Dev nD) (i : Fin 16384) (l : Fin 1024) : EReal := nt (ct m c) (w m c) i l + root2 * res m c (ix2 i l)

theorem dn_tile (c : Dev nD) (t : Fin cfg0.N) (r : Fin 512) (l : Fin 1024) :
    k0_pay7 (F := Ideal) (iblk m c 2 t) (iblk m c 0 t) (iblk m c 1 t) (ix2 r l) = dn m c (row t r) l := by
  pointwise [k0_pay7]
  simp only [blk0, blk1, blk2]
  exact add_comm _ _

theorem cen_pay (v : Vec Ideal S512x1024 .f32) (r : Fin 512) (l : Fin 1024) :
    k0_pay8 v (ix2 r l) = cen w1024 (fun l => v (ix2 r l)) l := by
  pointwise [k0_pay8]
  rfl

theorem rstd_pay (v : Vec Ideal S512x1024 .f32) (r : Fin 512) :
    k0_pay9 v (ix2 r 0) = rstd w1024 (fun l => v (ix2 r l)) := by
  pointwise [k0_pay9]
  simp only [cen_pay]
  rfl

theorem xhat_pay (v : Vec Ideal S512x1024 .f32) (r : Fin 512) (l : Fin 1024) :
    k0_pay10 v (ix2 r l) = xhat w1024 (fun l => v (ix2 r l)) l := by
  pointwise [k0_pay10]
  rw [cen_pay, rstd_pay]
  rfl

theorem dhat_tile (c : Dev nD) (t : Fin cfg0.N) (r : Fin 512) (l : Fin 1024) :
    k0_pay11 (F := Ideal) (iblk m c 2 t) (iblk m c 0 t) (iblk m c 1 t) (iblk m c 4 t) (ix2 r l)
      = dn m c (row t r) l * g m c (ix2 0 l) := by
  pointwise [k0_pay11]
  rw [dn_tile, blk4]

/-- A row's gradient. -/
def dx (c : Dev nD) (i : Fin 16384) (l : Fin 1024) : EReal :=
  lnBwd w1024 (fun l => dn m c i l * g m c (ix2 0 l)) (fun l => x m c (ix2 i l)) l

theorem dx_tile (c : Dev nD) (t : Fin cfg0.N) (r : Fin 512) (l : Fin 1024) :
    k0_pay1 (F := Ideal) (k0_pay9 (iblk m c 3 t)) (k0_pay10 (iblk m c 3 t))
        (k0_pay12 (iblk m c 2 t) (iblk m c 0 t) (iblk m c 1 t) (iblk m c 4 t))
        (k0_pay13 (iblk m c 2 t) (iblk m c 0 t) (iblk m c 1 t) (iblk m c 3 t) (iblk m c 4 t)) (ix2 r l)
      = dx m c (row t r) l := by
  pointwise [k0_pay1, k0_pay12, k0_pay13]
  simp only [dhat_tile, xhat_pay, rstd_pay, blk3]
  rfl

theorem out5 (c : Dev nD) (t : Fin cfg0.N) (r : Fin 512) (l : Fin 1024) :
    (outsAt0 (F := Ideal) m c t.val t.isLt).1 (ix2 r l) = dx m c (row t r) l := by
  by_cases h : t.val % 32 = 0
  on_goal 1 => rw [Gen.outsAt0_A m c t h]
  on_goal 2 => rw [Gen.outsAt0_B m c t h]
  all_goals
    frame_out
    exact dx_tile m c t r l

theorem out6 (c : Dev nD) (t : Fin cfg0.N) (r : Fin 512) (l : Fin 1024) :
    (outsAt0 (F := Ideal) m c t.val t.isLt).2.1 (ix2 r l) = dx m c (row t r) l := by
  by_cases h : t.val % 32 = 0
  on_goal 1 => rw [Gen.outsAt0_A m c t h]
  on_goal 2 => rw [Gen.outsAt0_B m c t h]
  all_goals
    frame_out
    exact dx_tile m c t r l

/-! ## The columns' sums -/

/-- What the two sums add up, a row: the scale's and the shift's gradients. -/
def term (c : Dev nD) (k : Fin 2) (i : Fin 16384) (l : Fin 1024) : EReal :=
  ![dn m c i l * xhat w1024 (fun l => x m c (ix2 i l)) l, dn m c i l] k

/-- One point's part of a sum. -/
def part (c : Dev nD) (t : Fin cfg0.N) (q : Fin 2 × Fin 1024) : EReal := ∑ r : Fin 512, term m c q.1 (row t r) q.2

/-- The two sums after a point. -/
def acc (c : Dev nD) (n : ℕ) (hn : n < cfg0.N) (q : Fin 2 × Fin 1024) : EReal :=
  ![(outsAt0 (F := Ideal) m c n hn).2.2.1 (ix2 0 q.2), (outsAt0 (F := Ideal) m c n hn).2.2.2 (ix2 0 q.2)] q.1

theorem step0 (c : Dev nD) (t : Fin cfg0.N) (v : Vec Ideal S1x1024 .f32) (l : Fin 1024) :
    k0_pay3 (k0_pay7 (iblk m c 2 t) (iblk m c 0 t) (iblk m c 1 t)) (k0_pay10 (iblk m c 3 t)) v (ix2 0 l)
      = v (ix2 0 l) + part m c t (0, l) := by
  pointwise [k0_pay3]
  simp only [dn_tile, xhat_pay, blk3]
  rfl

theorem step1 (c : Dev nD) (t : Fin cfg0.N) (v : Vec Ideal S1x1024 .f32) (l : Fin 1024) :
    k0_pay4 (k0_pay7 (iblk m c 2 t) (iblk m c 0 t) (iblk m c 1 t)) v (ix2 0 l) = v (ix2 0 l) + part m c t (1, l) := by
  pointwise [k0_pay4]
  simp only [dn_tile]
  rfl

theorem out_A (c : Dev nD) (t : Fin cfg0.N) (ht : t.val % 32 = 0) (q : Fin 2 × Fin 1024) :
    acc m c t.val t.isLt q = 0 + part m c t q := by
  obtain ⟨k, l⟩ := q
  unfold acc
  rw [Gen.outsAt0_A m c t ht]
  fin_cases k
  · frame_out
    refine (step0 m c t _ _).trans (congrArg (· + _) ?_)
    pointwise [k0_pay5]
  · frame_out
    refine (step1 m c t _ _).trans (congrArg (· + _) ?_)
    pointwise [k0_pay6]

theorem out_B (c : Dev nD) (t : Fin cfg0.N) (ht : ¬ t.val % 32 = 0) (q : Fin 2 × Fin 1024) :
    acc m c t.val t.isLt q = acc m c (t.val - 1) (Nat.lt_of_le_of_lt (Nat.sub_le _ _) t.isLt) q + part m c t q := by
  obtain ⟨k, l⟩ := q
  unfold acc
  rw [Gen.outsAt0_B m c t ht]
  fin_cases k
  · frame_out
    exact step0 m c t _ _
  · frame_out
    exact step1 m c t _ _

theorem sums (c : Dev nD) (t : Fin cfg0.N) (ht : t.val % 32 = 31) (q : Fin 2 × Fin 1024) :
    acc m c t.val t.isLt q = ∑ i, term m c q.1 i q.2 := by
  refine (Pipeline.eq_sum_fin_of_reset_step_apply_of_flush (acc m c) 32 (fun _ => 0) (part m c) (out_A m c) (out_B m c) t ht q).trans ?_
  rw [zero_add]
  refine sum_runs 32 512 16384 rfl _ _ fun s r hr => ?_
  rw [show row ⟨32 * (t.val / 32) + s.val, Pipeline.run_point_lt_of_flush t ht s⟩ r = ⟨s.val * 512 + r.val, hr⟩ from
    Fin.ext (by simp only [row]; omega)]

/-! ## The arrays -/

theorem final5 (c : Dev nD) : (dats m 0 c).arrAt 5 cfg0.N = mat (dx m c) := by
  have e : ∀ t : Fin cfg0.N, win0_5.index t = ![t.val % 32, 0] := (by decide +kernel : ∀ t : Fin grid0.N, _)
  refine (dats m 0 c).arrAt_eq_of_covers 5 _ (by decide +kernel) fun t hf j => ?_
  blk_simp
  rw [after0_5]
  idx_vars j
  refine (out5 m c t _ _).trans (congrArg₂ (dx m c) (Fin.ext ?_) (Fin.ext ?_))
  all_goals blk_simp [e, row]

theorem final6 (c : Dev nD) : (dats m 0 c).arrAt 6 cfg0.N = mat (dx m c) := by
  have e : ∀ t : Fin cfg0.N, win0_6.index t = ![t.val % 32, 0] := (by decide +kernel : ∀ t : Fin grid0.N, _)
  refine (dats m 0 c).arrAt_eq_of_covers 6 _ (by decide +kernel) fun t hf j => ?_
  blk_simp
  rw [after0_6]
  idx_vars j
  refine (out6 m c t _ _).trans (congrArg₂ (dx m c) (Fin.ext ?_) (Fin.ext ?_))
  all_goals blk_simp [e, row]

/-- The array of a sum. -/
abbrev total (c : Dev nD) (k : Fin 2) : Mat 1 1024 := mat fun _ : Fin 1 => fun l => ∑ i, term m c k i l

theorem final7 (c : Dev nD) : (dats m 0 c).arrAt 7 cfg0.N = total m c 0 := by
  have e : ∀ t : Fin cfg0.N, win0_7.index t = ![0, 0] := (by decide +kernel : ∀ t : Fin grid0.N, _)
  refine (dats m 0 c).arrAt_eq_of_covers 7 _ (by decide +kernel) fun t hf j => ?_
  blk_simp
  rw [after0_7]
  idx_vars j
  obtain rfl : j0 = 0 := Subsingleton.elim _ _
  refine (sums m c t ((flush0_7 t).mp hf) (0, _)).trans (congrArg (fun j => ∑ i, term m c 0 i j) (Fin.ext ?_))
  blk_simp [e]

theorem final8 (c : Dev nD) : (dats m 0 c).arrAt 8 cfg0.N = total m c 1 := by
  have e : ∀ t : Fin cfg0.N, win0_8.index t = ![0, 0] := (by decide +kernel : ∀ t : Fin grid0.N, _)
  refine (dats m 0 c).arrAt_eq_of_covers 8 _ (by decide +kernel) fun t hf j => ?_
  blk_simp
  rw [after0_8]
  idx_vars j
  obtain rfl : j0 = 0 := Subsingleton.elim _ _
  refine (sums m c t ((flush0_8 t).mp hf) (1, _)).trans (congrArg (fun j => ∑ i, term m c 1 i j) (Fin.ext ?_))
  blk_simp [e]

end Cert.Kernel14Ideal.Norm

end
-- ==== Proof.Ff1BwdLnReference.lean ====
/-
  The gradient through the feed-forward's first product, the residual beside it and the layer's first norm, as the reference's
  operations give it, entry by entry.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Reference14Ideal.Read

@[expose] public section

set_option maxRecDepth 16384

noncomputable section

open Idealize Idealize.ShloMosaic

namespace Cert.Reference14Ideal

open Read Cert.Step

variable (ct : Mat 16384 4096) (w : Mat 1024 4096) (res x : Mat 16384 1024) (g : Mat 1 1024)

theorem cen_apply (i : Fin 16384) (l : Fin 1024) : val_main_v15 (F := Ideal) x (ix2 i l) = cen w1024 (fun l => x (ix2 i l)) l := by
  pointwise [val_main_v15, val_main_v14, val_main_v4, val_main_v3, val_main_v2, val_main_v1, val_main_cst_0, val_main_cst_1]
  rfl

theorem cen_apply' (i : Fin 16384) (l : Fin 1024) : val_main_v6 (F := Ideal) x (ix2 i l) = cen w1024 (fun l => x (ix2 i l)) l := by
  pointwise [val_main_v6, val_main_v5, val_main_v4, val_main_v3, val_main_v2, val_main_v1, val_main_cst_0, val_main_cst_1]
  rfl

theorem dev_apply (i : Fin 16384) : val_main_v17 (F := Ideal) x (ix2 i 0) = dev w1024 (fun l => x (ix2 i l)) := by
  pointwise [val_main_v17, val_main_v16, val_main_v13, val_main_v12, val_main_v11, val_main_v10, val_main_v7, val_main_cst_3, val_main_cst_4, val_main_cst_5]
  simp only [cen_apply']
  rfl

theorem rstd_apply (i : Fin 16384) : val_main_v18 (F := Ideal) x (ix2 i 0) = rstd w1024 (fun l => x (ix2 i l)) := by
  pointwise [val_main_v18]
  rw [dev_apply]
  rfl

theorem xhat_apply (i : Fin 16384) (l : Fin 1024) : val_main_v23 (F := Ideal) x (ix2 i l) = xhat w1024 (fun l => x (ix2 i l)) l := by
  pointwise [val_main_v23, val_main_v22]
  rw [cen_apply, rstd_apply]
  rfl

/-- The cotangent of the norm's output, through the product and through the residual. -/
abbrev dn (i : Fin 16384) (l : Fin 1024) : EReal := nt ct w i l + root2 * res (ix2 i l)

theorem dn_apply (i : Fin 16384) (l : Fin 1024) : val_main_v36 (F := Ideal) ct w res (ix2 i l) = dn ct w res i l := by
  pointwise [val_main_v36, val_main_v35, val_main_v34, val_main_v33, val_main_v32, val_main_v28, val_main_cst_8]
  exact add_comm _ _

/-- A row's cotangent, at the normalised entries. -/
abbrev dhat (i : Fin 16384) (l : Fin 1024) : EReal := dn ct w res i l * g (ix2 0 l)

theorem dhat_apply (i : Fin 16384) (l : Fin 1024) : val_main_v43 (F := Ideal) ct w res g (ix2 i l) = dhat ct w res g i l := by
  pointwise [val_main_v43, val_main_v42]
  rw [dn_apply]

theorem dvar_apply (i : Fin 16384) :
    val_main_v54 (F := Ideal) ct w res x g (ix2 i 0) = dvar w1024 (dhat ct w res g i) (fun l => x (ix2 i l)) := by
  pointwise [val_main_v54, val_main_v53, val_main_v49, val_main_v46, val_main_v45, val_main_v44, val_main_v21, val_main_v20, val_main_v19, val_main_cst_6, val_main_cst_11, val_main_cst_13]
  simp only [cen_apply, dhat_apply, dev_apply, rstd_apply]
  rfl

theorem direct_apply (i : Fin 16384) (l : Fin 1024) :
    val_main_v48 (F := Ideal) ct w res x g (ix2 i l) = dhat ct w res g i l * rstd w1024 (fun l => x (ix2 i l)) := by
  pointwise [val_main_v48, val_main_v47]
  rw [dhat_apply, rstd_apply]

theorem through_apply (i : Fin 16384) (l : Fin 1024) :
    val_main_v57 (F := Ideal) ct w res x g (ix2 i l)
      = dvar w1024 (dhat ct w res g i) (fun l => x (ix2 i l)) * (Ideal.ofBits .f32 0x40000000#32 * cen w1024 (fun l => x (ix2 i l)) l) := by
  pointwise [val_main_v57, val_main_v56, val_main_v55, val_main_v9, val_main_v8, val_main_cst_2, val_main_cst_14]
  simp only [cen_apply', Fin.sum_univ_one, zero_add, dvar_apply]

theorem dx_apply (i : Fin 16384) (l : Fin 1024) :
    val_main_v67 (F := Ideal) ct w res x g (ix2 i l) = lnVjp w1024 (dhat ct w res g i) (fun l => x (ix2 i l)) l := by
  pointwise [val_main_v67, val_main_v66, val_main_v65, val_main_v64, val_main_v63, val_main_v62, val_main_v61, val_main_v60,
    val_main_v59, val_main_v58, val_main_v52, val_main_v51, val_main_v50, val_main_cst_12, val_main_cst_15, val_main_cst_16, val_main_cst_17]
  simp only [direct_apply, through_apply, Fin.sum_univ_one, zero_add]
  rfl

/-- On real arrays a row's gradient is the one the kernel writes. -/
theorem dx_eq (hct : ∀ i, IsReal (ct i)) (hw : ∀ i, IsReal (w i)) (hres : ∀ i, IsReal (res i)) (hx : ∀ i, IsReal (x i))
    (hg : ∀ i, IsReal (g i)) (i : Fin 16384) (l : Fin 1024) :
    val_main_v67 (F := Ideal) ct w res x g (ix2 i l) = lnBwd w1024 (dhat ct w res g i) (fun l => x (ix2 i l)) l := by
  rw [dx_apply, width1024]
  exact (lnBwd_eq (by decide) _ _ (fun l => ((IsReal.sum fun k => (hct _).mul (hw _)).add (root2_real.mul (hres _))).mul (hg _))
    (fun l => hx _) l).symm

theorem result0 (hct : ∀ i, IsReal (ct i)) (hw : ∀ i, IsReal (w i)) (hres : ∀ i, IsReal (res i)) (hx : ∀ i, IsReal (x i))
    (hg : ∀ i, IsReal (g i)) :
    val_main_v67 (F := Ideal) ct w res x g = mat fun i => lnBwd w1024 (dhat ct w res g i) (fun l => x (ix2 i l)) := by
  funext i
  idx_vars i
  exact dx_eq ct w res x g hct hw hres hx hg _ _

theorem result1 (hct : ∀ i, IsReal (ct i)) (hw : ∀ i, IsReal (w i)) (hres : ∀ i, IsReal (res i)) (hx : ∀ i, IsReal (x i))
    (hg : ∀ i, IsReal (g i)) :
    val_main_v68 (F := Ideal) ct w res x g = mat fun i => lnBwd w1024 (dhat ct w res g i) (fun l => x (ix2 i l)) := by
  funext i
  idx_vars i
  pointwise [val_main_v68]
  exact dx_eq ct w res x g hct hw hres hx hg _ _

theorem result2 : val_main_v41 (F := Ideal) ct w res x
    = mat fun _ : Fin 1 => fun l => ∑ i : Fin 16384, dn ct w res i l * xhat w1024 (fun l => x (ix2 i l)) l := by
  funext i
  idx_vars i
  obtain rfl : i0 = 0 := Subsingleton.elim _ _
  pointwise [val_main_v41, val_main_v40, val_main_v39, val_main_cst_10]
  simp only [xhat_apply, dn_apply]
  exact Finset.sum_congr rfl fun _ _ => mul_comm _ _

theorem result3 : val_main_v38 (F := Ideal) ct w res = mat fun _ : Fin 1 => fun l => ∑ i : Fin 16384, dn ct w res i l := by
  funext i
  idx_vars i
  obtain rfl : i0 = 0 := Subsingleton.elim _ _
  pointwise [val_main_v38, val_main_v37, val_main_cst_9]
  simp only [dn_apply]
  rfl

end Cert.Reference14Ideal

end
-- ==== Proof.Silu.lean ====
/-
  The gradient of the SiLU activation `n · σ(n)`, as the kernel writes it and as the derivative of the forward lines gives it.
-/
module

public import proofs.«01_k».proof.Proof.LayerNorm

@[expose] public section

noncomputable section

namespace Cert.Step

open Idealize.ShloMosaic

/-- The slope of the activation times a cotangent, as the kernel writes it. -/
def siluBwd (ct n : EReal) : EReal := ct * (Ideal.logistic n * (1 + n * (1 - Ideal.logistic n)))

/-- The same by the product's rule: through the logistic's factor's partner, and through the logistic. -/
def siluVjp (ct n : EReal) : EReal := ct * Ideal.logistic n + n * ct * (Ideal.logistic n * (1 - Ideal.logistic n))

theorem siluBwd_real {ct n : EReal} (hct : IsReal ct) (hn : IsReal n) : IsReal (siluBwd ct n) := by
  obtain ⟨b, rfl⟩ := hn
  have hs : IsReal (Ideal.logistic b) := ⟨_, Ideal.logistic_coe b⟩
  have h1 : IsReal 1 := ⟨1, EReal.coe_one.symm⟩
  exact hct.mul (hs.mul (h1.add ((IsReal.coe b).mul (h1.sub hs))))

/-- The two agree on real values. -/
theorem siluVjp_eq {ct n : EReal} (hct : IsReal ct) (hn : IsReal n) : siluVjp ct n = siluBwd ct n := by
  obtain ⟨a, rfl⟩ := hct
  obtain ⟨b, rfl⟩ := hn
  simp only [siluVjp, siluBwd, Ideal.logistic_coe, ← EReal.coe_one, ← EReal.coe_mul, ← EReal.coe_sub, ← EReal.coe_add]
  refine congrArg _ ?_
  ring

end Cert.Step

end
-- ==== Proof.ConvBwdPre.lean ====
/-
  The gradient of the convolution path's norm and activation `silu(norm(c))`: the kernel's four arrays are the rows' gradients,
  the scale's and the shift's gradients, and the columns' sums of the rows' gradients.

  The grid is 32 points of 512 rows. Each point writes its rows' gradients and adds its rows to the three sums, which the
  first point has set to zero and the last one writes back.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Silu
public import proofs.«01_k».proof.Proof.Gen.Kernel15Ideal.Value

@[expose] public section

set_option maxRecDepth 16384

noncomputable section

namespace Cert.Kernel15Ideal.Norm

open Cert.Kernel15Ideal Cert.Kernel15Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 512 := m ((c : Thread nD τ).loc main_arg0)
abbrev x (c : Dev nD) : Mat 16384 512 := m ((c : Thread nD τ).loc main_arg1)
abbrev g (c : Dev nD) : Mat 1 512 := m ((c : Thread nD τ).loc main_arg2)
abbrev b (c : Dev nD) : Mat 1 512 := m ((c : Thread nD τ).loc main_arg3)

/-- The row of the arrays at a point's row. -/
def row (t : Fin cfg0.N) (r : Fin 512) : Fin 16384 := ⟨t.val % 32 * 512 + r.val, by idx_bounds; omega⟩

theorem blk0 (c : Dev nD) (t : Fin cfg0.N) (r l : Fin 512) : iblk m c 0 t (ix2 r l) = ct m c (ix2 (row t r) l) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (r l : Fin 512) : iblk m c 1 t (ix2 r l) = x m c (ix2 (row t r) l) := by
  have e : ∀ t : Fin cfg0.N, win0_1.index t = ![t.val % 32, 0] := (by decide +kernel : ∀ t : Fin grid0.N, _)
  blk_simp [iblk]
  rw [V_main_arg1]
  unfold row
  blk_ext [e]

theorem blk2 (c : Dev nD) (t : Fin cfg0.N) (l : Fin 512) : iblk m c 2 t (ix2 0 l) = g m c (ix2 0 l) := by
  have e : ∀ t : Fin cfg0.N, win0_2.index t = ![0, 0] := (by decide +kernel : ∀ t : Fin grid0.N, _)
  blk_simp [iblk]
  rw [V_main_arg2]
  blk_ext [e]

theorem blk3 (c : Dev nD) (t : Fin cfg0.N) (l : Fin 512) : iblk m c 3 t (ix2 0 l) = b m c (ix2 0 l) := by
  have e : ∀ t : Fin cfg0.N, win0_3.index t = ![0, 0] := (by decide +kernel : ∀ t : Fin grid0.N, _)
  blk_simp [iblk]
  rw [V_main_arg3]
  blk_ext [e]

/-! ## A point's rows -/

theorem cen_pay (v : Vec Ideal S512x512 .f32) (r l : Fin 512) : k0_pay4 v (ix2 r l) = cen w512 (fun l => v (ix2 r l)) l := by
  pointwise [k0_pay4]
  rfl

theorem rstd_pay (v : Vec Ideal S512x512 .f32) (r : Fin 512) : k0_pay5 v (ix2 r 0) = rstd w512 (fun l => v (ix2 r l)) := by
  pointwise [k0_pay5]
  simp only [cen_pay]
  rfl

theorem xhat_pay (v : Vec Ideal S512x512 .f32) (r l : Fin 512) : k0_pay6 v (ix2 r l) = xhat w512 (fun l => v (ix2 r l)) l := by
  pointwise [k0_pay6]
  rw [cen_pay, rstd_pay]
  rfl

/-- The cotangent of the norm's output. -/
def dn (c : Dev nD) (i : Fin 16384) (l : Fin 512) : EReal :=
  siluBwd (ct m c (ix2 i l)) (xhat w512 (fun l => x m c (ix2 i l)) l * g m c (ix2 0 l) + b m c (ix2 0 l))

theorem dn_tile (c : Dev nD) (t : Fin cfg0.N) (r l : Fin 512) :
    k0_pay7 (F := Ideal) (iblk m c 1 t) (iblk m c 2 t) (iblk m c 3 t) (iblk m c 0 t) (ix2 r l) = dn m c (row t r) l := by
  pointwise [k0_pay7]
  simp only [xhat_pay, blk0, blk1, blk2, blk3]
  rfl

theorem dhat_tile (c : Dev nD) (t : Fin cfg0.N) (r l : Fin 512) :
    k0_pay8 (F := Ideal) (iblk m c 1 t) (iblk m c 2 t) (iblk m c 3 t) (iblk m c 0 t) (iblk m c 2 t) (ix2 r l)
      = dn m c (row t r) l * g m c (ix2 0 l) := by
  pointwise [k0_pay8]
  rw [dn_tile, blk2]

/-- A row's gradient. -/
def dx (c : Dev nD) (i : Fin 16384) (l : Fin 512) : EReal :=
  lnBwd w512 (fun l => dn m c i l * g m c (ix2 0 l)) (fun l => x m c (ix2 i l)) l

theorem dx_tile (c : Dev nD) (t : Fin cfg0.N) (r l : Fin 512) :
    k0_pay9 (F := Ideal) (k0_pay5 (iblk m c 1 t)) (k0_pay6 (iblk m c 1 t))
        (k0_pay8 (iblk m c 1 t) (iblk m c 2 t) (iblk m c 3 t) (iblk m c 0 t) (iblk m c 2 t)) (ix2 r l)
      = dx m c (row t r) l := by
  pointwise [k0_pay9]
  simp only [dhat_tile, xhat_pay, rstd_pay, blk1]
  rfl

theorem out4 (c : Dev nD) (t : Fin cfg0.N) (r l : Fin 512) :
    (outsAt0 (F := Ideal) m c t.val t.isLt).1 (ix2 r l) = dx m c (row t r) l := by
  by_cases h : t.val % 32 = 0
  on_goal 1 => rw [Gen.outsAt0_A m c t h]
  on_goal 2 => rw [Gen.outsAt0_B m c t h]
  all_goals
    frame_out
    exact dx_tile m c t r l

/-! ## The columns' sums -/

/-- What the three sums add up, a row: the scale's and the shift's gradients, and the rows' gradients. -/
def term (c : Dev nD) (k : Fin 3) (i : Fin 16384) (l : Fin 512) : EReal :=
  ![dn m c i l * xhat w512 (fun l => x m c (ix2 i l)) l, dn m c i l, dx m c i l] k

/-- One point's part of a sum. -/
def part (c : Dev nD) (t : Fin cfg0.N) (q : Fin 3 × Fin 512) : EReal := ∑ r : Fin 512, term m c q.1 (row t r) q.2

/-- The three sums after a point. -/
def acc (c : Dev nD) (n : ℕ) (hn : n < cfg0.N) (q : Fin 3 × Fin 512) : EReal :=
  ![(outsAt0 (F := Ideal) m c n hn).2.1 (ix2 0 q.2), (outsAt0 (F := Ideal) m c n hn).2.2.1 (ix2 0 q.2),
    (outsAt0 (F := Ideal) m c n hn).2.2.2 (ix2 0 q.2)] q.1

theorem step0 (c : Dev nD) (t : Fin cfg0.N) (v : Vec Ideal S1x512 .f32) (l : Fin 512) :
    k0_pay10 (k0_pay6 (iblk m c 1 t)) (k0_pay7 (iblk m c 1 t) (iblk m c 2 t) (iblk m c 3 t) (iblk m c 0 t)) v (ix2 0 l)
      = v (ix2 0 l) + part m c t (0, l) := by
  pointwise [k0_pay10]
  simp only [dn_tile, xhat_pay, blk1]
  rfl

theorem step1 (c : Dev nD) (t : Fin cfg0.N) (v : Vec Ideal S1x512 .f32) (l : Fin 512) :
    k0_pay11 (k0_pay7 (iblk m c 1 t) (iblk m c 2 t) (iblk m c 3 t) (iblk m c 0 t)) v (ix2 0 l)
      = v (ix2 0 l) + part m c t (1, l) := by
  pointwise [k0_pay11]
  simp only [dn_tile]
  rfl

theorem step2 (c : Dev nD) (t : Fin cfg0.N) (v : Vec Ideal S1x512 .f32) (l : Fin 512) :
    k0_pay12 (k0_pay5 (iblk m c 1 t)) (k0_pay6 (iblk m c 1 t))
        (k0_pay8 (iblk m c 1 t) (iblk m c 2 t) (iblk m c 3 t) (iblk m c 0 t) (iblk m c 2 t)) v (ix2 0 l)
      = v (ix2 0 l) + part m c t (2, l) := by
  pointwise [k0_pay12]
  simp only [dx_tile]
  rfl

theorem out_A (c : Dev nD) (t : Fin cfg0.N) (ht : t.val % 32 = 0) (q : Fin 3 × Fin 512) :
    acc m c t.val t.isLt q = 0 + part m c t q := by
  obtain ⟨k, l⟩ := q
  unfold acc
  rw [Gen.outsAt0_A m c t ht]
  fin_cases k
  · frame_out
    refine (step0 m c t _ _).trans (congrArg (· + _) ?_)
    pointwise [k0_pay1]
  · frame_out
    refine (step1 m c t _ _).trans (congrArg (· + _) ?_)
    pointwise [k0_pay2]
  · frame_out
    refine (step2 m c t _ _).trans (congrArg (· + _) ?_)
    pointwise [k0_pay3]

theorem out_B (c : Dev nD) (t : Fin cfg0.N) (ht : ¬ t.val % 32 = 0) (q : Fin 3 × Fin 512) :
    acc m c t.val t.isLt q = acc m c (t.val - 1) (Nat.lt_of_le_of_lt (Nat.sub_le _ _) t.isLt) q + part m c t q := by
  obtain ⟨k, l⟩ := q
  unfold acc
  rw [Gen.outsAt0_B m c t ht]
  fin_cases k
  · frame_out
    exact step0 m c t _ _
  · frame_out
    exact step1 m c t _ _
  · frame_out
    exact step2 m c t _ _

theorem sums (c : Dev nD) (t : Fin cfg0.N) (ht : t.val % 32 = 31) (q : Fin 3 × Fin 512) :
    acc m c t.val t.isLt q = ∑ i, term m c q.1 i q.2 := by
  refine (Pipeline.eq_sum_fin_of_reset_step_apply_of_flush (acc m c) 32 (fun _ => 0) (part m c) (out_A m c) (out_B m c) t ht q).trans ?_
  rw [zero_add]
  refine sum_runs 32 512 16384 rfl _ _ fun s r hr => ?_
  rw [show row ⟨32 * (t.val / 32) + s.val, Pipeline.run_point_lt_of_flush t ht s⟩ r = ⟨s.val * 512 + r.val, hr⟩ from
    Fin.ext (by simp only [row]; omega)]

/-! ## The arrays -/

theorem final4 (c : Dev nD) : (dats m 0 c).arrAt 4 cfg0.N = mat (dx m c) := by
  have e : ∀ t : Fin cfg0.N, win0_4.index t = ![t.val % 32, 0] := (by decide +kernel : ∀ t : Fin grid0.N, _)
  refine (dats m 0 c).arrAt_eq_of_covers 4 _ (by decide +kernel) fun t hf j => ?_
  blk_simp
  rw [after0_4]
  idx_vars j
  refine (out4 m c t _ _).trans (congrArg₂ (dx m c) (Fin.ext ?_) (Fin.ext ?_))
  all_goals blk_simp [e, row]

/-- The array of a sum. -/
abbrev total (c : Dev nD) (k : Fin 3) : Mat 1 512 := mat fun _ : Fin 1 => fun l => ∑ i, term m c k i l

theorem final5 (c : Dev nD) : (dats m 0 c).arrAt 5 cfg0.N = total m c 0 := by
  have e : ∀ t : Fin cfg0.N, win0_5.index t = ![0, 0] := (by decide +kernel : ∀ t : Fin grid0.N, _)
  refine (dats m 0 c).arrAt_eq_of_covers 5 _ (by decide +kernel) fun t hf j => ?_
  blk_simp
  rw [after0_5]
  idx_vars j
  obtain rfl : j0 = 0 := Subsingleton.elim _ _
  refine (sums m c t ((flush0_5 t).mp hf) (0, _)).trans (congrArg (fun j => ∑ i, term m c 0 i j) (Fin.ext ?_))
  blk_simp [e]

theorem final6 (c : Dev nD) : (dats m 0 c).arrAt 6 cfg0.N = total m c 1 := by
  have e : ∀ t : Fin cfg0.N, win0_6.index t = ![0, 0] := (by decide +kernel : ∀ t : Fin grid0.N, _)
  refine (dats m 0 c).arrAt_eq_of_covers 6 _ (by decide +kernel) fun t hf j => ?_
  blk_simp
  rw [after0_6]
  idx_vars j
  obtain rfl : j0 = 0 := Subsingleton.elim _ _
  refine (sums m c t ((flush0_6 t).mp hf) (1, _)).trans (congrArg (fun j => ∑ i, term m c 1 i j) (Fin.ext ?_))
  blk_simp [e]

theorem final7 (c : Dev nD) : (dats m 0 c).arrAt 7 cfg0.N = total m c 2 := by
  have e : ∀ t : Fin cfg0.N, win0_7.index t = ![0, 0] := (by decide +kernel : ∀ t : Fin grid0.N, _)
  refine (dats m 0 c).arrAt_eq_of_covers 7 _ (by decide +kernel) fun t hf j => ?_
  blk_simp
  rw [after0_7]
  idx_vars j
  obtain rfl : j0 = 0 := Subsingleton.elim _ _
  refine (sums m c t ((flush0_7 t).mp hf) (2, _)).trans (congrArg (fun j => ∑ i, term m c 2 i j) (Fin.ext ?_))
  blk_simp [e]

end Cert.Kernel15Ideal.Norm

end
-- ==== Proof.ConvBwdPreReference.lean ====
/-
  The gradient of the convolution path's norm and activation, as the reference's operations give it, entry by entry.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Silu
public import proofs.«01_k».proof.Proof.Gen.Reference15Ideal.Read

@[expose] public section

set_option maxRecDepth 16384

noncomputable section

open Idealize Idealize.ShloMosaic

namespace Cert.Reference15Ideal

open Read Cert.Step

variable (ct x : Mat 16384 512) (g b : Mat 1 512)

theorem cen_apply (i : Fin 16384) (l : Fin 512) : val_main_v14 (F := Ideal) x (ix2 i l) = cen w512 (fun l => x (ix2 i l)) l := by
  pointwise [val_main_v14, val_main_v13, val_main_v3, val_main_v2, val_main_v1, val_main_v0, val_main_cst, val_main_cst_0]
  rfl

theorem cen_apply' (i : Fin 16384) (l : Fin 512) : val_main_v5 (F := Ideal) x (ix2 i l) = cen w512 (fun l => x (ix2 i l)) l := by
  pointwise [val_main_v5, val_main_v4, val_main_v3, val_main_v2, val_main_v1, val_main_v0, val_main_cst, val_main_cst_0]
  rfl

theorem dev_apply (i : Fin 16384) : val_main_v16 (F := Ideal) x (ix2 i 0) = dev w512 (fun l => x (ix2 i l)) := by
  pointwise [val_main_v16, val_main_v15, val_main_v12, val_main_v11, val_main_v10, val_main_v9, val_main_v6, val_main_cst_2, val_main_cst_3, val_main_cst_4]
  simp only [cen_apply']
  rfl

theorem rstd_apply (i : Fin 16384) : val_main_v17 (F := Ideal) x (ix2 i 0) = rstd w512 (fun l => x (ix2 i l)) := by
  pointwise [val_main_v17]
  rw [dev_apply]
  rfl

theorem xhat_apply (i : Fin 16384) (l : Fin 512) : val_main_v22 (F := Ideal) x (ix2 i l) = xhat w512 (fun l => x (ix2 i l)) l := by
  pointwise [val_main_v22, val_main_v21]
  rw [cen_apply, rstd_apply]
  rfl

/-- The norm's output. -/
abbrev norm (i : Fin 16384) (l : Fin 512) : EReal := xhat w512 (fun l => x (ix2 i l)) l * g (ix2 0 l) + b (ix2 0 l)

theorem norm_apply (i : Fin 16384) (l : Fin 512) : val_main_v26 (F := Ideal) x g b (ix2 i l) = norm x g b i l := by
  pointwise [val_main_v26, val_main_v25, val_main_v24, val_main_v23]
  rw [xhat_apply]

theorem sig_apply (i : Fin 16384) (l : Fin 512) : val_main_v27_2 (F := Ideal) x g b (ix2 i l) = Ideal.logistic (norm x g b i l) := by
  pointwise [val_main_v27_2, val_main_call0_v4, val_main_call0_v3, val_main_call0_v2, val_main_call0_v1, val_main_call0_v0, val_main_call0_cst, val_main_call0_cst_0]
  rw [norm_apply]
  rfl

theorem dn_apply (i : Fin 16384) (l : Fin 512) : val_main_v28 (F := Ideal) ct x g b (ix2 i l) = siluVjp (ct (ix2 i l)) (norm x g b i l) := by
  pointwise [val_main_v28, val_main_call1_v2, val_main_call1_v1, val_main_call1_v0, val_main_v27_1, val_main_call0_v7, val_main_call0_v6, val_main_call0_cst_1]
  rw [norm_apply, sig_apply]
  rfl

section

variable (hct : ∀ i, IsReal (ct i)) (hx : ∀ i, IsReal (x i)) (hg : ∀ i, IsReal (g i)) (hb : ∀ i, IsReal (b i))
include hct hx hg hb

theorem norm_real (i : Fin 16384) (l : Fin 512) : IsReal (norm x g b i l) := by
  unfold norm
  rw [width512]
  exact ((xhat_real (by decide) _ (fun _ => hx _) l).mul (hg _)).add (hb _)

/-- On real arrays the norm's output has the cotangent that the kernel writes. -/
theorem dn_eq (i : Fin 16384) (l : Fin 512) : val_main_v28 (F := Ideal) ct x g b (ix2 i l) = siluBwd (ct (ix2 i l)) (norm x g b i l) :=
  (dn_apply ct x g b i l).trans (siluVjp_eq (hct _) (norm_real ct x g b hct hx hg hb i l))

end

/-- A row's cotangent, at the normalised entries. -/
abbrev dhat (i : Fin 16384) (l : Fin 512) : EReal := siluVjp (ct (ix2 i l)) (norm x g b i l) * g (ix2 0 l)

theorem dhat_apply (i : Fin 16384) (l : Fin 512) : val_main_v35 (F := Ideal) ct x g b (ix2 i l) = dhat ct x g b i l := by
  pointwise [val_main_v35, val_main_v34]
  rw [dn_apply]

theorem dvar_apply (i : Fin 16384) :
    val_main_v46 (F := Ideal) ct x g b (ix2 i 0) = dvar w512 (dhat ct x g b i) (fun l => x (ix2 i l)) := by
  pointwise [val_main_v46, val_main_v45, val_main_v41, val_main_v38, val_main_v37, val_main_v36, val_main_v20, val_main_v19, val_main_v18, val_main_cst_5, val_main_cst_8, val_main_cst_10]
  simp only [cen_apply, dhat_apply, dev_apply, rstd_apply]
  rfl

theorem direct_apply (i : Fin 16384) (l : Fin 512) :
    val_main_v40 (F := Ideal) ct x g b (ix2 i l) = dhat ct x g b i l * rstd w512 (fun l => x (ix2 i l)) := by
  pointwise [val_main_v40, val_main_v39]
  rw [dhat_apply, rstd_apply]

theorem through_apply (i : Fin 16384) (l : Fin 512) :
    val_main_v49 (F := Ideal) ct x g b (ix2 i l)
      = dvar w512 (dhat ct x g b i) (fun l => x (ix2 i l)) * (Ideal.ofBits .f32 0x40000000#32 * cen w512 (fun l => x (ix2 i l)) l) := by
  pointwise [val_main_v49, val_main_v48, val_main_v47, val_main_v8, val_main_v7, val_main_cst_1, val_main_cst_11]
  simp only [cen_apply', Fin.sum_univ_one, zero_add, dvar_apply]

theorem dx_apply (i : Fin 16384) (l : Fin 512) :
    val_main_v59 (F := Ideal) ct x g b (ix2 i l) = lnVjp w512 (dhat ct x g b i) (fun l => x (ix2 i l)) l := by
  pointwise [val_main_v59, val_main_v58, val_main_v57, val_main_v56, val_main_v55, val_main_v54, val_main_v53, val_main_v52,
    val_main_v51, val_main_v50, val_main_v44, val_main_v43, val_main_v42, val_main_cst_9, val_main_cst_12, val_main_cst_13, val_main_cst_14]
  simp only [direct_apply, through_apply, Fin.sum_univ_one, zero_add]
  rfl

/-- A row's gradient, as the kernel writes it. -/
abbrev grad (i : Fin 16384) (l : Fin 512) : EReal :=
  lnBwd w512 (fun l => siluBwd (ct (ix2 i l)) (norm x g b i l) * g (ix2 0 l)) (fun l => x (ix2 i l)) l

section

variable (hct : ∀ i, IsReal (ct i)) (hx : ∀ i, IsReal (x i)) (hg : ∀ i, IsReal (g i)) (hb : ∀ i, IsReal (b i))
include hct hx hg hb

theorem dx_eq (i : Fin 16384) (l : Fin 512) : val_main_v59 (F := Ideal) ct x g b (ix2 i l) = grad ct x g b i l := by
  have e : dhat ct x g b i = fun l => siluBwd (ct (ix2 i l)) (norm x g b i l) * g (ix2 0 l) := funext fun l =>
    congrArg (· * _) (siluVjp_eq (hct _) (norm_real ct x g b hct hx hg hb i l))
  unfold grad
  rw [dx_apply, e, width512]
  exact (lnBwd_eq (by decide) _ _ (fun l => (siluBwd_real (hct _) (norm_real ct x g b hct hx hg hb i l)).mul (hg _))
    (fun l => hx _) l).symm

theorem result0 : val_main_v59 (F := Ideal) ct x g b = mat (grad ct x g b) := by
  funext i
  idx_vars i
  exact dx_eq ct x g b hct hx hg hb _ _

theorem result1 : val_main_v33 (F := Ideal) ct x g b
    = mat fun _ : Fin 1 => fun l => ∑ i : Fin 16384, siluBwd (ct (ix2 i l)) (norm x g b i l) * xhat w512 (fun l => x (ix2 i l)) l := by
  funext i
  idx_vars i
  obtain rfl : i0 = 0 := Subsingleton.elim _ _
  pointwise [val_main_v33, val_main_v32, val_main_v31, val_main_cst_7]
  simp only [xhat_apply, dn_eq ct x g b hct hx hg hb]
  exact Finset.sum_congr rfl fun _ _ => mul_comm _ _

theorem result2 : val_main_v30 (F := Ideal) ct x g b
    = mat fun _ : Fin 1 => fun l => ∑ i : Fin 16384, siluBwd (ct (ix2 i l)) (norm x g b i l) := by
  funext i
  idx_vars i
  obtain rfl : i0 = 0 := Subsingleton.elim _ _
  pointwise [val_main_v30, val_main_v29, val_main_cst_6]
  simp only [dn_eq ct x g b hct hx hg hb]
  rfl

theorem result3 : val_main_v61 (F := Ideal) ct x g b = mat fun _ : Fin 1 => fun l => ∑ i : Fin 16384, grad ct x g b i l := by
  funext i
  idx_vars i
  obtain rfl : i0 = 0 := Subsingleton.elim _ _
  pointwise [val_main_v61, val_main_v60, val_main_cst_15]
  simp only [dx_eq ct x g b hct hx hg hb]
  rfl

end

end Cert.Reference15Ideal

end
-- ==== Proof.OResLn.lean ====
/-
  The path's output product, the residual beside it and the norm over both: the kernel's three arrays are the sum before
  the norm, the norm's output, and the same once more in the narrow format.

  The grid is 32 points of 512 rows, and a point writes its rows.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Kernel16Ideal.Value

@[expose] public section

set_option maxRecDepth 16384

noncomputable section

namespace Cert.Kernel16Ideal.Norm

open Cert.Kernel16Ideal Cert.Kernel16Ideal.Gen Cert.Step
open Idealize Idealize.ShloMosaic Idealize.ShloMosaic.TcCoe Idealize.SL Idealize.SL.Sem

variable (m : (ℓ : Loc nD τ sig) → Buf (Elt Ideal) ℓ)

abbrev a (c : Dev nD) : Mat 16384 1024 := m ((c : Thread nD τ).loc main_arg0)
abbrev w (c : Dev nD) : Mat 1024 1024 := m ((c : Thread nD τ).loc main_arg1)
abbrev x (c : Dev nD) : Mat 16384 1024 := m ((c : Thread nD τ).loc main_arg2)
abbrev g (c : Dev nD) : Mat 1 1024 := m ((c : Thread nD τ).loc main_arg3)
abbrev b (c : Dev nD) : Mat 1 1024 := m ((c : Thread nD τ).loc main_arg4)

/-- The row of the arrays at a point's row. -/
def row (t : Fin cfg0.N) (r : Fin 512) : Fin 16384 := ⟨t.val % 32 * 512 + r.val, by idx_bounds; omega⟩

/-- This call's bias is zero. -/
theorem bias_host (c : Dev nD) (l : Fin 1024) : V m c main_v0 (ix2 0 l) = (0 : EReal) := by
  unfold V hostOps0
  after_reads_at

theorem blk0 (c : Dev nD) (t : Fin cfg0.N) (r : Fin 512) (k : Fin 1024) : iblk m c 0 t (ix2 r k) = a m c (ix2 (row t r) k) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (k : Fin 1024) (l : Fin 1024) : iblk m c 1 t (ix2 k l) = w m c (ix2 k l) := by
  have e : ∀ t : Fin cfg0.N, win0_1.index t = ![0, 0] := (by decide +kernel : ∀ t : Fin grid0.N, _)
  blk_simp [iblk]
  rw [V_main_arg1]
  blk_ext [e]

theorem blk2 (c : Dev nD) (t : Fin cfg0.N) (l : Fin 1024) : iblk m c 2 t (ix2 0 l) = (0 : EReal) := by
  have e : ∀ t : Fin cfg0.N, win0_2.index t = ![0, 0] := (by decide +kernel : ∀ t : Fin grid0.N, _)
  blk_simp [iblk]
  refine Eq.trans ?_ (bias_host m c l)
  blk_ext [e]

theorem blk3 (c : Dev nD) (t : Fin cfg0.N) (r : Fin 512) (l : Fin 1024) : iblk m c 3 t (ix2 r l) = x m c (ix2 (row t r) l) := by
  have e : ∀ t : Fin cfg0.N, win0_3.index t = ![t.val % 32, 0] := (by decide +kernel : ∀ t : Fin grid0.N, _)
  blk_simp [iblk]
  rw [V_main_arg2]
  unfold row
  blk_ext [e]

theorem blk4 (c : Dev nD) (t : Fin cfg0.N) (l : Fin 1024) : iblk m c 4 t (ix2 0 l) = g m c (ix2 0 l) := by
  have e : ∀ t : Fin cfg0.N, win0_4.index t = ![0, 0] := (by decide +kernel : ∀ t : Fin grid0.N, _)
  blk_simp [iblk]
  rw [V_main_arg3]
  blk_ext [e]

theorem blk5 (c : Dev nD) (t : Fin cfg0.N) (l : Fin 1024) : iblk m c 5 t (ix2 0 l) = b m c (ix2 0 l) := by
  have e : ∀ t : Fin cfg0.N, win0_5.index t = ![0, 0] := (by decide +kernel : ∀ t : Fin grid0.N, _)
  blk_simp [iblk]
  rw [V_main_arg4]
  blk_ext [e]

/-- The sum before the norm, and the norm's output. -/
def res (c : Dev nD) (i : Fin 16384) (l : Fin 1024) : EReal := root2 * x m c (ix2 i l) + nn (a m c) (w m c) i l
def out (c : Dev nD) (i : Fin 16384) (l : Fin 1024) : EReal := xhat w1024 (res m c i) l * g m c (ix2 0 l) + b m c (ix2 0 l)

theorem res_tile (c : Dev nD) (t : Fin cfg0.N) (r : Fin 512) (l : Fin 1024) :
    k0_pay2 (F := Ideal) (iblk m c 3 t) (iblk m c 0 t) (iblk m c 1 t) (iblk m c 2 t) (ix2 r l) = res m c (row t r) l := by
  pointwise [k0_pay2]
  simp only [blk0, blk1, blk2, blk3]
  exact add_zero _

theorem out_tile (c : Dev nD) (t : Fin cfg0.N) (r : Fin 512) (l : Fin 1024) :
    k0_pay4 (F := Ideal) (iblk m c 0 t) (iblk m c 1 t) (iblk m c 2 t) (iblk m c 3 t) (iblk m c 4 t) (iblk m c 5 t) (ix2 r l)
      = out m c (row t r) l := by
  unfold k0_pay4
  frame_out
  pointwise [k0_pay3]
  simp only [res_tile, blk4, blk5]
  rfl

theorem final6 (c : Dev nD) : (dats m 0 c).arrAt 6 cfg0.N = mat (res m c) := by
  have e : ∀ t : Fin cfg0.N, win0_6.index t = ![t.val % 32, 0] := (by decide +kernel : ∀ t : Fin grid0.N, _)
  refine (dats m 0 c).arrAt_eq_of_covers 6 _ (by decide +kernel) fun t hf j => ?_
  blk_simp
  rw [after0_6]
  idx_vars j
  frame_out
  refine (res_tile m c t _ _).trans (congrArg₂ (res m c) (Fin.ext ?_) (Fin.ext ?_))
  all_goals blk_simp [e, row]

theorem final7 (c : Dev nD) : (dats m 0 c).arrAt 7 cfg0.N = mat (out m c) := by
  have e : ∀ t : Fin cfg0.N, win0_7.index t = ![t.val % 32, 0] := (by decide +kernel : ∀ t : Fin grid0.N, _)
  refine (dats m 0 c).arrAt_eq_of_covers 7 _ (by decide +kernel) fun t hf j => ?_
  blk_simp
  rw [after0_7]
  idx_vars j
  frame_out
  refine (out_tile m c t _ _).trans (congrArg₂ (out m c) (Fin.ext ?_) (Fin.ext ?_))
  all_goals blk_simp [e, row]

theorem final8 (c : Dev nD) : (dats m 0 c).arrAt 8 cfg0.N = mat (out m c) := by
  have e : ∀ t : Fin cfg0.N, win0_8.index t = ![t.val % 32, 0] := (by decide +kernel : ∀ t : Fin grid0.N, _)
  refine (dats m 0 c).arrAt_eq_of_covers 8 _ (by decide +kernel) fun t hf j => ?_
  blk_simp
  rw [after0_8]
  idx_vars j
  frame_out
  refine (out_tile m c t _ _).trans (congrArg₂ (out m c) (Fin.ext ?_) (Fin.ext ?_))
  all_goals blk_simp [e, row]

end Cert.Kernel16Ideal.Norm

end
-- ==== Proof.ResLnReferences.lean ====
/-
  The two products with a residual and a norm behind them, as the references' operations give them, entry by entry.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Reference16Ideal.Read
public import proofs.«01_k».proof.Proof.Gen.Reference17Ideal.Read

@[expose] public section

set_option maxRecDepth 16384

noncomputable section

open Idealize Idealize.ShloMosaic

namespace Cert.Reference16Ideal

open Read Cert.Step

variable (a : Mat 16384 1024) (w : Mat 1024 1024) (x : Mat 16384 1024) (g b : Mat 1 1024)

/-- The sum before the norm. -/
abbrev res (i : Fin 16384) (l : Fin 1024) : EReal := root2 * x (ix2 i l) + nn a w i l

theorem res_apply (i : Fin 16384) (l : Fin 1024) : val_main_v5 (F := Ideal) a w x (ix2 i l) = res a w x i l := by
  pointwise [val_main_v5, val_main_v4, val_main_v3, val_main_v2, val_main_v1, val_main_v0, val_main_cst]
  rfl

theorem cen_apply (i : Fin 16384) (l : Fin 1024) : val_main_v18 (F := Ideal) a w x (ix2 i l) = cen w1024 (res a w x i) l := by
  pointwise [val_main_v18, val_main_v17, val_main_v9, val_main_v8, val_main_v7, val_main_v6, val_main_cst_0, val_main_cst_1]
  simp only [res_apply]
  rfl

theorem cen_apply' (i : Fin 16384) (l : Fin 1024) : val_main_v11 (F := Ideal) a w x (ix2 i l) = cen w1024 (res a w x i) l := by
  pointwise [val_main_v11, val_main_v10, val_main_v9, val_main_v8, val_main_v7, val_main_v6, val_main_cst_0, val_main_cst_1]
  simp only [res_apply]
  rfl

theorem rstd_apply (i : Fin 16384) : val_main_v21 (F := Ideal) a w x (ix2 i 0) = rstd w1024 (res a w x i) := by
  pointwise [val_main_v21, val_main_v20, val_main_v19, val_main_v16, val_main_v15, val_main_v14, val_main_v13, val_main_v12, val_main_cst_2, val_main_cst_3, val_main_cst_4]
  simp only [cen_apply']
  rfl

theorem out_apply (i : Fin 16384) (l : Fin 1024) :
    val_main_v27 (F := Ideal) a w x g b (ix2 i l) = xhat w1024 (res a w x i) l * g (ix2 0 l) + b (ix2 0 l) := by
  pointwise [val_main_v27, val_main_v26, val_main_v25, val_main_v24, val_main_v23, val_main_v22]
  rw [cen_apply, rstd_apply]
  rfl

theorem result0 : val_main_v5 (F := Ideal) a w x = mat (res a w x) := by
  funext i
  idx_vars i
  exact res_apply a w x _ _

theorem result1 : val_main_v27 (F := Ideal) a w x g b = mat fun i l => xhat w1024 (res a w x i) l * g (ix2 0 l) + b (ix2 0 l) := by
  funext i
  idx_vars i
  exact out_apply a w x g b _ _

theorem result2 : val_main_v28 (F := Ideal) a w x g b = mat fun i l => xhat w1024 (res a w x i) l * g (ix2 0 l) + b (ix2 0 l) := by
  funext i
  idx_vars i
  pointwise [val_main_v28]
  exact out_apply a w x g b _ _

end Cert.Reference16Ideal

namespace Cert.Reference17Ideal

open Read Cert.Step

variable (a : Mat 16384 4096) (w : Mat 4096 1024) (bias : Mat 1 1024) (x : Mat 16384 1024) (g b : Mat 1 1024)

/-- The sum before the norm. -/
abbrev res (i : Fin 16384) (l : Fin 1024) : EReal := root2 * x (ix2 i l) + (nn a w i l + bias (ix2 0 l))

theorem res_apply (i : Fin 16384) (l : Fin 1024) : val_main_v7 (F := Ideal) a w bias x (ix2 i l) = res a w bias x i l := by
  pointwise [val_main_v7, val_main_v6, val_main_v5, val_main_v4, val_main_v3, val_main_v2, val_main_v1, val_main_v0, val_main_cst]
  rfl

theorem cen_apply (i : Fin 16384) (l : Fin 1024) : val_main_v20 (F := Ideal) a w bias x (ix2 i l) = cen w1024 (res a w bias x i) l := by
  pointwise [val_main_v20, val_main_v19, val_main_v11, val_main_v10, val_main_v9, val_main_v8, val_main_cst_0, val_main_cst_1]
  simp only [res_apply]
  rfl

theorem cen_apply' (i : Fin 16384) (l : Fin 1024) : val_main_v13 (F := Ideal) a w bias x (ix2 i l) = cen w1024 (res a w bias x i) l := by
  pointwise [val_main_v13, val_main_v12, val_main_v11, val_main_v10, val_main_v9, val_main_v8, val_main_cst_0, val_main_cst_1]
  simp only [res_apply]
  rfl

theorem rstd_apply (i : Fin 16384) : val_main_v23 (F := Ideal) a w bias x (ix2 i 0) = rstd w1024 (res a w bias x i) := by
  pointwise [val_main_v23, val_main_v22, val_main_v21, val_main_v18, val_main_v17, val_main_v16, val_main_v15, val_main_v14, val_main_cst_2, val_main_cst_3, val_main_cst_4]
  simp only [cen_apply']
  rfl

theorem out_apply (i : Fin 16384) (l : Fin 1024) :
    val_main_v29 (F := Ideal) a w bias x g b (ix2 i l) = xhat w1024 (res a w bias x i) l * g (ix2 0 l) + b (ix2 0 l) := by
  pointwise [val_main_v29, val_main_v28, val_main_v27, val_main_v26, val_main_v25, val_main_v24]
  rw [cen_apply, rstd_apply]
  rfl

theorem result0 : val_main_v7 (F := Ideal) a w bias x = mat (res a w bias x) := by
  funext i
  idx_vars i
  exact res_apply a w bias x _ _

theorem result1 : val_main_v29 (F := Ideal) a w bias x g b = mat fun i l => xhat w1024 (res a w bias x i) l * g (ix2 0 l) + b (ix2 0 l) := by
  funext i
  idx_vars i
  exact out_apply a w bias x g b _ _

theorem result2 : val_main_v30 (F := Ideal) a w bias x g b = mat fun i l => xhat w1024 (res a w bias x i) l * g (ix2 0 l) + b (ix2 0 l) := by
  funext i
  idx_vars i
  pointwise [val_main_v30]
  exact out_apply a w bias x g b _ _

end Cert.Reference17Ideal

end
-- ==== Proof.Ff2ResLn.lean ====
/-
  The feed-forward's output product, the residual beside it and the norm over both: the kernel's three arrays are the sum before
  the norm, the norm's output, and the same once more in the narrow format.

  The grid is 32 points of 512 rows, and a point writes its rows.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Kernel17Ideal.Value

@[expose] public section

set_option maxRecDepth 16384

noncomputable section

namespace Cert.Kernel17Ideal.Norm

open Cert.Kernel17Ideal Cert.Kernel17Ideal.Gen Cert.Step
open Idealize Idealize.ShloMosaic Idealize.ShloMosaic.TcCoe Idealize.SL Idealize.SL.Sem

variable (m : (ℓ : Loc nD τ sig) → Buf (Elt Ideal) ℓ)

abbrev a (c : Dev nD) : Mat 16384 4096 := m ((c : Thread nD τ).loc main_arg0)
abbrev w (c : Dev nD) : Mat 4096 1024 := m ((c : Thread nD τ).loc main_arg1)
abbrev bias (c : Dev nD) : Mat 1 1024 := m ((c : Thread nD τ).loc main_arg2)
abbrev x (c : Dev nD) : Mat 16384 1024 := m ((c : Thread nD τ).loc main_arg3)
abbrev g (c : Dev nD) : Mat 1 1024 := m ((c : Thread nD τ).loc main_arg4)
abbrev b (c : Dev nD) : Mat 1 1024 := m ((c : Thread nD τ).loc main_arg5)

/-- The row of the arrays at a point's row. -/
def row (t : Fin cfg0.N) (r : Fin 512) : Fin 16384 := ⟨t.val % 32 * 512 + r.val, by idx_bounds; omega⟩

theorem blk0 (c : Dev nD) (t : Fin cfg0.N) (r : Fin 512) (k : Fin 4096) : iblk m c 0 t (ix2 r k) = a m c (ix2 (row t r) k) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (k : Fin 4096) (l : Fin 1024) : iblk m c 1 t (ix2 k l) = w m c (ix2 k l) := by
  have e : ∀ t : Fin cfg0.N, win0_1.index t = ![0, 0] := (by decide +kernel : ∀ t : Fin grid0.N, _)
  blk_simp [iblk]
  rw [V_main_arg1]
  blk_ext [e]

theorem blk2 (c : Dev nD) (t : Fin cfg0.N) (l : Fin 1024) : iblk m c 2 t (ix2 0 l) = bias m c (ix2 0 l) := by
  have e : ∀ t : Fin cfg0.N, win0_2.index t = ![0, 0] := (by decide +kernel : ∀ t : Fin grid0.N, _)
  blk_simp [iblk]
  rw [V_main_arg2]
  blk_ext [e]

theorem blk3 (c : Dev nD) (t : Fin cfg0.N) (r : Fin 512) (l : Fin 1024) : iblk m c 3 t (ix2 r l) = x m c (ix2 (row t r) l) := by
  have e : ∀ t : Fin cfg0.N, win0_3.index t = ![t.val % 32, 0] := (by decide +kernel : ∀ t : Fin grid0.N, _)
  blk_simp [iblk]
  rw [V_main_arg3]
  unfold row
  blk_ext [e]

theorem blk4 (c : Dev nD) (t : Fin cfg0.N) (l : Fin 1024) : iblk m c 4 t (ix2 0 l) = g m c (ix2 0 l) := by
  have e : ∀ t : Fin cfg0.N, win0_4.index t = ![0, 0] := (by decide +kernel : ∀ t : Fin grid0.N, _)
  blk_simp [iblk]
  rw [V_main_arg4]
  blk_ext [e]

theorem blk5 (c : Dev nD) (t : Fin cfg0.N) (l : Fin 1024) : iblk m c 5 t (ix2 0 l) = b m c (ix2 0 l) := by
  have e : ∀ t : Fin cfg0.N, win0_5.index t = ![0, 0] := (by decide +kernel : ∀ t : Fin grid0.N, _)
  blk_simp [iblk]
  rw [V_main_arg5]
  blk_ext [e]

/-- The sum before the norm, and the norm's output. -/
def res (c : Dev nD) (i : Fin 16384) (l : Fin 1024) : EReal := root2 * x m c (ix2 i l) + (nn (a m c) (w m c) i l + bias m c (ix2 0 l))
def out (c : Dev nD) (i : Fin 16384) (l : Fin 1024) : EReal := xhat w1024 (res m c i) l * g m c (ix2 0 l) + b m c (ix2 0 l)

theorem res_tile (c : Dev nD) (t : Fin cfg0.N) (r : Fin 512) (l : Fin 1024) :
    k0_pay2 (F := Ideal) (iblk m c 3 t) (iblk m c 0 t) (iblk m c 1 t) (iblk m c 2 t) (ix2 r l) = res m c (row t r) l := by
  pointwise [k0_pay2]
  simp only [blk0, blk1, blk2, blk3]
  exact add_assoc _ _ _

theorem out_tile (c : Dev nD) (t : Fin cfg0.N) (r : Fin 512) (l : Fin 1024) :
    k0_pay3 (F := Ideal) (iblk m c 3 t) (iblk m c 0 t) (iblk m c 1 t) (iblk m c 2 t) (iblk m c 4 t) (iblk m c 5 t) (ix2 r l)
      = out m c (row t r) l := by
  pointwise [k0_pay3]
  simp only [res_tile, blk4, blk5]
  rfl

theorem final6 (c : Dev nD) : (dats m 0 c).arrAt 6 cfg0.N = mat (res m c) := by
  have e : ∀ t : Fin cfg0.N, win0_6.index t = ![t.val % 32, 0] := (by decide +kernel : ∀ t : Fin grid0.N, _)
  refine (dats m 0 c).arrAt_eq_of_covers 6 _ (by decide +kernel) fun t hf j => ?_
  blk_simp
  rw [after0_6]
  idx_vars j
  frame_out
  refine (res_tile m c t _ _).trans (congrArg₂ (res m c) (Fin.ext ?_) (Fin.ext ?_))
  all_goals blk_simp [e, row]

theorem final7 (c : Dev nD) : (dats m 0 c).arrAt 7 cfg0.N = mat (out m c) := by
  have e : ∀ t : Fin cfg0.N, win0_7.index t = ![t.val % 32, 0] := (by decide +kernel : ∀ t : Fin grid0.N, _)
  refine (dats m 0 c).arrAt_eq_of_covers 7 _ (by decide +kernel) fun t hf j => ?_
  blk_simp
  rw [after0_7]
  idx_vars j
  frame_out
  refine (out_tile m c t _ _).trans (congrArg₂ (out m c) (Fin.ext ?_) (Fin.ext ?_))
  all_goals blk_simp [e, row]

theorem final8 (c : Dev nD) : (dats m 0 c).arrAt 8 cfg0.N = mat (out m c) := by
  have e : ∀ t : Fin cfg0.N, win0_8.index t = ![t.val % 32, 0] := (by decide +kernel : ∀ t : Fin grid0.N, _)
  refine (dats m 0 c).arrAt_eq_of_covers 8 _ (by decide +kernel) fun t hf j => ?_
  blk_simp
  rw [after0_8]
  idx_vars j
  frame_out
  refine (out_tile m c t _ _).trans (congrArg₂ (out m c) (Fin.ext ?_) (Fin.ext ?_))
  all_goals blk_simp [e, row]

end Cert.Kernel17Ideal.Norm

end
-- ==== Proof.NormClaims.lean ====
/-
  The claims about the norms' gradients: the references' frames, and that on finite arguments each kernel's results are its
  reference's, from the two runs.
-/
module

public import proofs.«01_k».proof.Defs
public import proofs.«01_k».proof.Proof.NormReferences
public import proofs.«01_k».proof.Proof.LnBwd
public import proofs.«01_k».proof.Proof.Ff1BwdLn
public import proofs.«01_k».proof.Proof.Ff1BwdLnReference
public import proofs.«01_k».proof.Proof.Gen.Pre_finite14
public import proofs.«01_k».proof.Proof.Gen.Reference14Ideal.Run
public import proofs.«01_k».proof.Proof.ConvBwdPre
public import proofs.«01_k».proof.Proof.ConvBwdPreReference
public import proofs.«01_k».proof.Proof.Gen.Pre_finite15
public import proofs.«01_k».proof.Proof.Gen.Reference15Ideal.Run
public import proofs.«01_k».proof.Proof.OResLn
public import proofs.«01_k».proof.Proof.ResLnReferences
public import proofs.«01_k».proof.Proof.Gen.Reference16Ideal.Run
public import proofs.«01_k».proof.Proof.Ff2ResLn
public import proofs.«01_k».proof.Proof.Gen.Reference17Ideal.Run
public import proofs.«01_k».proof.Proof.Gen.Pre_finite12
public import proofs.«01_k».proof.Proof.Gen.Reference12Ideal.Run
public import Idealize.ShloMosaic.Adequacy
public import Idealize.ShloMosaic.Init

@[expose] public section

set_option maxRecDepth 16384

noncomputable section

namespace Cert.Proof

open Cert.Step
open Idealize Idealize.ShloMosaic Idealize.ShloMosaic.TcCoe Idealize.SL Idealize.SL.Sem

/-! ## The layer's second norm -/

section

attribute [local instance] Cert.Kernel12Ideal.Gen.facts Cert.Reference12Ideal.Gen.facts Cert.Pre_finite12.Gen.facts

theorem frame_reference12 : Cert.quiescent_Reference12Ideal := fun m ρ _ =>
  (θ_run Cert.Reference12Ideal.defs _ _).mono
    (fun r h => ⟨fun c => (h c).2.2.2.2.2, sem_eq_zero_of_no_sems (by decide) r.2⟩) (Cert.Reference12Ideal.Value.run m ρ)

theorem algebraic12 : Cert.algebraic_Kernel12Ideal_Reference12Ideal_pre_finite12 := fun m ρ m' ρ' hp hag => by
  have real : ∀ c, (∀ i, IsReal (Cert.Kernel12Ideal.Norm.ct m c i)) ∧ (∀ i, IsReal (Cert.Kernel12Ideal.Norm.x m c i))
      ∧ ∀ i, IsReal (Cert.Kernel12Ideal.Norm.g m c i) := fun c =>
    ⟨fun i => isReal_of_lt (congrFun (hp c).1 i), fun i => isReal_of_lt (congrFun (hp c).2.1 i),
      fun i => isReal_of_lt (congrFun (hp c).2.2 i)⟩
  refine ⟨fun c => mat (Cert.Kernel12Ideal.Norm.dx m c), fun c => mat (Cert.Kernel12Ideal.Norm.dx m c),
    fun c => Cert.Kernel12Ideal.Norm.total m c 0, fun c => Cert.Kernel12Ideal.Norm.total m c 1,
    fun c => Cert.Kernel12Ideal.Norm.total m c 2,
    (θ_run Cert.Kernel12Ideal.defs _ _).mono (fun r h c => ⟨(h c).1.trans (Cert.Kernel12Ideal.Norm.final3 m c),
      (h c).2.1.trans (Cert.Kernel12Ideal.Norm.final4 m c), (h c).2.2.1.trans (Cert.Kernel12Ideal.Norm.final5 m c),
      (h c).2.2.2.1.trans (Cert.Kernel12Ideal.Norm.final6 m c), (h c).2.2.2.2.1.trans (Cert.Kernel12Ideal.Norm.final7 m c),
      (h c).2.2.2.2.2⟩)
      (Cert.Kernel12Ideal.Value.run_blocks m ρ),
    (θ_run Cert.Reference12Ideal.defs _ _).mono (fun r h c => ⟨(h c).1.trans ?_, (h c).2.1.trans ?_, (h c).2.2.1.trans ?_,
      (h c).2.2.2.1.trans ?_, (h c).2.2.2.2.1.trans ?_, (h c).2.2.2.2.2⟩) (Cert.Reference12Ideal.Value.run m' ρ')⟩
  all_goals
    obtain ⟨h0, h1, h2⟩ := hag c
    obtain ⟨r0, r1, r2⟩ := real c
  · rw [Cert.Reference12Ideal.Read.val_main_v59_eq, h0, h1, h2]
    exact Cert.Reference12Ideal.result0 _ _ _ r0 r1 r2
  · rw [Cert.Reference12Ideal.Read.val_main_v60_eq, h0, h1, h2]
    exact Cert.Reference12Ideal.result1 _ _ _ r0 r1 r2
  · rw [h0, h1]
    exact (Cert.Reference12Ideal.Read.val_main_v33_eq ..).trans (Cert.Reference12Ideal.result2 _ _)
  · rw [h0]
    exact (Cert.Reference12Ideal.Read.val_main_v30_eq ..).trans (Cert.Reference12Ideal.result3 _)
  · rw [Cert.Reference12Ideal.Read.val_main_v62_eq, h0, h1, h2]
    exact Cert.Reference12Ideal.result4 _ _ _ r0 r1 r2

end

/-! ## The feed-forward's first product, the residual and the layer's first norm -/

section

attribute [local instance] Cert.Kernel14Ideal.Gen.facts Cert.Reference14Ideal.Gen.facts Cert.Pre_finite14.Gen.facts

theorem frame_reference14 : Cert.quiescent_Reference14Ideal := fun m ρ _ =>
  (θ_run Cert.Reference14Ideal.defs _ _).mono
    (fun r h => ⟨fun c => (h c).2.2.2.2, sem_eq_zero_of_no_sems (by decide) r.2⟩) (Cert.Reference14Ideal.Value.run m ρ)

theorem algebraic14 : Cert.algebraic_Kernel14Ideal_Reference14Ideal_pre_finite14 := fun m ρ m' ρ' hp hag => by
  have real : ∀ c, (∀ i, IsReal (Cert.Kernel14Ideal.Norm.ct m c i))
      ∧ (∀ i, IsReal (Cert.Kernel14Ideal.Norm.w m c i))
      ∧ (∀ i, IsReal (Cert.Kernel14Ideal.Norm.res m c i))
      ∧ (∀ i, IsReal (Cert.Kernel14Ideal.Norm.x m c i))
      ∧ (∀ i, IsReal (Cert.Kernel14Ideal.Norm.g m c i)) := fun c =>
    ⟨fun i => isReal_of_lt (congrFun (hp c).1 i),
      fun i => isReal_of_lt (congrFun (hp c).2.1 i),
      fun i => isReal_of_lt (congrFun (hp c).2.2.1 i),
      fun i => isReal_of_lt (congrFun (hp c).2.2.2.1 i),
      fun i => isReal_of_lt (congrFun (hp c).2.2.2.2 i)⟩
  refine ⟨fun c => mat (Cert.Kernel14Ideal.Norm.dx m c),
    fun c => mat (Cert.Kernel14Ideal.Norm.dx m c),
    fun c => Cert.Kernel14Ideal.Norm.total m c 0,
    fun c => Cert.Kernel14Ideal.Norm.total m c 1,
    (θ_run Cert.Kernel14Ideal.defs _ _).mono (fun r h c => ⟨(h c).1.trans (Cert.Kernel14Ideal.Norm.final5 m c),
      (h c).2.1.trans (Cert.Kernel14Ideal.Norm.final6 m c),
      (h c).2.2.1.trans (Cert.Kernel14Ideal.Norm.final7 m c),
      (h c).2.2.2.1.trans (Cert.Kernel14Ideal.Norm.final8 m c), (h c).2.2.2.2⟩)
      (Cert.Kernel14Ideal.Value.run_blocks m ρ),
    (θ_run Cert.Reference14Ideal.defs _ _).mono (fun r h c => ⟨(h c).1.trans ?_, (h c).2.1.trans ?_, (h c).2.2.1.trans ?_, (h c).2.2.2.1.trans ?_, (h c).2.2.2.2⟩)
      (Cert.Reference14Ideal.Value.run m' ρ')⟩
  all_goals
    obtain ⟨h0, h1, h2, h3, h4⟩ := hag c
    obtain ⟨r0, r1, r2, r3, r4⟩ := real c
  · rw [Cert.Reference14Ideal.Read.val_main_v67_eq, h0, h1, h2, h3, h4]
    exact Cert.Reference14Ideal.result0 _ _ _ _ _ r0 r1 r2 r3 r4
  · rw [Cert.Reference14Ideal.Read.val_main_v68_eq, h0, h1, h2, h3, h4]
    exact Cert.Reference14Ideal.result1 _ _ _ _ _ r0 r1 r2 r3 r4
  · rw [h0, h1, h2, h3]
    exact (Cert.Reference14Ideal.Read.val_main_v41_eq ..).trans (Cert.Reference14Ideal.result2 _ _ _ _)
  · rw [h0, h1, h2]
    exact (Cert.Reference14Ideal.Read.val_main_v38_eq ..).trans (Cert.Reference14Ideal.result3 _ _ _)

end

/-! ## The convolution path's norm and activation -/

section

attribute [local instance] Cert.Kernel15Ideal.Gen.facts Cert.Reference15Ideal.Gen.facts Cert.Pre_finite15.Gen.facts

theorem frame_reference15 : Cert.quiescent_Reference15Ideal := fun m ρ _ =>
  (θ_run Cert.Reference15Ideal.defs _ _).mono
    (fun r h => ⟨fun c => (h c).2.2.2.2, sem_eq_zero_of_no_sems (by decide) r.2⟩) (Cert.Reference15Ideal.Value.run m ρ)

theorem algebraic15 : Cert.algebraic_Kernel15Ideal_Reference15Ideal_pre_finite15 := fun m ρ m' ρ' hp hag => by
  have real : ∀ c, (∀ i, IsReal (Cert.Kernel15Ideal.Norm.ct m c i))
      ∧ (∀ i, IsReal (Cert.Kernel15Ideal.Norm.x m c i))
      ∧ (∀ i, IsReal (Cert.Kernel15Ideal.Norm.g m c i))
      ∧ (∀ i, IsReal (Cert.Kernel15Ideal.Norm.b m c i)) := fun c =>
    ⟨fun i => isReal_of_lt (congrFun (hp c).1 i),
      fun i => isReal_of_lt (congrFun (hp c).2.1 i),
      fun i => isReal_of_lt (congrFun (hp c).2.2.1 i),
      fun i => isReal_of_lt (congrFun (hp c).2.2.2 i)⟩
  refine ⟨fun c => mat (Cert.Kernel15Ideal.Norm.dx m c),
    fun c => Cert.Kernel15Ideal.Norm.total m c 0,
    fun c => Cert.Kernel15Ideal.Norm.total m c 1,
    fun c => Cert.Kernel15Ideal.Norm.total m c 2,
    (θ_run Cert.Kernel15Ideal.defs _ _).mono (fun r h c => ⟨(h c).1.trans (Cert.Kernel15Ideal.Norm.final4 m c),
      (h c).2.1.trans (Cert.Kernel15Ideal.Norm.final5 m c),
      (h c).2.2.1.trans (Cert.Kernel15Ideal.Norm.final6 m c),
      (h c).2.2.2.1.trans (Cert.Kernel15Ideal.Norm.final7 m c), (h c).2.2.2.2⟩)
      (Cert.Kernel15Ideal.Value.run_blocks m ρ),
    (θ_run Cert.Reference15Ideal.defs _ _).mono (fun r h c => ⟨(h c).1.trans ?_, (h c).2.1.trans ?_, (h c).2.2.1.trans ?_, (h c).2.2.2.1.trans ?_, (h c).2.2.2.2⟩)
      (Cert.Reference15Ideal.Value.run m' ρ')⟩
  all_goals
    obtain ⟨h0, h1, h2, h3⟩ := hag c
    obtain ⟨r0, r1, r2, r3⟩ := real c
  · rw [Cert.Reference15Ideal.Read.val_main_v59_eq, h0, h1, h2, h3]
    exact Cert.Reference15Ideal.result0 _ _ _ _ r0 r1 r2 r3
  · rw [Cert.Reference15Ideal.Read.val_main_v33_eq, h0, h1, h2, h3]
    exact Cert.Reference15Ideal.result1 _ _ _ _ r0 r1 r2 r3
  · rw [Cert.Reference15Ideal.Read.val_main_v30_eq, h0, h1, h2, h3]
    exact Cert.Reference15Ideal.result2 _ _ _ _ r0 r1 r2 r3
  · rw [Cert.Reference15Ideal.Read.val_main_v61_eq, h0, h1, h2, h3]
    exact Cert.Reference15Ideal.result3 _ _ _ _ r0 r1 r2 r3

end

/-! ## The path's output product, the residual and the norm -/

section

attribute [local instance] Cert.Kernel16Ideal.Gen.facts Cert.Reference16Ideal.Gen.facts

theorem frame_reference16 : Cert.quiescent_Reference16Ideal := fun m ρ _ =>
  (θ_run Cert.Reference16Ideal.defs _ _).mono
    (fun r h => ⟨fun c => (h c).2.2.2, sem_eq_zero_of_no_sems (by decide) r.2⟩) (Cert.Reference16Ideal.Value.run m ρ)

theorem algebraic16 : Cert.algebraic_Kernel16Ideal_Reference16Ideal := fun m ρ m' ρ' _ hag => by
  refine ⟨fun c => mat (Cert.Kernel16Ideal.Norm.res m c),
    fun c => mat (Cert.Kernel16Ideal.Norm.out m c),
    fun c => mat (Cert.Kernel16Ideal.Norm.out m c),
    (θ_run Cert.Kernel16Ideal.defs _ _).mono (fun r h c => ⟨(h c).1.trans (Cert.Kernel16Ideal.Norm.final6 m c),
      (h c).2.1.trans (Cert.Kernel16Ideal.Norm.final7 m c),
      (h c).2.2.1.trans (Cert.Kernel16Ideal.Norm.final8 m c), (h c).2.2.2⟩)
      (Cert.Kernel16Ideal.Value.run_blocks m ρ),
    (θ_run Cert.Reference16Ideal.defs _ _).mono (fun r h c => ⟨(h c).1.trans ?_, (h c).2.1.trans ?_, (h c).2.2.1.trans ?_, (h c).2.2.2⟩)
      (Cert.Reference16Ideal.Value.run m' ρ')⟩
  all_goals
    obtain ⟨h0, h1, h2, h3, h4⟩ := hag c
  · rw [h0, h1, h2]
    exact (Cert.Reference16Ideal.Read.val_main_v5_eq ..).trans (Cert.Reference16Ideal.result0 _ _ _)
  · rw [h0, h1, h2, h3, h4]
    exact (Cert.Reference16Ideal.Read.val_main_v27_eq ..).trans (Cert.Reference16Ideal.result1 _ _ _ _ _)
  · rw [h0, h1, h2, h3, h4]
    exact (Cert.Reference16Ideal.Read.val_main_v28_eq ..).trans (Cert.Reference16Ideal.result2 _ _ _ _ _)

end

/-! ## The feed-forward's output product, the residual and the norm -/

section

attribute [local instance] Cert.Kernel17Ideal.Gen.facts Cert.Reference17Ideal.Gen.facts

theorem frame_reference17 : Cert.quiescent_Reference17Ideal := fun m ρ _ =>
  (θ_run Cert.Reference17Ideal.defs _ _).mono
    (fun r h => ⟨fun c => (h c).2.2.2, sem_eq_zero_of_no_sems (by decide) r.2⟩) (Cert.Reference17Ideal.Value.run m ρ)

theorem algebraic17 : Cert.algebraic_Kernel17Ideal_Reference17Ideal := fun m ρ m' ρ' _ hag => by
  refine ⟨fun c => mat (Cert.Kernel17Ideal.Norm.res m c),
    fun c => mat (Cert.Kernel17Ideal.Norm.out m c),
    fun c => mat (Cert.Kernel17Ideal.Norm.out m c),
    (θ_run Cert.Kernel17Ideal.defs _ _).mono (fun r h c => ⟨(h c).1.trans (Cert.Kernel17Ideal.Norm.final6 m c),
      (h c).2.1.trans (Cert.Kernel17Ideal.Norm.final7 m c),
      (h c).2.2.1.trans (Cert.Kernel17Ideal.Norm.final8 m c), (h c).2.2.2⟩)
      (Cert.Kernel17Ideal.Value.run_blocks m ρ),
    (θ_run Cert.Reference17Ideal.defs _ _).mono (fun r h c => ⟨(h c).1.trans ?_, (h c).2.1.trans ?_, (h c).2.2.1.trans ?_, (h c).2.2.2⟩)
      (Cert.Reference17Ideal.Value.run m' ρ')⟩
  all_goals
    obtain ⟨h0, h1, h2, h3, h4, h5⟩ := hag c
  · rw [h0, h1, h2, h3]
    exact (Cert.Reference17Ideal.Read.val_main_v7_eq ..).trans (Cert.Reference17Ideal.result0 _ _ _ _)
  · rw [Cert.Reference17Ideal.Read.val_main_v29_eq, h0, h1, h2, h3, h4, h5]
    exact Cert.Reference17Ideal.result1 _ _ _ _ _ _
  · rw [Cert.Reference17Ideal.Read.val_main_v30_eq, h0, h1, h2, h3, h4, h5]
    exact Cert.Reference17Ideal.result2 _ _ _ _ _ _

end

end Cert.Proof

end
-- ==== Proof.ConvRows.lean ====
/-
  The causal convolution's gradient: what the kernel computes at a point of its grid. The grid is 3 column blocks of 512
  by 32 row blocks of 512. A point lays its rows of the cotangent out with the next ones below them, and its rows of the
  input with the ones before above them; the last row block has zeros for the next rows, the first one zeros for the rows before.
-/
module

public import Idealize.ShloMosaic.Lib.Pipeline.ValueKit
public import Idealize.ShloMosaic.Lib.StableHlo.ReadAt
public import Idealize.ShloMosaic.Lib.Pipeline.ReadBack
public import proofs.«01_k».proof.Proof.Products
public import proofs.«01_k».proof.Proof.Gen.Kernel10Ideal.Value

@[expose] public section

set_option maxRecDepth 16384

noncomputable section

namespace Cert.Step

open Idealize Idealize.ShloMosaic

/-- A row of the cotangent, zero after the last. -/
def ctAt (ct : Mat 16384 1536) (n l : ℕ) : EReal := if h : n < 16384 ∧ l < 1536 then ct (ix2 ⟨n, h.1⟩ ⟨l, h.2⟩) else 0

/-- A row of the convolution's input, which has three rows of zeros before the first. -/
def xAt (p : Mat 16384 7296) (n l : ℕ) : EReal :=
  if h : 3 ≤ n ∧ n - 3 < 16384 ∧ l < 1536 then p (ix2 ⟨n - 3, h.2.1⟩ ⟨1024 + l, by omega⟩) else 0

/-- The input's gradient: each row of the input is in four rows of the output. -/
def dConv (ct : Mat 16384 1536) (w : Mat 4 1536) (i : Fin 16384) (l : Fin 1536) : EReal :=
  w (ix2 3 l) * ctAt ct i.val l.val + w (ix2 2 l) * ctAt ct (i.val + 1) l.val + w (ix2 1 l) * ctAt ct (i.val + 2) l.val
    + w (ix2 0 l) * ctAt ct (i.val + 3) l.val

/-- The taps' gradient. -/
def dTap (ct : Mat 16384 1536) (p : Mat 16384 7296) (j : Fin 4) (l : Fin 1536) : EReal :=
  ∑ i : Fin 16384, ctAt ct i.val l.val * xAt p (i.val + j.val) l.val

end Cert.Step

namespace Cert.Kernel10Ideal.Conv

open Cert.Kernel10Ideal Cert.Kernel10Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 1536 := m ((c : Thread nD τ).loc main_arg0)
abbrev p (c : Dev nD) : Mat 16384 7296 := m ((c : Thread nD τ).loc main_arg1)
abbrev w (c : Dev nD) : Mat 4 1536 := m ((c : Thread nD τ).loc main_arg2)

theorem point_lt (t : Fin cfg0.N) : t.val < 96 := t.isLt

/-- A point's column. -/
def col (t : Fin cfg0.N) (l : Fin 512) : Fin 1536 := ⟨t.val / 32 * 512 + l.val, by have := point_lt t; omega⟩

theorem blk0 (c : Dev nD) (t : Fin cfg0.N) (r l : Fin 512) :
    iblk m c 0 t (ix2 r l) = ctAt (ct m c) (t.val % 32 * 512 + r.val) (t.val / 32 * 512 + l.val) := by
  have e : ∀ t : Fin cfg0.N, win0_0.index t = ![t.val % 32, t.val / 32] := (by decide +kernel : ∀ t : Fin grid0.N, _)
  have ht := point_lt t
  blk_simp [iblk]
  rw [V_main_arg0, ctAt, dif_pos ⟨by omega, by omega⟩]
  blk_ext [e]

theorem blk1 (c : Dev nD) (t : Fin cfg0.N) (ht' : ¬ t.val % 32 = 31) (r : Fin 16) (l : Fin 512) :
    iblk m c 1 t (ix2 r l) = ctAt (ct m c) (t.val % 32 * 512 + (512 + r.val)) (t.val / 32 * 512 + l.val) := by
  have e : ∀ t : Fin cfg0.N, win0_1.index t = ![min ((t.val % 32 + 1) * 32) 1023, t.val / 32] := (by decide +kernel : ∀ t : Fin grid0.N, _)
  have ht := point_lt t
  blk_simp [iblk]
  rw [V_main_arg0, ctAt, dif_pos ⟨by omega, by omega⟩]
  blk_ext [e]

theorem blk2 (c : Dev nD) (t : Fin cfg0.N) (r l : Fin 512) :
    X0_2 m c t (ix2 r l) = xAt (p m c) (t.val % 32 * 512 + (16 + r.val) - 13) (t.val / 32 * 512 + l.val) := by
  have e : ∀ t : Fin cfg0.N, win0_2.index t = ![t.val % 32, t.val / 32 + 2] := (by decide +kernel : ∀ t : Fin grid0.N, _)
  have ht := point_lt t
  unfold X0_2 Pipeline.Window.fill
  rw [dif_pos (moved0_2 t _)]
  blk_simp [iblk]
  rw [V_main_arg1, xAt, dif_pos ⟨by omega, by omega, by omega⟩]
  blk_ext [e]

theorem blk3 (c : Dev nD) (t : Fin cfg0.N) (ht' : ¬ t.val % 32 = 0) (r : Fin 16) (l : Fin 512) :
    X0_3 m c t (ix2 r l) = xAt (p m c) (t.val % 32 * 512 + r.val - 13) (t.val / 32 * 512 + l.val) := by
  have e : ∀ t : Fin cfg0.N, win0_3.index t = ![t.val % 32 * 32 - 1, t.val / 32 + 2] := (by decide +kernel : ∀ t : Fin grid0.N, _)
  have ht := point_lt t
  unfold X0_3 Pipeline.Window.fill
  rw [dif_pos (moved0_3 t _)]
  blk_simp [iblk]
  rw [V_main_arg1, xAt, dif_pos ⟨by omega, by omega, by omega⟩]
  blk_ext [e]

theorem blk4 (c : Dev nD) (t : Fin cfg0.N) (j : Fin 4) (l : Fin 512) : iblk m c 4 t (ix2 j l) = w m c (ix2 j (col t l)) := by
  have e : ∀ t : Fin cfg0.N, win0_4.index t = ![0, t.val / 32] := (by decide +kernel : ∀ t : Fin grid0.N, _)
  blk_simp [iblk]
  rw [V_main_arg2]
  unfold col
  blk_ext [e]

/-- The cotangent's rows of a point, and the next ones. -/
def dyV (c : Dev nD) (t : Fin cfg0.N) : Vec Ideal S528x512 .f32 := fun k =>
  ctAt (ct m c) (t.val % 32 * 512 + (k 0).val) (t.val / 32 * 512 + (k 1).val)

/-- The input's rows before a point's, and the point's. -/
def xV (c : Dev nD) (t : Fin cfg0.N) : Vec Ideal S528x512 .f32 := fun k =>
  xAt (p m c) (t.val % 32 * 512 + (k 0).val - 13) (t.val / 32 * 512 + (k 1).val)

theorem first_cond : ∀ t : Fin cfg0.N,
    Scalar.cmpi .eq (BitVec.ofNat 32 (grid0.coords t 1).val) 0#32 = if t.val % 32 = 0 then 1#1 else 0#1 :=
  (by decide +kernel : ∀ t : Fin grid0.N, _)

theorem last_cond : ∀ t : Fin cfg0.N,
    Scalar.cmpi .eq (BitVec.ofNat 32 (grid0.coords t 1).val) 31#32 = if t.val % 32 = 31 then 1#1 else 0#1 :=
  (by decide +kernel : ∀ t : Fin grid0.N, _)

theorem next_rows (c : Dev nD) (t : Fin cfg0.N) (r : Fin 16) (l : Fin 512) :
    k0_pay5 (F := Ideal) (grid0.coords t) (iblk m c 1 t) (ix2 r l) = dyV m c t (ix2 ⟨512 + r.val, by omega⟩ l) := by
  pointwise [k0_pay5]
  rw [last_cond]
  by_cases h : t.val % 32 = 31
  · rw [if_pos h]
    refine Eq.symm (show ctAt (ct m c) (t.val % 32 * 512 + (512 + r.val)) (t.val / 32 * 512 + l.val) = 0 from dif_neg ?_)
    omega
  · rw [if_neg h]
    exact blk1 m c t h r l

theorem rows_before (c : Dev nD) (t : Fin cfg0.N) (r : Fin 16) (l : Fin 512) :
    k0_pay6 (F := Ideal) (grid0.coords t) (X0_3 m c t) (ix2 r l) = xV m c t (ix2 ⟨r.val, by omega⟩ l) := by
  pointwise [k0_pay6]
  rw [first_cond]
  by_cases h : t.val % 32 = 0
  · rw [if_pos h]
    refine Eq.symm (show xAt (p m c) (t.val % 32 * 512 + r.val - 13) (t.val / 32 * 512 + l.val) = 0 from dif_neg ?_)
    omega
  · rw [if_neg h]
    exact blk3 m c t h r l

theorem own_rows (c : Dev nD) (t : Fin cfg0.N) (r l : Fin 512) :
    k0_pay7 (F := Ideal) (X0_2 m c t) (ix2 r l) = xV m c t (ix2 ⟨16 + r.val, by omega⟩ l) := by
  pointwise [k0_pay7]
  exact blk2 m c t r l

theorem own_ct (c : Dev nD) (t : Fin cfg0.N) (r l : Fin 512) :
    k0_pay4 (F := Ideal) (iblk m c 0 t) (ix2 r l) = dyV m c t (ix2 ⟨r.val, by omega⟩ l) := by
  pointwise [k0_pay4]
  exact blk0 m c t r l

theorem rows_cover (n : ℕ) (h1 h2) (hn : n = 16 ∨ n = 512) (A : Vec Ideal ⟨2, ![528 - n, 512]⟩ .f32) (B : Vec Ideal ⟨2, ![n, 512]⟩ .f32) (y : S528x512.Idx) :
    ∃ q ∈ [(⟨Rect.unit (s := S528x512) ![n, 0] ![528 - n, 512] h1, A⟩ : View.Piece (Elt Ideal) S528x512 .f32),
      ⟨Rect.unit (s := S528x512) ![0, 0] ![n, 512] h2, B⟩], y ∈ q.1.set := by
  idx_vars y
  by_cases h : y0.val < n
  · refine ⟨_, List.mem_cons_of_mem _ List.mem_cons_self, (Rect.mem_set_unit (inb := h2)).mpr fun a => ?_⟩
    fin_cases a <;> simp <;> omega
  · refine ⟨_, List.mem_cons_self, (Rect.mem_set_unit (inb := h1)).mpr fun a => ?_⟩
    fin_cases a <;> simp <;> omega

theorem read_x (c : Dev nD) (t : Fin cfg0.N) (h1 h2) (r : Rect S528x512) :
    View.readCov (Val := Elt Ideal) (s := S528x512) (e := .f32) (View.whole cc0_scratch1) [⟨Rect.unit (s := S528x512) ![16, 0] ![512, 512] h1, k0_pay7 (X0_2 m c t)⟩,
      ⟨Rect.unit (s := S528x512) ![0, 0] ![16, 512] h2, k0_pay6 (grid0.coords t) (X0_3 m c t)⟩] r.toLoadRect = View.ld (xV m c t) r := by
  rw [View.readCov_eq_canon']
  funext j
  show View.canon _ (r.toLoadRect.idx j) = xV m c t (r.toLoadRect.idx j)
  generalize r.toLoadRect.idx j = y
  have hc := rows_cover 16 h1 h2 (.inl rfl) (k0_pay7 (X0_2 m c t)) (k0_pay6 (grid0.coords t) (X0_3 m c t)) y
  canon_tiles x hx using hc
  all_goals idx_vars x
  · refine (own_rows m c t x0 x1).trans (congrArg₂ (xAt (p m c)) ?_ ?_)
    · show _ + (16 + x0.val) - 13 = _ + (y 0).val - 13
      rw [hx0]
    · show _ + x1.val = _ + (y 1).val
      rw [hx1]
  · refine (rows_before m c t x0 x1).trans (congrArg₂ (xAt (p m c)) ?_ ?_)
    · show _ + x0.val - 13 = _ + (y 0).val - 13
      rw [hx0]
    · show _ + x1.val = _ + (y 1).val
      rw [hx1]

theorem read_ct (c : Dev nD) (t : Fin cfg0.N) (h1 h2) (r : Rect S528x512) :
    View.readCov (Val := Elt Ideal) (s := S528x512) (e := .f32) (View.whole cc0_scratch0) [⟨Rect.unit (s := S528x512) ![512, 0] ![16, 512] h1, k0_pay5 (grid0.coords t) (iblk m c 1 t)⟩,
      ⟨Rect.unit (s := S528x512) ![0, 0] ![512, 512] h2, k0_pay4 (iblk m c 0 t)⟩] r.toLoadRect = View.ld (dyV m c t) r := by
  rw [View.readCov_eq_canon']
  funext j
  show View.canon _ (r.toLoadRect.idx j) = dyV m c t (r.toLoadRect.idx j)
  generalize r.toLoadRect.idx j = y
  have hc := rows_cover 512 h1 h2 (.inr rfl) (k0_pay5 (grid0.coords t) (iblk m c 1 t)) (k0_pay4 (iblk m c 0 t)) y
  canon_tiles x hx using hc
  all_goals idx_vars x
  · refine (next_rows m c t x0 x1).trans (congrArg₂ (ctAt (ct m c)) ?_ ?_)
    · show _ + (512 + x0.val) = _ + (y 0).val
      rw [hx0]
    · show _ + x1.val = _ + (y 1).val
      rw [hx1]
  · refine (own_ct m c t x0 x1).trans (congrArg₂ (ctAt (ct m c)) ?_ ?_)
    · show _ + x0.val = _ + (y 0).val
      rw [hx0]
    · show _ + x1.val = _ + (y 1).val
      rw [hx1]

end Cert.Kernel10Ideal.Conv

end
-- ==== Proof.ConvBwd.lean ====
/-
  What a point of the grid leaves in its block of the input's gradient and adds to its part of the taps' gradient.
-/
module

public import proofs.«01_k».proof.Proof.ConvRows

@[expose] public section

set_option maxRecDepth 16384

noncomputable section

namespace Cert.Kernel10Ideal.Conv

open Cert.Kernel10Ideal Cert.Kernel10Ideal.Gen Cert.Step
open Idealize Idealize.ShloMosaic Idealize.ShloMosaic.TcCoe Idealize.SL Idealize.SL.Sem

variable (m : (ℓ : Loc nD τ sig) → Buf (Elt Ideal) ℓ)

/-- The row of the arrays at a point's row. -/
def row (t : Fin cfg0.N) (r : Fin 512) : Fin 16384 := ⟨t.val % 32 * 512 + r.val, by omega⟩

abbrev prod (x y : EReal) : EReal := x * y

/-- Four products, of rows one after another, are an entry of the input's gradient. -/
theorem conv_row (c : Dev nD) (t : Fin cfg0.N) (r l : Fin 512) (a0 a1 a2 a3 : Fin 528) (h0 : a0.val = r.val) (h1 : a1.val = 1 + r.val)
    (h2 : a2.val = 2 + r.val) (h3 : a3.val = 3 + r.val) :
    prod (iblk m c 4 t (ix2 3 l)) (dyV m c t (ix2 a0 l)) + prod (iblk m c 4 t (ix2 2 l)) (dyV m c t (ix2 a1 l))
      + prod (iblk m c 4 t (ix2 1 l)) (dyV m c t (ix2 a2 l)) + prod (iblk m c 4 t (ix2 0 l)) (dyV m c t (ix2 a3 l))
      = dConv (ct m c) (w m c) (row t r) (col t l) := by
  rw [blk4, blk4, blk4, blk4]
  have e : ∀ (a : Fin 528) (k : ℕ), a.val = k + r.val → dyV m c t (ix2 a l) = ctAt (ct m c) ((row t r).val + k) (col t l).val := fun a k h =>
    congrArg₂ (ctAt (ct m c)) (show t.val % 32 * 512 + a.val = t.val % 32 * 512 + r.val + k by omega) rfl
  rw [e a0 0 (by omega), e a1 1 h1, e a2 2 h2, e a3 3 h3]
  rfl

set_option maxHeartbeats 2000000 in
theorem out5 (c : Dev nD) (t : Fin cfg0.N) (j l : Fin 512) :
    (outsAt0 (F := Ideal) m c t.val t.isLt).1 (ix2 j l) = dConv (ct m c) (w m c) (row t j) (col t l) := by
  by_cases h : t.val % 32 = 0
  on_goal 1 => rw [Gen.outsAt0_A m c t h]
  on_goal 2 => rw [Gen.outsAt0_B m c t h]
  all_goals
    frame_open
    frame_out
    simp only [read_ct]
    canon_tiles x hx
    all_goals
      idx_vars x
      obtain rfl : l = x1 := Fin.ext hx1
      pointwise [k0_pay10, k0_pay17, k0_pay23, k0_pay24, k0_pay25, k0_pay32, k0_pay33, k0_pay39, k0_pay40, k0_pay45, k0_pay46, k0_pay53, k0_pay60,
      k0_pay66, k0_pay67, k0_pay68, k0_pay75, k0_pay76, k0_pay82, k0_pay83, k0_pay88, k0_pay89, k0_pay96, k0_pay103, k0_pay109,
      k0_pay110, k0_pay111, k0_pay118, k0_pay119]
      exact conv_row m c t j l _ _ _ _ (by first | omega | (dsimp only; omega)) (by first | omega | (dsimp only; omega))
        (by first | omega | (dsimp only; omega)) (by first | omega | (dsimp only; omega))

/-- A point's product for a tap, at one of its rows. -/
def term (c : Dev nD) (t : Fin cfg0.N) (j : Fin 4) (l : Fin 512) (n : ℕ) : EReal :=
  ctAt (ct m c) (t.val % 32 * 512 + n) (t.val / 32 * 512 + l.val) * xAt (p m c) (t.val % 32 * 512 + n + j.val) (t.val / 32 * 512 + l.val)

theorem term_eq (c : Dev nD) (t : Fin cfg0.N) (j : Fin 4) (l : Fin 512) (a : Fin 512) (b : Fin 528) (h : b.val = 13 + j.val + a.val) :
    prod (iblk m c 0 t (ix2 a l)) (xV m c t (ix2 b l)) = term m c t j l a.val := by
  rw [blk0]
  refine congrArg (_ * ·) (congrArg₂ (xAt (p m c)) ?_ rfl)
  show t.val % 32 * 512 + b.val - 13 = t.val % 32 * 512 + a.val + j.val
  omega

/-- Thirty-two numbers, four by four. -/
def four (f : ℕ → EReal) (k x : ℕ) : EReal := f (k + x) + f (k + (8 + x)) + f (k + (16 + x)) + f (k + (24 + x))

theorem sum_four (f : ℕ → EReal) (k : ℕ) : ∑ x : Fin 8, four f k x.val = ∑ r : Fin 32, f (k + r.val) := by
  refine Eq.trans ?_ (sum_runs 4 8 32 rfl (fun r => f (k + r.val)) (fun s l => f (k + (s.val * 8 + l.val))) fun _ _ _ => rfl)
  rw [Fin.sum_univ_four, ← Finset.sum_add_distrib, ← Finset.sum_add_distrib, ← Finset.sum_add_distrib]
  refine Finset.sum_congr rfl fun x _ => ?_
  show _ = f (k + (0 * 8 + x.val)) + f (k + (1 * 8 + x.val)) + f (k + (2 * 8 + x.val)) + f (k + (3 * 8 + x.val))
  rw [Nat.zero_mul, Nat.zero_add]
  rfl

theorem sum_tiles (f : ℕ → EReal) :
    ∑ x : Fin 8, (four f 0 x.val + four f 32 x.val + four f 64 x.val + four f 96 x.val + four f 128 x.val + four f 160 x.val + four f 192 x.val
      + four f 224 x.val + four f 256 x.val + four f 288 x.val + four f 320 x.val + four f 352 x.val + four f 384 x.val + four f 416 x.val
      + four f 448 x.val + four f 480 x.val) = ∑ r : Fin 512, f r.val := by
  refine Eq.trans ?_ (sum_runs 16 32 512 rfl (fun r => f r.val) (fun s l => f (s.val * 32 + l.val)) fun _ _ _ => rfl)
  simp only [← sum_four]
  rw [Finset.sum_comm]
  refine Finset.sum_congr rfl fun x _ => ?_
  simp only [Fin.sum_univ_castSucc, Fin.sum_univ_zero, zero_add]
  rfl

/-- What the newer stores cover, the older ones do not show. -/
theorem canon_covered {s : Shape} {e : EltTy} (L' : List (View.Piece (Elt Ideal) s e)) (y : s.Idx) :
    ∀ L : List (View.Piece (Elt Ideal) s e), (∃ q ∈ L, y ∈ q.1.set) → View.canon (L ++ L') y = View.canon L y
  | [], h => by obtain ⟨q, hq, _⟩ := h; simp at hq
  | q :: L, h => by
    by_cases hm : y ∈ q.1.set
    · obtain ⟨x, rfl⟩ := q.1.exists_idx_of_mem hm
      exact (View.canon_cons_emb q.1 q.2 (L ++ L') x).trans (View.canon_cons_emb q.1 q.2 L x).symm
    · rw [List.cons_append, View.canon_cons_of_not_mem _ _ hm, View.canon_cons_of_not_mem _ _ hm]
      obtain ⟨q', hq, hy⟩ := h
      rcases List.mem_cons.mp hq with rfl | hq
      · exact absurd hy hm
      · exact canon_covered L' y L ⟨q', hq, hy⟩

/-- A point's part of the taps' gradient. -/
def part (c : Dev nD) (t : Fin cfg0.N) (q : Fin 4 × Fin 512) : EReal := ∑ r : Fin 512, term m c t q.1 q.2 r.val

/-- The taps' block after a point. -/
def acc (c : Dev nD) (n : ℕ) (hn : n < cfg0.N) (q : Fin 4 × Fin 512) : EReal := (outsAt0 (F := Ideal) m c n hn).2 (ix2 q.1 q.2)

set_option maxHeartbeats 2000000 in
theorem acc_step (c : Dev nD) (t : Fin cfg0.N) (j : Fin 4) (l : Fin 512) :
    acc m c t.val t.isLt (j, l)
      = (if t.val % 32 = 0 then 0 else acc m c (t.val - 1) (Nat.lt_of_le_of_lt (Nat.sub_le _ _) t.isLt) (j, l)) + part m c t (j, l) := by
  unfold acc part
  dsimp only
  rw [← sum_tiles]
  by_cases h : t.val % 32 = 0
  on_goal 1 => rw [Gen.outsAt0_A m c t h, if_pos h, zero_add]
  on_goal 2 => rw [Gen.outsAt0_B m c t h, if_neg h]
  all_goals
    frame_open
    simp (disch := decide) only [↓ View.readCov_skip, ↓ View.readCov_cons_toLoadRect, ↓ View.readCov_fill]
    frame_out
    simp only [read_x]
  on_goal 1 => refine (canon_covered [_] _ [_, _, _, _] (View.cover_of_tiledL _ ![1, 512] (by rfl) _)).trans ?_
  all_goals
    canon_tiles x hx
    all_goals
      idx_vars x
      obtain rfl : l = x1 := Fin.ext hx1
      obtain rfl := Fin.fin_one_eq_zero x0
      pointwise [k0_pay1, k0_pay2, k0_pay3, k0_pay8, k0_pay9, k0_pay11, k0_pay12, k0_pay13, k0_pay14, k0_pay15, k0_pay16, k0_pay18, k0_pay19,
      k0_pay20, k0_pay21, k0_pay22, k0_pay26, k0_pay27, k0_pay28, k0_pay29, k0_pay30, k0_pay31, k0_pay34, k0_pay35, k0_pay36,
      k0_pay37, k0_pay38, k0_pay41, k0_pay42, k0_pay43, k0_pay44, k0_pay47, k0_pay48, k0_pay49, k0_pay50, k0_pay51, k0_pay52,
      k0_pay54, k0_pay55, k0_pay56, k0_pay57, k0_pay58, k0_pay59, k0_pay61, k0_pay62, k0_pay63, k0_pay64, k0_pay65, k0_pay69,
      k0_pay70, k0_pay71, k0_pay72, k0_pay73, k0_pay74, k0_pay77, k0_pay78, k0_pay79, k0_pay80, k0_pay81, k0_pay84, k0_pay85,
      k0_pay86, k0_pay87, k0_pay90, k0_pay91, k0_pay92, k0_pay93, k0_pay94, k0_pay95, k0_pay97, k0_pay98, k0_pay99, k0_pay100,
      k0_pay101, k0_pay102, k0_pay104, k0_pay105, k0_pay106, k0_pay107, k0_pay108, k0_pay112, k0_pay113, k0_pay114, k0_pay115,
      k0_pay116, k0_pay117, k0_pay120, k0_pay121, k0_pay122, k0_pay123, k0_pay124, k0_pay125, k0_pay126, k0_pay127, k0_pay128]
      simp (disch := (dsimp only; omega)) only [term_eq m c t j l]
      simp only [four, Nat.zero_add]
      try exact congrArg (fun k => HAdd.hAdd (α := EReal) (β := EReal) (γ := EReal)
          ((outsAt0 (F := Ideal) m c (t.val - 1) (Nat.lt_of_le_of_lt (Nat.sub_le _ _) t.isLt)).2 (ix2 k l)) _) (Fin.ext (by simpa using hx0.symm))

theorem sums (c : Dev nD) (t : Fin cfg0.N) (ht : t.val % 32 = 31) (j : Fin 4) (l : Fin 512) :
    acc m c t.val t.isLt (j, l) = dTap (ct m c) (p m c) j (col t l) := by
  refine (Pipeline.eq_sum_fin_of_reset_step_apply_of_flush (acc m c) 32 (fun _ => 0) (part m c)
    (fun t h q => (acc_step m c t q.1 q.2).trans (congrArg (· + _) (if_pos h)))
    (fun t h q => (acc_step m c t q.1 q.2).trans (congrArg (· + _) (if_neg h))) t ht (j, l)).trans ?_
  rw [zero_add]
  refine sum_runs 32 512 16384 rfl _ _ fun s r hr => ?_
  have e1 : (32 * (t.val / 32) + s.val) % 32 = s.val := by omega
  have e2 : (32 * (t.val / 32) + s.val) / 32 = t.val / 32 := by omega
  simp only [term, e1, e2]
  rfl

theorem final5 (c : Dev nD) : (dats m 0 c).arrAt 5 cfg0.N = mat (dConv (ct m c) (w m c)) := by
  have e : ∀ t : Fin cfg0.N, win0_5.index t = ![t.val % 32, t.val / 32] := (by decide +kernel : ∀ t : Fin grid0.N, _)
  refine (dats m 0 c).arrAt_eq_of_covers 5 _ (by decide +kernel) fun t hf j => ?_
  blk_simp
  rw [after0_5]
  idx_vars j
  refine (out5 m c t _ _).trans (congrArg₂ (dConv (ct m c) (w m c)) (Fin.ext ?_) (Fin.ext ?_))
  all_goals blk_simp [e, row, col]

theorem final6 (c : Dev nD) : (dats m 0 c).arrAt 6 cfg0.N = mat (dTap (ct m c) (p m c)) := by
  have e : ∀ t : Fin cfg0.N, win0_6.index t = ![0, t.val / 32] := (by decide +kernel : ∀ t : Fin grid0.N, _)
  refine (dats m 0 c).arrAt_eq_of_covers 6 _ (by decide +kernel) fun t hf j => ?_
  blk_simp
  rw [after0_6]
  idx_vars j
  refine (sums m c t ((flush0_6 t).mp hf) _ _).trans (congrArg₂ (dTap (ct m c) (p m c)) (Fin.ext ?_) (Fin.ext ?_))
  all_goals blk_simp [e, col]

end Cert.Kernel10Ideal.Conv

end
-- ==== Proof.ConvReference.lean ====
/-
  The entries of the convolution's gradient, as the reference writes it.
-/
module

public import Idealize.ShloMosaic.Lib.StableHlo.ReadAt
public import proofs.«01_k».proof.Proof.ConvBwd
public import proofs.«01_k».proof.Proof.Gen.Reference10Ideal.Read

@[expose] public section

set_option maxRecDepth 16384

noncomputable section

namespace Cert.Reference10Ideal

open Gen Read Cert.Step Idealize Idealize.ShloMosaic

variable (ct : Mat 16384 1536) (p : Mat 16384 7296) (w : Mat 4 1536)

/-- A tap's product with a later row of the cotangent, zero where there is none. -/
theorem shifted (j : Fin 4) (k : ℕ) (i : Fin 16384) (l : Fin 1536) (c : Prop) [Decidable c] (n : c → Fin 16384) (hc : c ↔ i.val + k < 16384)
    (hn : ∀ h, (n h).val = i.val + k) :
    (if h : c then w (ix2 j l) * ct (ix2 (n h) l) else 0) = w (ix2 j l) * ctAt ct (i.val + k) l.val := by
  by_cases h : c
  · rw [dif_pos h, ctAt, dif_pos ⟨hc.mp h, l.isLt⟩, show n h = ⟨i.val + k, hc.mp h⟩ from Fin.ext (hn h)]
  · rw [dif_neg h, ctAt, dif_neg fun h' => h (hc.mpr h'.1), mul_zero]

theorem result0 : val_main_v80 (F := Ideal) ct w = mat (dConv ct w) := by
  funext i
  idx_vars i
  pointwise [val_main_v80, val_main_v79, val_main_v74, val_main_v63, val_main_v52, val_main_v42, val_main_v51, val_main_v62, val_main_v73,
    val_main_v37, val_main_v46, val_main_v57, val_main_v68, val_main_v34, val_main_v35, val_main_v36, val_main_v45, val_main_v56, val_main_v67,
    val_main_v30, val_main_v28, val_main_v27, val_main_v23, val_main_v21, val_main_v20, val_main_v16, val_main_v14, val_main_v13,
    val_main_v8, val_main_v6, val_main_v5, val_main_cst_4, val_main_cst_8, val_main_cst_12, val_main_cst_16]
  refine congrArg₂ (HAdd.hAdd (α := EReal) (β := EReal)) (congrArg₂ (HAdd.hAdd (α := EReal) (β := EReal))
    (congrArg₂ (HAdd.hAdd (α := EReal) (β := EReal)) ?_ ?_) ?_) ?_
  · rw [ctAt, dif_pos ⟨i0.isLt, i1.isLt⟩]
    rfl
  · exact shifted ct w 2 1 i0 i1 _ _ ⟨fun h => by omega, fun h => by omega⟩ (fun h => by dsimp only; omega)
  · exact shifted ct w 1 2 i0 i1 _ _ ⟨fun h => by omega, fun h => by omega⟩ (fun h => by dsimp only; omega)
  · exact shifted ct w 0 3 i0 i1 _ _ ⟨fun h => by omega, fun h => by omega⟩ (fun h => by dsimp only; omega)

theorem before_apply (n : Fin 16387) (l : Fin 1536) : val_main_v3 (F := Ideal) p (ix2 n l) = xAt p n.val l.val := by
  pointwise [val_main_v3, val_main_v2, val_main_v1, val_main_v0, val_main_cst]
  unfold xAt
  by_cases h : n.val < 3
  · rw [dif_pos h, dif_neg (by omega)]
  · rw [dif_neg h, dif_pos ⟨by omega, by omega, l.isLt⟩]

theorem result1 : val_main_v77 (F := Ideal) ct p = mat (dTap ct p) := by
  funext i
  idx_vars i
  pointwise [val_main_v77, val_main_v66, val_main_v55, val_main_v44, val_main_v54, val_main_v65, val_main_v76,
    val_main_v43, val_main_v53, val_main_v64, val_main_v75, val_main_v41, val_main_v50, val_main_v61, val_main_v72,
    val_main_v40, val_main_v49, val_main_v60, val_main_v71, val_main_v39, val_main_v48, val_main_v59, val_main_v70,
    val_main_v38, val_main_v47, val_main_v58, val_main_v69, val_main_v34, val_main_v35, val_main_v29, val_main_v22, val_main_v15, val_main_v7,
    val_main_cst_2, val_main_cst_3, val_main_cst_5, val_main_cst_6, val_main_cst_7, val_main_cst_9, val_main_cst_10, val_main_cst_11, val_main_cst_13,
    val_main_cst_14, val_main_cst_15, val_main_cst_17]
  simp only [before_apply, Finset.univ_unique, Finset.sum_singleton]
  have e : ∀ i : Fin 16384, ct (ix2 i i1) = ctAt ct i.val i1.val := fun i => by
    rw [ctAt, dif_pos ⟨i.isLt, i1.isLt⟩]
  fin_cases i0
  all_goals
    simp [e, add_comm]
    exact Finset.sum_congr rfl fun _ _ => rfl

end Cert.Reference10Ideal

end
-- ==== Proof.ConvTapsClaims.lean ====
/-
  The claims about the convolution's gradient: the reference's frame, and that the kernel's two results are the reference's.
-/
module

public import proofs.«01_k».proof.Defs
public import proofs.«01_k».proof.Proof.ConvBwd
public import proofs.«01_k».proof.Proof.ConvReference
public import proofs.«01_k».proof.Proof.Gen.Reference10Ideal.Run
public import Idealize.ShloMosaic.Adequacy
public import Idealize.ShloMosaic.Init

@[expose] public section

set_option maxRecDepth 16384

noncomputable section

namespace Cert.Proof

open Cert.Step
open Idealize Idealize.ShloMosaic Idealize.ShloMosaic.TcCoe Idealize.SL Idealize.SL.Sem
open Cert.Kernel10Ideal.Conv

attribute [local instance] Cert.Kernel10Ideal.Gen.facts Cert.Reference10Ideal.Gen.facts

theorem frame_reference10 : Cert.quiescent_Reference10Ideal := fun m ρ _ =>
  (θ_run Cert.Reference10Ideal.defs _ _).mono
    (fun r h => ⟨fun c => (h c).2.2, sem_eq_zero_of_no_sems (by decide) r.2⟩) (Cert.Reference10Ideal.Value.run m ρ)

theorem algebraic10 : Cert.algebraic_Kernel10Ideal_Reference10Ideal := fun m ρ m' ρ' _ hag => by
  refine ⟨fun c => mat (dConv (ct m c) (w m c)), fun c => mat (dTap (ct m c) (p m c)),
    (θ_run Cert.Kernel10Ideal.defs _ _).mono (fun r h c => ⟨(h c).1.trans (final5 m c), (h c).2.1.trans (final6 m c), (h c).2.2⟩)
      (Cert.Kernel10Ideal.Value.run_blocks m ρ),
    (θ_run Cert.Reference10Ideal.defs _ _).mono (fun r h c => ⟨(h c).1.trans ?_, (h c).2.1.trans ?_, (h c).2.2⟩)
      (Cert.Reference10Ideal.Value.run m' ρ')⟩
  all_goals
    obtain ⟨h0, h1, h2⟩ := hag c
  · rw [Cert.Reference10Ideal.Read.val_main_v80_eq, h0, h2]
    exact Cert.Reference10Ideal.result0 _ _
  · rw [Cert.Reference10Ideal.Read.val_main_v77_eq, h0, h1]
    exact Cert.Reference10Ideal.result1 _ _

end Cert.Proof

end
-- ==== Proof.LossHead.lean ====
/-
  The loss and its gradient: the squared distance to the target, and what the kernel writes. The grid is 32 points of 512
  rows; each point writes its rows of the gradient and adds its rows' part of the loss to every entry of one small array,
  which the first point has set to zero and the last one writes back.
-/
module

public import Idealize.ShloMosaic.Lib.Pipeline.ValueKit
public import Idealize.ShloMosaic.Lib.StableHlo.ReadAt
public import proofs.«01_k».proof.Proof.Products
public import proofs.«01_k».proof.Proof.LayerNorm
public import proofs.«01_k».proof.Proof.Gen.Kernel29Ideal.Value

@[expose] public section

set_option maxRecDepth 16384

noncomputable section

namespace Cert.Step

open Idealize Idealize.ShloMosaic

def half : EReal := Ideal.ofBits .f32 0x3F000000#32

theorem half_real : half = ((1 / 2 : ℝ) : EReal) := by
  simp [half, Ideal.ofBits, Ideal.ieee, -EReal.coe_mul]; norm_num

/-- A positive real factor goes into any sum. -/
theorem half_sum {ι : Type} (s : Finset ι) (f : ι → EReal) : half * ∑ i ∈ s, f i = ∑ i ∈ s, half * f i := by
  classical
  rw [half_real]
  induction s using Finset.induction_on with
  | empty => simp
  | insert a s h ih => rw [Finset.sum_insert h, Finset.sum_insert h, EReal.left_distrib_of_nonneg_of_ne_top (by norm_num) (EReal.coe_ne_top _), ih]

/-- One over the number of features. -/
def perFeature : EReal := Ideal.ofBits .f32 0x3A800000#32

theorem perFeature_real : perFeature = ((1 / 1024 : ℝ) : EReal) := by
  simp [perFeature, Ideal.ofBits, Ideal.ieee, -EReal.coe_mul]; norm_num

/-- The loss's gradient. -/
def dLoss (y t : Mat 16384 1024) (i : Fin 16384) (l : Fin 1024) : EReal := (y (ix2 i l) - t (ix2 i l)) * perFeature

/-- A row's squared distance to the target, over the number of features. -/
def rowLoss (y t : Mat 16384 1024) (i : Fin 16384) : EReal :=
  mean w1024 fun l => (y (ix2 i l) - t (ix2 i l)) * (y (ix2 i l) - t (ix2 i l))

/-- Half the rows' sum. -/
def lossOf (y t : Mat 16384 1024) : EReal := half * ∑ i, rowLoss y t i

end Cert.Step

namespace Cert.Kernel29Ideal.Loss

open Cert.Kernel29Ideal Cert.Kernel29Ideal.Gen Cert.Step
open Idealize Idealize.ShloMosaic Idealize.ShloMosaic.TcCoe Idealize.SL Idealize.SL.Sem

variable (m : (ℓ : Loc nD τ sig) → Buf (Elt Ideal) ℓ)

abbrev y (c : Dev nD) : Mat 16384 1024 := m ((c : Thread nD τ).loc main_arg0)
abbrev target (c : Dev nD) : Mat 16384 1024 := m ((c : Thread nD τ).loc main_arg1)

/-- The row of the arrays at a point's row. -/
def row (t : Fin cfg0.N) (r : Fin 512) : Fin 16384 := ⟨t.val % 32 * 512 + r.val, by idx_bounds; omega⟩

theorem blk0 (c : Dev nD) (t : Fin cfg0.N) (r : Fin 512) (l : Fin 1024) : iblk m c 0 t (ix2 r l) = y m c (ix2 (row t r) l) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (r : Fin 512) (l : Fin 1024) : iblk m c 1 t (ix2 r l) = target m c (ix2 (row t r) l) := by
  have e : ∀ t : Fin cfg0.N, win0_1.index t = ![t.val % 32, 0] := (by decide +kernel : ∀ t : Fin grid0.N, _)
  blk_simp [iblk]
  rw [V_main_arg1]
  unfold row
  blk_ext [e]

theorem out2 (c : Dev nD) (t : Fin cfg0.N) (r : Fin 512) (l : Fin 1024) :
    (outsAt0 (F := Ideal) m c t.val t.isLt).1 (ix2 r l) = dLoss (y m c) (target m c) (row t r) l := by
  by_cases h : t.val % 32 = 0
  on_goal 1 => rw [Gen.outsAt0_A m c t h]
  on_goal 2 => rw [Gen.outsAt0_B m c t h]
  all_goals
    frame_out
    pointwise [k0_pay3, k0_pay2]
    rw [blk0, blk1]
    rfl

/-- One point's part of the loss. -/
def part (c : Dev nD) (t : Fin cfg0.N) (_ : Fin 8 × Fin 128) : EReal := half * ∑ r : Fin 512, rowLoss (y m c) (target m c) (row t r)

/-- The small array after a point. -/
def acc (c : Dev nD) (n : ℕ) (hn : n < cfg0.N) (q : Fin 8 × Fin 128) : EReal := (outsAt0 (F := Ideal) m c n hn).2 (ix2 q.1 q.2)

theorem step (c : Dev nD) (t : Fin cfg0.N) (v : Vec Ideal S8x128 .f32) (q : Fin 8 × Fin 128) :
    k0_pay4 (iblk m c 0 t) (iblk m c 1 t) v (ix2 q.1 q.2) = v (ix2 q.1 q.2) + part m c t q := by
  pointwise [k0_pay4, k0_pay2]
  simp only [blk0, blk1]
  rfl

theorem out_A (c : Dev nD) (t : Fin cfg0.N) (ht : t.val % 32 = 0) (q : Fin 8 × Fin 128) :
    acc m c t.val t.isLt q = 0 + part m c t q := by
  unfold acc
  rw [Gen.outsAt0_A m c t ht]
  frame_out
  refine (step m c t _ _).trans (congrArg (· + _) ?_)
  pointwise [k0_pay1]

theorem out_B (c : Dev nD) (t : Fin cfg0.N) (ht : ¬ t.val % 32 = 0) (q : Fin 8 × Fin 128) :
    acc m c t.val t.isLt q = acc m c (t.val - 1) (Nat.lt_of_le_of_lt (Nat.sub_le _ _) t.isLt) q + part m c t q := by
  unfold acc
  rw [Gen.outsAt0_B m c t ht]
  frame_out
  exact step m c t _ _

theorem sums (c : Dev nD) (t : Fin cfg0.N) (ht : t.val % 32 = 31) (q : Fin 8 × Fin 128) :
    acc m c t.val t.isLt q = lossOf (y m c) (target m c) := by
  refine (Pipeline.eq_sum_fin_of_reset_step_apply_of_flush (acc m c) 32 (fun _ => 0) (part m c) (out_A m c) (out_B m c) t ht q).trans ?_
  rw [zero_add]
  refine (half_sum _ _).symm.trans (congrArg (half * ·) (sum_runs 32 512 16384 rfl _ _ fun s r hr => ?_))
  rw [show row ⟨32 * (t.val / 32) + s.val, Pipeline.run_point_lt_of_flush t ht s⟩ r = ⟨s.val * 512 + r.val, hr⟩ from
    Fin.ext (by simp only [row]; omega)]

theorem final2 (c : Dev nD) : (dats m 0 c).arrAt 2 cfg0.N = mat (dLoss (y m c) (target m c)) := by
  have e : ∀ t : Fin cfg0.N, win0_2.index t = ![t.val % 32, 0] := (by decide +kernel : ∀ t : Fin grid0.N, _)
  refine (dats m 0 c).arrAt_eq_of_covers 2 _ (by decide +kernel) fun t hf j => ?_
  blk_simp
  rw [after0_2]
  idx_vars j
  refine (out2 m c t _ _).trans (congrArg₂ (dLoss (y m c) (target m c)) (Fin.ext ?_) (Fin.ext ?_))
  all_goals blk_simp [e, row]

theorem final3 (c : Dev nD) : (dats m 0 c).arrAt 3 cfg0.N = fun _ => lossOf (y m c) (target m c) := by
  refine (dats m 0 c).arrAt_eq_of_covers 3 _ (by decide +kernel) fun t hf j => ?_
  blk_simp
  rw [after0_3]
  idx_vars j
  exact sums m c t ((flush0_3 t).mp hf) (j0, j1)

end Cert.Kernel29Ideal.Loss

end
-- ==== Proof.LossClaims.lean ====
/-
  The claims about the loss: the reference's entries, its frame, and that the kernel's two results are the reference's.
-/
module

public import proofs.«01_k».proof.Defs
public import proofs.«01_k».proof.Proof.LossHead
public import proofs.«01_k».proof.Proof.Gen.Reference29Ideal.Run
public import proofs.«01_k».proof.Proof.Gen.Reference29Ideal.Read
public import Idealize.ShloMosaic.Adequacy
public import Idealize.ShloMosaic.Init

@[expose] public section

set_option maxRecDepth 16384

noncomputable section

namespace Cert.Reference29Ideal

open Gen Read Cert.Step Idealize Idealize.ShloMosaic

variable (y t : Mat 16384 1024)

/-- Half of one over the number of features, twice, is one over it. -/
theorem weight_eq : Ideal.div half w1024 * Ideal.ofBits .f32 0x40000000#32 = perFeature := by
  rw [half_real, two_real, width1024, perFeature_real, Ideal.div_coe (by norm_num), ← EReal.coe_mul, ← EReal.coe_mul]
  norm_num

theorem result0 : val_main_v14 (F := Ideal) y t = mat (dLoss y t) := by
  funext i
  idx_vars i
  pointwise [val_main_v14, val_main_v13, val_main_v12, val_main_v10, val_main_v11, val_main_v9, val_main_v3, val_main_v2, val_main_v0,
    val_main_cst, val_main_cst_4, val_main_cst_5, val_main_cst_6]
  refine (mul_assoc _ _ _).symm.trans ((congrArg (· * (y (ix2 i0 i1) - t (ix2 i0 i1))) weight_eq).trans (mul_comm _ _))

theorem row_apply (i : Fin 16384) : val_main_v6 (F := Ideal) y t (ix1 i) = rowLoss y t i := by
  pointwise [val_main_v6, val_main_v5, val_main_v4, val_main_v1, val_main_v0, val_main_cst_0, val_main_cst_1]
  rfl

theorem result1 : val_main_v15 (F := Ideal) y t = fun _ => lossOf y t := by
  funext i
  idx_vars i
  pointwise [val_main_v15, val_main_v8, val_main_v7, val_main_cst_2, val_main_cst_3]
  simp only [row_apply]
  rfl

end Cert.Reference29Ideal

namespace Cert.Proof

open Cert.Step
open Idealize Idealize.ShloMosaic Idealize.ShloMosaic.TcCoe Idealize.SL Idealize.SL.Sem
open Cert.Kernel29Ideal.Loss

attribute [local instance] Cert.Kernel29Ideal.Gen.facts Cert.Reference29Ideal.Gen.facts

theorem frame_reference29 : Cert.quiescent_Reference29Ideal := fun m ρ _ =>
  (θ_run Cert.Reference29Ideal.defs _ _).mono
    (fun r h => ⟨fun c => (h c).2.2, sem_eq_zero_of_no_sems (by decide) r.2⟩) (Cert.Reference29Ideal.Value.run m ρ)

theorem algebraic29 : Cert.algebraic_Kernel29Ideal_Reference29Ideal := fun m ρ m' ρ' _ hag => by
  refine ⟨fun c => mat (dLoss (y m c) (target m c)), fun c => fun _ => lossOf (y m c) (target m c),
    (θ_run Cert.Kernel29Ideal.defs _ _).mono (fun r h c => ⟨(h c).1.trans (final2 m c), (h c).2.1.trans (final3 m c), (h c).2.2⟩)
      (Cert.Kernel29Ideal.Value.run_blocks m ρ),
    (θ_run Cert.Reference29Ideal.defs _ _).mono (fun r h c => ⟨(h c).1.trans ?_, (h c).2.1.trans ?_, (h c).2.2⟩)
      (Cert.Reference29Ideal.Value.run m' ρ')⟩
  all_goals
    obtain ⟨h0, h1⟩ := hag c
  · rw [Cert.Reference29Ideal.Read.val_main_v14_eq, h0, h1]
    exact Cert.Reference29Ideal.result0 _ _
  · rw [Cert.Reference29Ideal.Read.val_main_v15_eq, h0, h1]
    exact Cert.Reference29Ideal.result1 _ _

end Cert.Proof

end
-- ==== Proof.Sgu.lean ====
/-
  The spatial gate `u · (tril(w) · norm(v) + b)` of `(u, v) = gelu(uv)`, and the gradients of its parameters, over the extended
  reals. Rows are mixed within chunks of 128, and each of four groups of 128 columns has a weight of its own.
-/
module

public import proofs.«01_k».proof.Proof.Products
public import proofs.«01_k».proof.Proof.LayerNorm

@[expose] public section

noncomputable section

namespace Cert.Step

open Idealize.ShloMosaic

/-- The activation `gelu`, by the hyperbolic tangent. -/
def gelu (n : EReal) : EReal :=
  Ideal.ofBits .f32 0x3F000000#32 * n
    * (1 + Ideal.tanh (Ideal.ofBits .f32 0x3F4C422A#32 * (n + Ideal.ofBits .f32 0x3D372713#32 * (n * n * n))))

/-- Whether a position reads another one: those at or before it. -/
abbrev reads (p q : Fin 128) : BitVec 1 := IntOp.cmpi .sge (BitVec.ofNat 32 p.val) (BitVec.ofNat 32 q.val)

/-- A row of a chunk. -/
def rowOf (n p : Fin 128) : Fin 16384 := ⟨n.val * 128 + p.val, by omega⟩

/-- A column of a group. -/
def colOf (g : Fin 4) (x : Fin 128) : Fin 512 := ⟨g.val * 128 + x.val, by omega⟩

theorem colOf_zero (x : Fin 128) : colOf 0 x = ⟨x.val, by omega⟩ := Fin.ext (by simp [colOf])
theorem colOf_one (x : Fin 128) : colOf 1 x = ⟨128 + x.val, by omega⟩ := Fin.ext (by simp [colOf])
theorem colOf_two (x : Fin 128) : colOf 2 x = ⟨256 + x.val, by omega⟩ := Fin.ext (by simp [colOf])
theorem colOf_three (x : Fin 128) : colOf 3 x = ⟨384 + x.val, by omega⟩ := Fin.ext (by simp [colOf])

theorem rowOf_cases {P : Fin 16384 → Prop} (h : ∀ n p, P (rowOf n p)) (i : Fin 16384) : P i :=
  (Fin.ext (by simp only [rowOf]; omega) : rowOf ⟨i.val / 128, by omega⟩ ⟨i.val % 128, by omega⟩ = i) ▸ h _ _

theorem colOf_cases {P : Fin 512 → Prop} (h : ∀ g x, P (colOf g x)) (l : Fin 512) : P l :=
  (Fin.ext (by simp only [colOf]; omega) : colOf ⟨l.val / 128, by omega⟩ ⟨l.val % 128, by omega⟩ = l) ▸ h _ _

/-- The groups' weights. -/
abbrev Weights : Type := (⟨3, ![4, 128, 128]⟩ : Shape).Idx → EReal

section

variable (ct : Mat 16384 512) (p : Mat 16384 7296) (g b : Mat 1 512) (w : Weights)

/-- The gate's first half. -/
def gateU (i : Fin 16384) (l : Fin 512) : EReal := gelu (p (ix2 i ⟨3072 + l.val, by omega⟩))

/-- The gate's second half, normalised. -/
def gateXhat (i : Fin 16384) (l : Fin 512) : EReal := xhat w512 (fun l : Fin 512 => gelu (p (ix2 i ⟨3584 + l.val, by omega⟩))) l

/-- The norm's output. -/
def gateNorm (i : Fin 16384) (l : Fin 512) : EReal := gateXhat p i l * g (ix2 0 l) + b (ix2 0 l)

/-- The cotangent of the mixed rows. -/
def dMix (i : Fin 16384) (l : Fin 512) : EReal := ct (ix2 i l) * gateU p i l

/-- The cotangent of the norm's output, at a chunk's row and a group's column. -/
def dNormAt (n q : Fin 128) (s : Fin 4) (x : Fin 128) : EReal :=
  ∑ r : Fin 128, Scalar.select (reads r q) (w (ix3 s r q) * dMix ct p (rowOf n r) (colOf s x)) 0

/-- The cotangent of the norm's output. -/
def dNorm (i : Fin 16384) (l : Fin 512) : EReal :=
  dNormAt ct p w ⟨i.val / 128, by omega⟩ ⟨i.val % 128, by omega⟩ ⟨l.val / 128, by omega⟩ ⟨l.val % 128, by omega⟩

theorem dNorm_at (n q : Fin 128) (s : Fin 4) (x : Fin 128) : dNorm ct p w (rowOf n q) (colOf s x) = dNormAt ct p w n q s x := by
  unfold dNorm rowOf colOf
  congr 1
  all_goals exact Fin.ext (by dsimp only; omega)

/-- The gradient of the norm's scale. -/
def dGain (l : Fin 512) : EReal := ∑ i, dNorm ct p w i l * gateXhat p i l

/-- The gradient of the norm's shift. -/
def dShift (l : Fin 512) : EReal := ∑ i, dNorm ct p w i l

/-- A chunk's part of the gradient of a weight. -/
def dWeightAt (n : Fin 128) (s : Fin 4) (r q : Fin 128) : EReal :=
  ∑ x : Fin 128, dMix ct p (rowOf n r) (colOf s x) * gateNorm p g b (rowOf n q) (colOf s x)

/-- The gradient of the weights. -/
def dWeight (s : Fin 4) (r q : Fin 128) : EReal := Scalar.select (reads r q) (∑ n, dWeightAt ct p g b n s r q) 0

/-- A chunk's part of the gradient of a group's bias at a position. -/
def dBiasAt (n : Fin 128) (s : Fin 4) (r : Fin 128) : EReal := ∑ x : Fin 128, dMix ct p (rowOf n r) (colOf s x)

/-- The gradient of the biases, a group in each of the first four columns. -/
def dBias (r y : Fin 128) : EReal := ∑ n, ∑ s : Fin 4, if y.val = s.val then dBiasAt ct p n s r else 0

end

/-- A group's column is told from the others by its number. -/
theorem place_eq (y : Fin 128) (s : Fin 4) (v : EReal) :
    Scalar.select (IntOp.cmpi .eq (BitVec.ofNat 32 y.val) (BitVec.ofNat 32 s.val)) v (0 : EReal) = if y.val = s.val then v else 0 := by
  have e : ∀ (y : Fin 128) (s : Fin 4), IntOp.cmpi .eq (BitVec.ofNat 32 y.val) (BitVec.ofNat 32 s.val) = if y.val = s.val then 1#1 else 0#1 := by
    decide +kernel
  rw [e]
  by_cases h : y.val = s.val
  · rw [if_pos h, if_pos h]; rfl
  · rw [if_neg h, if_neg h]; rfl

/-- A choice against zero comes out of a sum. -/
theorem sum_select {n : ℕ} (c : BitVec 1) (f : Fin n → EReal) :
    ∑ i, Scalar.select c (f i) (0 : EReal) = Scalar.select c (∑ i, f i) (0 : EReal) := by
  by_cases h : c = 1#1
  · subst h; rfl
  · have e : ∀ v : EReal, Scalar.select c v (0 : EReal) = 0 := fun v => if_neg h
    simp only [e, Finset.sum_const_zero]

end Cert.Step

end
-- ==== Proof.SguBwd.lean ====
/-
  The spatial gate's backward call: its arrays are the gradients of the norm's scale and shift, of the groups' weights and of
  their biases.

  The grid is 32 points of 512 rows, which are four chunks. Each point adds its chunks to the four sums, which the first point
  has set to zero and the last one writes back.
-/
module

public import Idealize.ShloMosaic.Lib.Pipeline.ValueKit
public import Idealize.ShloMosaic.Lib.StableHlo.ReadAt
public import proofs.«01_k».proof.Proof.Sgu
public import proofs.«01_k».proof.Proof.Gen.Kernel13Ideal.Value

@[expose] public section

set_option maxRecDepth 16384

noncomputable section

namespace Cert.Kernel13Ideal.Gate

open Cert.Kernel13Ideal Cert.Kernel13Ideal.Gen Cert.Step
open Idealize Idealize.ShloMosaic Idealize.ShloMosaic.TcCoe Idealize.SL Idealize.SL.Sem

variable (m : (ℓ : Loc nD τ sig) → Buf (Elt Ideal) ℓ)

abbrev ct (c : Dev nD) : Mat 16384 512 := m ((c : Thread nD τ).loc main_arg0)
abbrev p (c : Dev nD) : Mat 16384 7296 := m ((c : Thread nD τ).loc main_arg1)
abbrev g (c : Dev nD) : Mat 1 512 := m ((c : Thread nD τ).loc main_arg2)
abbrev b (c : Dev nD) : Mat 1 512 := m ((c : Thread nD τ).loc main_arg3)
abbrev w (c : Dev nD) : Weights := m ((c : Thread nD τ).loc main_arg4)

/-- The row of the arrays at a point's row. -/
def row (t : Fin cfg0.N) (r : Fin 512) : Fin 16384 := ⟨t.val % 32 * 512 + r.val, by idx_bounds; omega⟩

/-- The chunk of the arrays at a point's chunk. -/
def chunk (t : Fin cfg0.N) (k : Fin 4) : Fin 128 := ⟨t.val % 32 * 4 + k.val, by idx_bounds; omega⟩

/-- A point's rows are its chunks' rows. -/
theorem row_colOf (t : Fin cfg0.N) (k : Fin 4) (r : Fin 128) : row t (colOf k r) = rowOf (chunk t k) r :=
  Fin.ext (by simp only [row, colOf, rowOf, chunk]; omega)

theorem blk0 (c : Dev nD) (t : Fin cfg0.N) (r l : Fin 512) : iblk m c 0 t (ix2 r l) = ct m c (ix2 (row t r) l) := by
  have e : ∀ t : Fin cfg0.N, win0_0.index t = ![t.val % 32, 0] := (by decide +kernel : ∀ t : Fin grid0.N, _)
  blk_simp [iblk]
  rw [V_main_arg0]
  unfold row
  blk_ext [e]

theorem blk1 (c : Dev nD) (t : Fin cfg0.N) (r : Fin 512) (l : Fin 1024) :
    X0_1 m c t (ix2 r l) = p m c (ix2 (row t r) ⟨3072 + l.val, by omega⟩) := by
  have e : ∀ t : Fin cfg0.N, win0_1.index t = ![t.val % 32, 3] := (by decide +kernel : ∀ t : Fin grid0.N, _)
  unfold X0_1 Pipeline.Window.fill
  rw [dif_pos (moved0_1 t _)]
  blk_simp [iblk]
  rw [V_main_arg1]
  unfold row
  blk_ext [e]

theorem blk2 (c : Dev nD) (t : Fin cfg0.N) (l : Fin 512) : iblk m c 2 t (ix2 0 l) = g m c (ix2 0 l) := by
  have e : ∀ t : Fin cfg0.N, win0_2.index t = ![0, 0] := (by decide +kernel : ∀ t : Fin grid0.N, _)
  blk_simp [iblk]
  rw [V_main_arg2]
  blk_ext [e]

theorem blk3 (c : Dev nD) (t : Fin cfg0.N) (l : Fin 512) : iblk m c 3 t (ix2 0 l) = b m c (ix2 0 l) := by
  have e : ∀ t : Fin cfg0.N, win0_3.index t = ![0, 0] := (by decide +kernel : ∀ t : Fin grid0.N, _)
  blk_simp [iblk]
  rw [V_main_arg3]
  blk_ext [e]

theorem blk4 (c : Dev nD) (t : Fin cfg0.N) (s : Fin 4) (r q : Fin 128) : iblk m c 4 t (ix3 s r q) = w m c (ix3 s r q) := by
  have e : ∀ t : Fin cfg0.N, win0_4.index t = ![0, 0, 0] := (by decide +kernel : ∀ t : Fin grid0.N, _)
  blk_simp [iblk]
  rw [V_main_arg4]
  blk_ext [e]

/-- A group of the weights' block. -/
theorem weight (c : Dev nD) (t : Fin cfg0.N) (s : Fin 4) (inb) (r q : Fin 128) :
    View.ld (iblk m c 4 t) (Rect.unit ![s.val, 0, 0] ![1, 128, 128] inb) (ix3 0 r q) = w m c (ix3 s r q) := by
  rw [← blk4 m c t s r q]
  pointwise

/-! ## A point's rows -/

theorem u_pay (c : Dev nD) (t : Fin cfg0.N) (r l : Fin 512) : k0_pay9 (F := Ideal) (X0_1 m c t) (ix2 r l) = gateU (p m c) (row t r) l := by
  pointwise [k0_pay9, k0_pay7, k0_pay6]
  simp only [blk1]
  rfl

theorem cen_pay (c : Dev nD) (t : Fin cfg0.N) (r l : Fin 512) :
    k0_pay10 (F := Ideal) (X0_1 m c t) (ix2 r l)
      = cen w512 (fun l : Fin 512 => gelu (p m c (ix2 (row t r) ⟨3584 + l.val, by omega⟩))) l := by
  have e : ∀ l : Fin 512, X0_1 m c t (ix2 r ⟨512 + l.val, by omega⟩) = p m c (ix2 (row t r) ⟨3584 + l.val, by omega⟩) := fun l =>
    (blk1 m c t r _).trans (congrArg (fun j => p m c (ix2 _ j)) (Fin.ext (by dsimp only; omega)))
  pointwise [k0_pay10, k0_pay8, k0_pay6]
  simp only [e]
  rfl

theorem xhat_pay (c : Dev nD) (t : Fin cfg0.N) (r l : Fin 512) :
    k0_pay13 (F := Ideal) (k0_pay10 (X0_1 m c t)) (k0_pay11 (X0_1 m c t)) (FloatOps.ofBits FTy.f32 0x44000000#32) (ix2 r l)
      = gateXhat (p m c) (row t r) l := by
  pointwise [k0_pay13, k0_pay12, k0_pay11]
  simp only [cen_pay]
  rfl

theorem norm_pay (c : Dev nD) (t : Fin cfg0.N) (r l : Fin 512) :
    k0_pay14 (F := Ideal) (k0_pay10 (X0_1 m c t)) (k0_pay11 (X0_1 m c t)) (FloatOps.ofBits FTy.f32 0x44000000#32)
        (iblk m c 2 t) (iblk m c 3 t) (ix2 r l)
      = gateNorm (p m c) (g m c) (b m c) (row t r) l := by
  pointwise [k0_pay14]
  exact congrArg₂ (· + ·) (congrArg₂ (· * ·) (xhat_pay m c t r l) (blk2 m c t l)) (blk3 m c t l)

theorem mix_pay (c : Dev nD) (t : Fin cfg0.N) (r l : Fin 512) :
    k0_pay36 (F := Ideal) (k0_pay9 (X0_1 m c t)) (iblk m c 0 t) (ix2 r l) = dMix (ct m c) (p m c) (row t r) l := by
  pointwise [k0_pay36]
  rw [u_pay, blk0]
  rfl

theorem mix_eq (c : Dev nD) (t : Fin cfg0.N) (r l : Fin 512) :
    HMul.hMul (α := EReal) (β := EReal) (γ := EReal) (iblk m c 0 t (ix2 r l)) (k0_pay9 (F := Ideal) (X0_1 m c t) (ix2 r l)) = dMix (ct m c) (p m c) (row t r) l := by
  rw [u_pay, blk0]
  rfl

/-! ## The payloads' arguments at a point -/

abbrev tileU (c : Dev nD) (t : Fin cfg0.N) : FVec Ideal S512x512 .f32 := k0_pay9 (X0_1 m c t)
abbrev tileD (c : Dev nD) (t : Fin cfg0.N) : FVec Ideal S512x512 .f32 := k0_pay36 (tileU m c t) (iblk m c 0 t)
abbrev tileV (c : Dev nD) (t : Fin cfg0.N) : FVec Ideal S512x512 .f32 :=
  k0_pay14 (k0_pay10 (X0_1 m c t)) (k0_pay11 (X0_1 m c t)) (FloatOps.ofBits FTy.f32 0x44000000#32) (iblk m c 2 t) (iblk m c 3 t)
abbrev rows0 : IVec S128x128 32 := iota .tc S128x128 32 [0] iota_S128x128_d0_w32
abbrev rows1 : IVec S128x128 32 := iota .tc S128x128 32 [1] iota_S128x128_d1_w32

/-- A block that holds a group's weight. -/
def Holds (c : Dev nD) (s : Fin 4) (x : Vec Ideal S1x128x128 .f32) : Prop := ∀ r q : Fin 128, x (ix3 0 r q) = w m c (ix3 s r q)

theorem of_four {P : Fin 4 → Prop} (h0 : P 0) (h1 : P 1) (h2 : P 2) (h3 : P 3) (k : Fin 4) : P k := by
  fin_cases k
  exacts [h0, h1, h2, h3]

/-! ## The cotangent of the norm's output -/

theorem back2 (q : Fin 128) : 256 + q.val - 128 - 128 = q.val := by omega
theorem back3 (q : Fin 128) : 384 + q.val - 128 - 128 - 128 = q.val := by omega

theorem dn0 (c : Dev nD) (t : Fin cfg0.N) (x : Vec Ideal S1x128x128 .f32) (hx : Holds m c 0 x) (k : Fin 4) (q l : Fin 128) :
    k0_pay57 (F := Ideal) (k0_pay38 x) (k0_pay43 (k0_pay38 x) (k0_pay40 (tileU m c t) (iblk m c 0 t)))
        (k0_pay46 (tileD m c t) (k0_pay38 x)) (k0_pay51 (tileD m c t) (k0_pay38 x)) (k0_pay53 (tileD m c t)) (ix2 (colOf k q) l)
      = dNormAt (ct m c) (p m c) (w m c) (chunk t k) q 0 l := by
  unfold dNormAt
  revert k
  refine of_four ?_ ?_ ?_ ?_
  all_goals
    simp only [colOf_zero, colOf_one, colOf_two, colOf_three]
    pointwise [k0_pay57, k0_pay38, k0_pay43, k0_pay40, k0_pay39, k0_pay46, k0_pay45, k0_pay44, k0_pay51, k0_pay48, k0_pay47, k0_pay53,
      k0_pay52]
    simp (disch := omega) only [dif_neg, dif_pos, back2, back3, Fin.eta, ← colOf_zero, ← colOf_one, ← colOf_two, ← colOf_three,
      mix_pay, mix_eq, row_colOf, hx _ _]

theorem dn1 (c : Dev nD) (t : Fin cfg0.N) (x : Vec Ideal S1x128x128 .f32) (hx : Holds m c 1 x) (k : Fin 4) (q l : Fin 128) :
    k0_pay77 (F := Ideal) (k0_pay58 rows0 rows1 x) (k0_pay64 (k0_pay58 rows0 rows1 x) (k0_pay60 (tileD m c t)))
        (k0_pay67 (tileD m c t) (k0_pay58 rows0 rows1 x)) (k0_pay71 (tileD m c t) (k0_pay58 rows0 rows1 x)) (k0_pay73 (tileD m c t))
        (ix2 (colOf k q) l)
      = dNormAt (ct m c) (p m c) (w m c) (chunk t k) q 1 l := by
  unfold dNormAt
  revert k
  refine of_four ?_ ?_ ?_ ?_
  all_goals
    simp only [colOf_zero, colOf_one, colOf_two, colOf_three]
    pointwise [k0_pay77, k0_pay58, k0_pay64, k0_pay60, k0_pay59, k0_pay67, k0_pay66, k0_pay65, k0_pay71, k0_pay69, k0_pay68, k0_pay73,
      k0_pay72]
    simp (disch := omega) only [dif_neg, dif_pos, back2, back3, Fin.eta, ← colOf_zero, ← colOf_one, ← colOf_two, ← colOf_three,
      mix_pay, row_colOf, hx _ _]

theorem dn2 (c : Dev nD) (t : Fin cfg0.N) (x : Vec Ideal S1x128x128 .f32) (hx : Holds m c 2 x) (k : Fin 4) (q l : Fin 128) :
    k0_pay98 (F := Ideal) (k0_pay78 rows0 rows1 x) (k0_pay84 (k0_pay78 rows0 rows1 x) (k0_pay80 (tileD m c t)))
        (k0_pay87 (tileD m c t) (k0_pay78 rows0 rows1 x)) (k0_pay91 (tileD m c t) (k0_pay78 rows0 rows1 x)) (k0_pay93 (tileD m c t))
        (ix2 (colOf k q) l)
      = dNormAt (ct m c) (p m c) (w m c) (chunk t k) q 2 l := by
  unfold dNormAt
  revert k
  refine of_four ?_ ?_ ?_ ?_
  all_goals
    simp only [colOf_zero, colOf_one, colOf_two, colOf_three]
    pointwise [k0_pay98, k0_pay78, k0_pay84, k0_pay80, k0_pay79, k0_pay87, k0_pay86, k0_pay85, k0_pay91, k0_pay89, k0_pay88, k0_pay93,
      k0_pay92]
    simp (disch := omega) only [dif_neg, dif_pos, back2, back3, Fin.eta, ← colOf_zero, ← colOf_one, ← colOf_two, ← colOf_three,
      mix_pay, row_colOf, hx _ _]

/-- The cotangent of the norm's output, the groups' blocks side by side. -/
theorem dn_tile (c : Dev nD) (t : Fin cfg0.N) (x0 x1 x2 : FVec Ideal S512x128 .f32) (x : Vec Ideal S1x128x128 .f32)
    (h0 : ∀ k q l, x0 (ix2 (colOf k q) l) = dNormAt (ct m c) (p m c) (w m c) (chunk t k) q 0 l)
    (h1 : ∀ k q l, x1 (ix2 (colOf k q) l) = dNormAt (ct m c) (p m c) (w m c) (chunk t k) q 1 l)
    (h2 : ∀ k q l, x2 (ix2 (colOf k q) l) = dNormAt (ct m c) (p m c) (w m c) (chunk t k) q 2 l)
    (hx : Holds m c 3 x) (r l : Fin 512) :
    k0_pay120 (F := Ideal) x0 x1 x2 (k0_pay99 rows0 rows1 x) (k0_pay106 (k0_pay99 rows0 rows1 x) (k0_pay101 (tileD m c t)))
        (k0_pay109 (tileD m c t) (k0_pay99 rows0 rows1 x)) (k0_pay113 (tileD m c t) (k0_pay99 rows0 rows1 x))
        (k0_pay115 (tileD m c t)) (ix2 r l)
      = dNorm (ct m c) (p m c) (w m c) (row t r) l := by
  revert r l
  refine colOf_cases fun k q => colOf_cases fun s l => ?_
  rw [row_colOf, dNorm_at]
  revert s
  refine of_four ?_ ?_ ?_ ?_
  · rw [← h0, colOf_zero]
    pointwise [k0_pay120]
  · rw [← h1, colOf_one]
    pointwise [k0_pay120]
  · rw [← h2, colOf_two]
    pointwise [k0_pay120]
    simp (disch := omega) only [dif_neg, dif_pos, back2, Fin.eta]
  · unfold dNormAt
    revert k
    refine of_four ?_ ?_ ?_ ?_
    all_goals
      simp only [colOf_zero, colOf_one, colOf_two, colOf_three]
      pointwise [k0_pay120, k0_pay99, k0_pay106, k0_pay101, k0_pay100, k0_pay109, k0_pay108, k0_pay107, k0_pay113, k0_pay111, k0_pay110,
        k0_pay115, k0_pay114]
      simp (disch := omega) only [dif_neg, dif_pos, back2, back3, Fin.eta, ← colOf_zero, ← colOf_one, ← colOf_two, ← colOf_three,
        mix_pay, row_colOf, hx _ _]

/-! ## What a point adds -/

/-- A row's part of the gradients of the norm's scale and shift. -/
def term (c : Dev nD) (k : Fin 2) (i : Fin 16384) (l : Fin 512) : EReal :=
  ![dNorm (ct m c) (p m c) (w m c) i l * gateXhat (p m c) i l, dNorm (ct m c) (p m c) (w m c) i l] k

theorem gain_step (c : Dev nD) (t : Fin cfg0.N) (d : FVec Ideal S512x512 .f32)
    (hd : ∀ r l, d (ix2 r l) = dNorm (ct m c) (p m c) (w m c) (row t r) l) (v : Vec Ideal S1x512 .f32) (l : Fin 512) :
    k0_pay125 (F := Ideal) (k0_pay13 (k0_pay10 (X0_1 m c t)) (k0_pay11 (X0_1 m c t)) (FloatOps.ofBits FTy.f32 0x44000000#32)) d v (ix2 0 l)
      = v (ix2 0 l) + ∑ r, term m c 0 (row t r) l := by
  pointwise [k0_pay125]
  refine congrArg (_ + ·) (Finset.sum_congr rfl fun r _ => ?_)
  exact congrArg₂ (· * ·) (hd r l) (xhat_pay m c t r l)

theorem shift_step (c : Dev nD) (t : Fin cfg0.N) (d : FVec Ideal S512x512 .f32)
    (hd : ∀ r l, d (ix2 r l) = dNorm (ct m c) (p m c) (w m c) (row t r) l) (v : Vec Ideal S1x512 .f32) (l : Fin 512) :
    k0_pay1 (F := Ideal) d v (ix2 0 l) = v (ix2 0 l) + ∑ r, term m c 1 (row t r) l := by
  pointwise [k0_pay1]
  simp only [hd]
  rfl

/-- A point's part of the gradient of a group's weights. -/
def partW (c : Dev nD) (t : Fin cfg0.N) (s : Fin 4) (r q : Fin 128) : EReal :=
  Scalar.select (reads r q) (∑ k : Fin 4, dWeightAt (ct m c) (p m c) (g m c) (b m c) (chunk t k) s r q) 0

theorem norm_tile (c : Dev nD) (t : Fin cfg0.N) (r l : Fin 512) :
    tileV m c t (ix2 r l) = gateNorm (p m c) (g m c) (b m c) (row t r) l := norm_pay m c t r l

theorem weight0 (c : Dev nD) (t : Fin cfg0.N) (v : Vec Ideal S1x128x128 .f32) (r q : Fin 128) :
    k0_pay56 (F := Ideal) rows0 rows1 (k0_pay49 (tileV m c t) (tileD m c t) (k0_pay41 (tileU m c t) (tileV m c t) (iblk m c 0 t)))
        (k0_pay54 (tileV m c t) (tileD m c t)) v (ix3 0 r q)
      = v (ix3 0 r q) + partW m c t 0 r q := by
  pointwise [k0_pay56, k0_pay49, k0_pay41, k0_pay54, k0_pay36, k0_pay53, k0_pay52, k0_pay45, k0_pay44, k0_pay48, k0_pay47, k0_pay40, k0_pay39]
  unfold partW
  rw [Fin.sum_univ_four]
  simp only [← colOf_zero, ← colOf_one, ← colOf_two, ← colOf_three, mix_eq, norm_pay, row_colOf]
  rfl

theorem weight1 (c : Dev nD) (t : Fin cfg0.N) (v : Vec Ideal S1x128x128 .f32) (r q : Fin 128) :
    k0_pay76 (F := Ideal) rows0 rows1 (k0_pay74 (tileV m c t) (tileD m c t) (k0_pay61 (tileV m c t) (tileD m c t))) v (ix3 0 r q)
      = v (ix3 0 r q) + partW m c t 1 r q := by
  pointwise [k0_pay76, k0_pay74, k0_pay61, k0_pay60, k0_pay59, k0_pay66, k0_pay65, k0_pay69, k0_pay68, k0_pay73, k0_pay72]
  unfold partW
  rw [Fin.sum_univ_four]
  simp only [← colOf_zero, ← colOf_one, ← colOf_two, ← colOf_three, mix_pay, norm_pay, row_colOf]
  rfl

theorem weight2 (c : Dev nD) (t : Fin cfg0.N) (v : Vec Ideal S1x128x128 .f32) (r q : Fin 128) :
    k0_pay97 (F := Ideal) rows0 rows1 (k0_pay94 (tileV m c t) (tileD m c t) (k0_pay81 (tileV m c t) (tileD m c t))) v (ix3 0 r q)
      = v (ix3 0 r q) + partW m c t 2 r q := by
  pointwise [k0_pay97, k0_pay94, k0_pay81, k0_pay80, k0_pay79, k0_pay86, k0_pay85, k0_pay89, k0_pay88, k0_pay93, k0_pay92]
  unfold partW
  rw [Fin.sum_univ_four]
  simp only [← colOf_zero, ← colOf_one, ← colOf_two, ← colOf_three, mix_pay, norm_pay, row_colOf]
  rfl

theorem weight3 (c : Dev nD) (t : Fin cfg0.N) (v : Vec Ideal S1x128x128 .f32) (r q : Fin 128) :
    k0_pay118 (F := Ideal) rows0 rows1 (k0_pay116 (tileV m c t) (tileD m c t) (k0_pay102 (tileV m c t) (tileD m c t))) v (ix3 0 r q)
      = v (ix3 0 r q) + partW m c t 3 r q := by
  pointwise [k0_pay118, k0_pay116, k0_pay102, k0_pay101, k0_pay100, k0_pay108, k0_pay107, k0_pay111, k0_pay110, k0_pay115, k0_pay114]
  unfold partW
  rw [Fin.sum_univ_four]
  simp only [← colOf_zero, ← colOf_one, ← colOf_two, ← colOf_three, mix_pay, norm_pay, row_colOf]
  rfl

/-- A point's part of the gradient of the biases. -/
def partB (c : Dev nD) (t : Fin cfg0.N) (r y : Fin 128) : EReal :=
  ∑ k : Fin 4, ∑ s : Fin 4, if y.val = s.val then dBiasAt (ct m c) (p m c) (chunk t k) s r else 0

theorem bias_step (c : Dev nD) (t : Fin cfg0.N) (v : Vec Ideal S128x128 .f32) (r y : Fin 128) :
    k0_pay119 (F := Ideal) (k0_pay112 (tileD m c t) (k0_pay96 (k0_pay90 (tileD m c t) (k0_pay75 (k0_pay70 (tileD m c t)
        (k0_pay55 (k0_pay50 (tileD m c t) k0_pay37 (k0_pay42 (tileU m c t) (iblk m c 0 t)) rows1 0#32) (k0_pay52 (tileD m c t)))
        (k0_pay62 (tileD m c t)) k0_pay63) (k0_pay72 (tileD m c t))) k0_pay82 (FloatOps.ofBits FTy.f32 0#32) (k0_pay83 (tileD m c t)))
        (k0_pay95 (tileD m c t))) k0_pay103 (k0_pay104 (tileD m c t)) k0_pay105) (k0_pay117 (tileD m c t)) rows1 3#32 v (ix2 r y)
      = v (ix2 r y) + partB m c t r y := by
  pointwise [k0_pay119, k0_pay112, k0_pay96, k0_pay90, k0_pay75, k0_pay70, k0_pay55, k0_pay50, k0_pay37, k0_pay42, k0_pay52, k0_pay62,
    k0_pay63, k0_pay72, k0_pay82, k0_pay83, k0_pay95, k0_pay103, k0_pay104, k0_pay105, k0_pay117, k0_pay39, k0_pay44, k0_pay47, k0_pay59,
    k0_pay65, k0_pay68, k0_pay79, k0_pay85, k0_pay88, k0_pay92, k0_pay100, k0_pay107, k0_pay110, k0_pay114]
  unfold partB
  rw [Finset.sum_comm]
  simp only [Fin.sum_univ_four, ← add_assoc, ← place_eq, ← colOf_zero, ← colOf_one, ← colOf_two, ← colOf_three, mix_pay, mix_eq, row_colOf]
  rfl

/-! ## The sums after a point -/

section Slabs

variable {o : ℕ} (inb : ∀ a, (![o, 0, 0] : Fin 3 → ℕ) a + (![1, 128, 128] : Fin 3 → ℕ) a ≤ S4x128x128.size a)

/-- One group of the weights' array. -/
abbrev slab : Rect S4x128x128 := Rect.unit ![o, 0, 0] ![1, 128, 128] inb

theorem slab_emb (s : Fin 4) (h : s.val = o) (r q : Fin 128) :
    (slab inb).emb (ix3 0 r q : S1x128x128.Idx) = (ix3 s r q : S4x128x128.Idx) := by
  funext a
  apply Fin.ext
  refine (ValueKit.rect_emb_unit_val _ _ inb _ a).trans ?_
  match a with
  | ⟨0, _⟩ => exact h.symm
  | ⟨1, _⟩ => exact Nat.zero_add _
  | ⟨2, _⟩ => exact Nat.zero_add _

variable (x : Vec Ideal S1x128x128 .f32) (L : List (View.Piece (Elt Ideal) S4x128x128 .f32))

/-- The last store read at its own group. -/
theorem slab_hit (s : Fin 4) (h : s.val = o) (r q : Fin 128) :
    View.canon ((⟨slab inb, x⟩ : View.Piece (Elt Ideal) S4x128x128 .f32) :: L) (ix3 s r q) = x (ix3 0 r q) := by
  rw [← slab_emb inb s h r q]
  exact View.canon_cons_emb (Val := Elt Ideal) (e := .f32) (slab inb) x L _

/-- The last store passed over at another group. -/
theorem slab_miss (s : Fin 4) (h : s.val ≠ o) (r q : Fin 128) :
    View.canon ((⟨slab inb, x⟩ : View.Piece (Elt Ideal) S4x128x128 .f32) :: L) (ix3 s r q) = View.canon L (ix3 s r q) := by
  refine View.canon_cons_of_not_mem _ L fun hm => h ?_
  have h1 : o ≤ s.val ∧ s.val < o + 1 := (Rect.mem_set_unit (inb := inb)).mp hm 0
  omega

/-- A load of a group reads what the stores left there. -/
theorem slab_load {sig : RefSig} {sp : Space} (v : View sig .tc sp S4x128x128 .f32) (s : Fin 4) (h : s.val = o) (r q : Fin 128) :
    v.readCov L (slab inb).toLoadRect (ix3 0 r q : S1x128x128.Idx) = View.canon L (ix3 s r q) := by
  rw [View.readCov_eq_canon']
  exact congrArg _ (slab_emb inb s h r q)

/-- A load of a group of what the point before has left. -/
theorem slab_ld (y : Vec Ideal S4x128x128 .f32) (s : Fin 4) (h : s.val = o) (r q : Fin 128) :
    View.ld y (slab inb) (ix3 0 r q : S1x128x128.Idx) = y (ix3 s r q) :=
  congrArg y (slab_emb inb s h r q)

end Slabs

/-- The zeros that the first point stores. -/
theorem zero_canon (inb) (L : List (View.Piece (Elt Ideal) S4x128x128 .f32)) (s : Fin 4) (r q : Fin 128) :
    View.canon ((⟨Rect.unit ![0, 0, 0] ![4, 128, 128] inb, k0_pay4 (F := Ideal)⟩ : View.Piece (Elt Ideal) S4x128x128 .f32) :: L)
        (ix3 s r q) = 0 := by
  have e : (Rect.unit ![0, 0, 0] ![4, 128, 128] inb : Rect S4x128x128).emb (ix3 s r q : S4x128x128.Idx) = ix3 s r q := by
    funext a
    apply Fin.ext
    refine (ValueKit.rect_emb_unit_val _ _ inb _ a).trans ?_
    match a with
    | ⟨0, _⟩ => exact Nat.zero_add _
    | ⟨1, _⟩ => exact Nat.zero_add _
    | ⟨2, _⟩ => exact Nat.zero_add _
  rw [← e]
  refine (View.canon_cons_emb (Val := Elt Ideal) (e := .f32) _ _ L _).trans ?_
  pointwise [k0_pay4]

/-- The norm's two sums after a point. -/
def accN (c : Dev nD) (n : ℕ) (hn : n < cfg0.N) (q : Fin 2 × Fin 512) : EReal :=
  ![(outsAt0 (F := Ideal) m c n hn).2.1 (ix2 0 q.2), (outsAt0 (F := Ideal) m c n hn).2.2.1 (ix2 0 q.2)] q.1

/-- One point's part of them. -/
def partN (c : Dev nD) (t : Fin cfg0.N) (q : Fin 2 × Fin 512) : EReal := ∑ r : Fin 512, term m c q.1 (row t r) q.2

theorem accN_A (c : Dev nD) (t : Fin cfg0.N) (ht : t.val % 32 = 0) (q : Fin 2 × Fin 512) :
    accN m c t.val t.isLt q = 0 + partN m c t q := by
  obtain ⟨k, l⟩ := q
  unfold accN
  rw [Gen.outsAt0_A m c t ht]
  fin_cases k
  · frame_out
    refine (gain_step m c t _ (dn_tile m c t _ _ _ _ (dn0 m c t _ (weight m c t 0 _)) (dn1 m c t _ (weight m c t 1 _))
      (dn2 m c t _ (weight m c t 2 _)) (weight m c t 3 _)) _ l).trans (congrArg (· + _) ?_)
    pointwise [k0_pay2]
  · frame_out
    refine (shift_step m c t _ (dn_tile m c t _ _ _ _ (dn0 m c t _ (weight m c t 0 _)) (dn1 m c t _ (weight m c t 1 _))
      (dn2 m c t _ (weight m c t 2 _)) (weight m c t 3 _)) _ l).trans (congrArg (· + _) ?_)
    pointwise [k0_pay3]

theorem accN_B (c : Dev nD) (t : Fin cfg0.N) (ht : ¬ t.val % 32 = 0) (q : Fin 2 × Fin 512) :
    accN m c t.val t.isLt q = accN m c (t.val - 1) (Nat.lt_of_le_of_lt (Nat.sub_le _ _) t.isLt) q + partN m c t q := by
  obtain ⟨k, l⟩ := q
  unfold accN
  rw [Gen.outsAt0_B m c t ht]
  fin_cases k
  · frame_out
    exact gain_step m c t _ (dn_tile m c t _ _ _ _ (dn0 m c t _ (weight m c t 0 _)) (dn1 m c t _ (weight m c t 1 _))
      (dn2 m c t _ (weight m c t 2 _)) (weight m c t 3 _)) _ l
  · frame_out
    exact shift_step m c t _ (dn_tile m c t _ _ _ _ (dn0 m c t _ (weight m c t 0 _)) (dn1 m c t _ (weight m c t 1 _))
      (dn2 m c t _ (weight m c t 2 _)) (weight m c t 3 _)) _ l

/-- The weights' sum after a point. -/
def accW (c : Dev nD) (n : ℕ) (hn : n < cfg0.N) (j : Fin 4 × Fin 128 × Fin 128) : EReal :=
  (outsAt0 (F := Ideal) m c n hn).2.2.2.1 (ix3 j.1 j.2.1 j.2.2)

theorem accW_A (c : Dev nD) (t : Fin cfg0.N) (ht : t.val % 32 = 0) (j : Fin 4 × Fin 128 × Fin 128) :
    accW m c t.val t.isLt j = 0 + partW m c t j.1 j.2.1 j.2.2 := by
  obtain ⟨s, r, q⟩ := j
  unfold accW
  rw [Gen.outsAt0_A m c t ht]
  frame_out
  revert s
  refine of_four ?_ ?_ ?_ ?_
  · refine (slab_miss _ _ _ 0 (by decide) r q).trans ((slab_miss _ _ _ 0 (by decide) r q).trans ((slab_miss _ _ _ 0 (by decide) r q).trans
      ((slab_hit _ _ _ 0 rfl r q).trans ((weight0 m c t _ r q).trans (congrArg (· + _) ?_)))))
    exact (slab_load _ _ _ 0 rfl r q).trans (zero_canon _ _ 0 r q)
  · refine (slab_miss _ _ _ 1 (by decide) r q).trans ((slab_miss _ _ _ 1 (by decide) r q).trans
      ((slab_hit _ _ _ 1 rfl r q).trans ((weight1 m c t _ r q).trans (congrArg (· + _) ?_))))
    exact (slab_load _ _ _ 1 rfl r q).trans ((slab_miss _ _ _ 1 (by decide) r q).trans (zero_canon _ _ 1 r q))
  · refine (slab_miss _ _ _ 2 (by decide) r q).trans
      ((slab_hit _ _ _ 2 rfl r q).trans ((weight2 m c t _ r q).trans (congrArg (· + _) ?_)))
    exact (slab_load _ _ _ 2 rfl r q).trans ((slab_miss _ _ _ 2 (by decide) r q).trans ((slab_miss _ _ _ 2 (by decide) r q).trans
      (zero_canon _ _ 2 r q)))
  · refine (slab_hit _ _ _ 3 rfl r q).trans ((weight3 m c t _ r q).trans (congrArg (· + _) ?_))
    exact (slab_load _ _ _ 3 rfl r q).trans ((slab_miss _ _ _ 3 (by decide) r q).trans ((slab_miss _ _ _ 3 (by decide) r q).trans
      ((slab_miss _ _ _ 3 (by decide) r q).trans (zero_canon _ _ 3 r q))))

theorem accW_B (c : Dev nD) (t : Fin cfg0.N) (ht : ¬ t.val % 32 = 0) (j : Fin 4 × Fin 128 × Fin 128) :
    accW m c t.val t.isLt j
      = accW m c (t.val - 1) (Nat.lt_of_le_of_lt (Nat.sub_le _ _) t.isLt) j + partW m c t j.1 j.2.1 j.2.2 := by
  obtain ⟨s, r, q⟩ := j
  unfold accW
  rw [Gen.outsAt0_B m c t ht]
  frame_out
  revert s
  refine of_four ?_ ?_ ?_ ?_
  · exact (slab_miss _ _ _ 0 (by decide) r q).trans ((slab_miss _ _ _ 0 (by decide) r q).trans ((slab_miss _ _ _ 0 (by decide) r q).trans
      ((slab_hit _ _ _ 0 rfl r q).trans ((weight0 m c t _ r q).trans (congrArg (· + _) (slab_ld _ _ 0 rfl r q))))))
  · exact (slab_miss _ _ _ 1 (by decide) r q).trans ((slab_miss _ _ _ 1 (by decide) r q).trans
      ((slab_hit _ _ _ 1 rfl r q).trans ((weight1 m c t _ r q).trans (congrArg (· + _) (slab_ld _ _ 1 rfl r q)))))
  · exact (slab_miss _ _ _ 2 (by decide) r q).trans
      ((slab_hit _ _ _ 2 rfl r q).trans ((weight2 m c t _ r q).trans (congrArg (· + _) (slab_ld _ _ 2 rfl r q))))
  · exact (slab_hit _ _ _ 3 rfl r q).trans ((weight3 m c t _ r q).trans (congrArg (· + _) (slab_ld _ _ 3 rfl r q)))

/-- The biases' sum after a point. -/
def accB (c : Dev nD) (n : ℕ) (hn : n < cfg0.N) (j : Fin 128 × Fin 128) : EReal :=
  (outsAt0 (F := Ideal) m c n hn).2.2.2.2 (ix2 j.1 j.2)

theorem accB_A (c : Dev nD) (t : Fin cfg0.N) (ht : t.val % 32 = 0) (j : Fin 128 × Fin 128) :
    accB m c t.val t.isLt j = 0 + partB m c t j.1 j.2 := by
  unfold accB
  rw [Gen.outsAt0_A m c t ht]
  frame_out
  refine (bias_step m c t _ _ _).trans (congrArg (· + _) ?_)
  pointwise [k0_pay5]

theorem accB_B (c : Dev nD) (t : Fin cfg0.N) (ht : ¬ t.val % 32 = 0) (j : Fin 128 × Fin 128) :
    accB m c t.val t.isLt j = accB m c (t.val - 1) (Nat.lt_of_le_of_lt (Nat.sub_le _ _) t.isLt) j + partB m c t j.1 j.2 := by
  unfold accB
  rw [Gen.outsAt0_B m c t ht]
  frame_out
  exact bias_step m c t _ _ _

theorem sumN (c : Dev nD) (t : Fin cfg0.N) (ht : t.val % 32 = 31) (q : Fin 2 × Fin 512) :
    accN m c t.val t.isLt q = ∑ i, term m c q.1 i q.2 := by
  refine (Pipeline.eq_sum_fin_of_reset_step_apply_of_flush (accN m c) 32 (fun _ => 0) (partN m c) (accN_A m c) (accN_B m c) t ht q).trans ?_
  rw [zero_add]
  refine sum_runs 32 512 16384 rfl _ _ fun s r hr => ?_
  rw [show row ⟨32 * (t.val / 32) + s.val, Pipeline.run_point_lt_of_flush t ht s⟩ r = ⟨s.val * 512 + r.val, hr⟩ from
    Fin.ext (by simp only [row]; omega)]

theorem sumW (c : Dev nD) (t : Fin cfg0.N) (ht : t.val % 32 = 31) (j : Fin 4 × Fin 128 × Fin 128) :
    accW m c t.val t.isLt j = dWeight (ct m c) (p m c) (g m c) (b m c) j.1 j.2.1 j.2.2 := by
  refine (Pipeline.eq_sum_fin_of_reset_step_apply_of_flush (accW m c) 32 (fun _ => 0) (fun t j => partW m c t j.1 j.2.1 j.2.2)
    (accW_A m c) (accW_B m c) t ht j).trans ?_
  rw [zero_add]
  refine (sum_select _ _).trans (congrArg (fun v => Scalar.select _ v 0) ?_)
  refine sum_runs 32 4 128 rfl _ _ fun s k hk => ?_
  rw [show chunk ⟨32 * (t.val / 32) + s.val, Pipeline.run_point_lt_of_flush t ht s⟩ k = ⟨s.val * 4 + k.val, hk⟩ from
    Fin.ext (by simp only [chunk]; omega)]

theorem sumB (c : Dev nD) (t : Fin cfg0.N) (ht : t.val % 32 = 31) (j : Fin 128 × Fin 128) :
    accB m c t.val t.isLt j = dBias (ct m c) (p m c) j.1 j.2 := by
  refine (Pipeline.eq_sum_fin_of_reset_step_apply_of_flush (accB m c) 32 (fun _ => 0) (fun t j => partB m c t j.1 j.2)
    (accB_A m c) (accB_B m c) t ht j).trans ?_
  rw [zero_add]
  refine sum_runs 32 4 128 rfl _ _ fun s k hk => ?_
  rw [show chunk ⟨32 * (t.val / 32) + s.val, Pipeline.run_point_lt_of_flush t ht s⟩ k = ⟨s.val * 4 + k.val, hk⟩ from
    Fin.ext (by simp only [chunk]; omega)]

/-! ## The arrays -/

/-- The groups' weights' gradient as an array. -/
abbrev weights (c : Dev nD) : Weights := fun i => dWeight (ct m c) (p m c) (g m c) (b m c) (i 0) (i 1) (i 2)

theorem final7 (c : Dev nD) : (dats m 0 c).arrAt 7 cfg0.N = mat (fun _ : Fin 1 => dGain (ct m c) (p m c) (w m c)) := by
  have e : ∀ t : Fin cfg0.N, win0_7.index t = ![0, 0] := (by decide +kernel : ∀ t : Fin grid0.N, _)
  refine (dats m 0 c).arrAt_eq_of_covers 7 _ (by decide +kernel) fun t hf j => ?_
  blk_simp
  rw [after0_7]
  idx_vars j
  obtain rfl : j0 = 0 := Subsingleton.elim _ _
  refine (sumN m c t ((flush0_7 t).mp hf) (0, _)).trans (congrArg (fun j => ∑ i, term m c 0 i j) (Fin.ext ?_))
  blk_simp [e]

theorem final8 (c : Dev nD) : (dats m 0 c).arrAt 8 cfg0.N = mat (fun _ : Fin 1 => dShift (ct m c) (p m c) (w m c)) := by
  have e : ∀ t : Fin cfg0.N, win0_8.index t = ![0, 0] := (by decide +kernel : ∀ t : Fin grid0.N, _)
  refine (dats m 0 c).arrAt_eq_of_covers 8 _ (by decide +kernel) fun t hf j => ?_
  blk_simp
  rw [after0_8]
  idx_vars j
  obtain rfl : j0 = 0 := Subsingleton.elim _ _
  refine (sumN m c t ((flush0_8 t).mp hf) (1, _)).trans (congrArg (fun j => ∑ i, term m c 1 i j) (Fin.ext ?_))
  blk_simp [e]

theorem final9 (c : Dev nD) : (dats m 0 c).arrAt 9 cfg0.N = weights m c := by
  have e : ∀ t : Fin cfg0.N, win0_9.index t = ![0, 0, 0] := (by decide +kernel : ∀ t : Fin grid0.N, _)
  refine (dats m 0 c).arrAt_eq_of_covers 9 _ (by decide +kernel) fun t hf j => ?_
  blk_simp
  rw [after0_9]
  idx_vars j
  refine (sumW m c t ((flush0_9 t).mp hf) (j0, j1, j2)).trans ?_
  congr 1 <;> exact Fin.ext (by blk_simp [e])

theorem final10 (c : Dev nD) : (dats m 0 c).arrAt 10 cfg0.N = mat (dBias (ct m c) (p m c)) := by
  have e : ∀ t : Fin cfg0.N, win0_10.index t = ![0, 0] := (by decide +kernel : ∀ t : Fin grid0.N, _)
  refine (dats m 0 c).arrAt_eq_of_covers 10 _ (by decide +kernel) fun t hf j => ?_
  blk_simp
  rw [after0_10]
  idx_vars j
  refine (sumB m c t ((flush0_10 t).mp hf) (j0, j1)).trans ?_
  congr 1 <;> exact Fin.ext (by blk_simp [e])

end Cert.Kernel13Ideal.Gate

end
-- ==== Proof.SguReference.lean ====
/-
  The gradients of the spatial gate's parameters, as the reference's operations give them, entry by entry.
-/
module

public import Idealize.ShloMosaic.Lib.Pipeline.ValueKit
public import Idealize.ShloMosaic.Lib.StableHlo.ReadAt
public import Idealize.ShloMosaic.Lib.TwoAxisContraction
public import Idealize.ShloMosaic.Lib.IdealHost
public import Idealize.ShloMosaic.Lib.KernelVsHost
public import proofs.«01_k».proof.Proof.Sgu
public import proofs.«01_k».proof.Proof.Gen.Reference13Ideal.Read

@[expose] public section

set_option maxRecDepth 16384

noncomputable section

open Idealize Idealize.ShloMosaic

namespace Cert.Reference13Ideal

open Gen Read Cert.Step

variable (ct : Mat 16384 512) (p : Mat 16384 7296) (g b : Mat 1 512) (w : Weights)

theorem gelu_apply (i : Fin 16384) (l : Fin 1024) : val_main_v14 (F := Ideal) p (ix2 i l) = gelu (p (ix2 i ⟨3072 + l.val, by omega⟩)) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2]
  unfold gelu
  rw [mul_comm (Ideal.ofBits .f32 0x3F000000#32) _]
  ac_rfl

theorem u_apply (i : Fin 16384) (l : Fin 512) : val_main_v15 (F := Ideal) p (ix2 i l) = gateU p i l := by
  pointwise [val_main_v15]
  exact gelu_apply p i _

theorem v_apply (i : Fin 16384) (l : Fin 512) :
    val_main_v16 (F := Ideal) p (ix2 i l) = gelu (p (ix2 i ⟨3584 + l.val, by omega⟩)) := by
  pointwise [val_main_v16]
  refine (gelu_apply p i _).trans (congrArg (fun j => gelu (p (ix2 i j))) (Fin.ext ?_))
  dsimp only
  omega

abbrev second (i : Fin 16384) (l : Fin 512) : EReal := gelu (p (ix2 i ⟨3584 + l.val, by omega⟩))

theorem cen_apply (i : Fin 16384) (l : Fin 512) : val_main_v22 (F := Ideal) p (ix2 i l) = cen w512 (second p i) l := by
  pointwise [val_main_v22, val_main_v21, val_main_v20, val_main_v19, val_main_v18, val_main_v17, val_main_cst_3, val_main_cst_4]
  simp only [v_apply]
  rfl

theorem cen_apply' (i : Fin 16384) (l : Fin 512) : val_main_v29 (F := Ideal) p (ix2 i l) = cen w512 (second p i) l := by
  pointwise [val_main_v29, val_main_v28, val_main_v20, val_main_v19, val_main_v18, val_main_v17, val_main_cst_3, val_main_cst_4]
  simp only [v_apply]
  rfl

theorem xhat_apply (i : Fin 16384) (l : Fin 512) : val_main_v34 (F := Ideal) p (ix2 i l) = gateXhat p i l := by
  pointwise [val_main_v34, val_main_v33, val_main_v32, val_main_v31, val_main_v30, val_main_v27, val_main_v26, val_main_v25, val_main_v24,
    val_main_v23, val_main_cst_5, val_main_cst_6, val_main_cst_7]
  simp only [cen_apply, cen_apply']
  rfl

theorem norm_apply (i : Fin 16384) (l : Fin 512) : val_main_v38 (F := Ideal) p g b (ix2 i l) = gateNorm p g b i l := by
  pointwise [val_main_v38, val_main_v37, val_main_v36, val_main_v35]
  rw [xhat_apply]
  rfl

theorem mix_apply (i : Fin 16384) (l : Fin 512) : val_main_v49 (F := Ideal) ct p (ix2 i l) = dMix ct p i l := by
  pointwise [val_main_v49]
  rw [u_apply]
  exact mul_comm _ _

theorem mix4_apply (n r : Fin 128) (s : Fin 4) (x : Fin 128) :
    val_main_v50 (F := Ideal) ct p (ix4 n r s x) = dMix ct p (rowOf n r) (colOf s x) := by
  pointwise [val_main_v50]
  exact mix_apply ct p _ _

theorem mask_apply (s : Fin 4) (r q : Fin 128) : val_main_v40_1 (F := Ideal) (ix3 s r q) = reads r q := by
  pointwise [val_main_v40_1, val_main_call0_v4, val_main_call0_v3, val_main_call0_v2, val_main_call0_v1, val_main_call0_v0, val_main_call0_c]
  exact congrArg (fun v => IntOp.cmpi .sge v _) (BitVec.add_zero _)

theorem tril_apply (s : Fin 4) (r q : Fin 128) : val_main_v40_0 (F := Ideal) w (ix3 s r q) = Scalar.select (reads r q) (w (ix3 s r q)) 0 := by
  pointwise [val_main_v40_0, val_main_call0_v6, val_main_call0_cst]
  rw [mask_apply]

theorem norm4_apply (n q : Fin 128) (s : Fin 4) (x : Fin 128) :
    val_main_v39 (F := Ideal) p g b (ix4 n q s x) = gateNorm p g b (rowOf n q) (colOf s x) := by
  pointwise [val_main_v39]
  exact norm_apply p g b _ _

/-- A factor goes into a choice against zero. -/
theorem mul_select (c : BitVec 1) (x y : EReal) : x * Scalar.select c y (0 : EReal) = Scalar.select c (y * x) (0 : EReal) := by
  by_cases h : c = 1#1
  · subst h
    exact mul_comm x y
  · have e : ∀ v : EReal, Scalar.select c v (0 : EReal) = 0 := fun v => if_neg h
    rw [e, e, mul_zero]

theorem dn_apply (i : Fin 16384) (l : Fin 512) : val_main_v60 (F := Ideal) ct p w (ix2 i l) = dNorm ct p w i l := by
  pointwise [val_main_v60, val_main_v58, val_main_v57, val_main_v55]
  simp only [tril_apply, mix4_apply, mul_select]
  rfl

theorem result1 : val_main_v62 (F := Ideal) ct p w = mat (fun _ : Fin 1 => dShift ct p w) := by
  funext i
  idx_vars i
  obtain rfl : i0 = 0 := Subsingleton.elim _ _
  pointwise [val_main_v62, val_main_v61, val_main_cst_10]
  exact Finset.sum_congr rfl fun _ _ => dn_apply ct p w _ _

theorem result0 : val_main_v65 (F := Ideal) ct p w = mat (fun _ : Fin 1 => dGain ct p w) := by
  funext i
  idx_vars i
  obtain rfl : i0 = 0 := Subsingleton.elim _ _
  pointwise [val_main_v65, val_main_v64, val_main_v63, val_main_cst_11]
  exact Finset.sum_congr rfl fun _ _ => (congrArg₂ (· * ·) (xhat_apply p _ _) (dn_apply ct p w _ _)).trans (mul_comm _ _)

/-! ## The weights -/

theorem dot_apply (x : FVec Ideal S4x128x128x128 .f32) (y : FVec Ideal S128x128x4x128 .f32) (s : Fin 4) (r q : Fin 128) :
    Host.dotGeneral dot_S4x128x128x128_S128x128x4x128_S4x128x128_12_03_3_1_0_2 none x y (ix3 s r q)
      = ∑ n : Fin 128, ∑ l : Fin 128, x (ix4 s n l r) * y (ix4 n q s l) := by
  simp only [Host.dotGeneral]
  rw [Ideal.dotGeneral_apply, ValueIdx.sum_contr2 dot_S4x128x128x128_S128x128x4x128_S4x128x128_12_03_3_1_0_2 128 128 rfl rfl rfl]
  refine Finset.sum_congr rfl fun n _ => Finset.sum_congr rfl fun l _ => ?_
  have h0 := ValueIdx.contrEquiv2_symm_val0 dot_S4x128x128x128_S128x128x4x128_S4x128x128_12_03_3_1_0_2 128 128 rfl rfl rfl (n, l)
  have h1 := ValueIdx.contrEquiv2_symm_val1 dot_S4x128x128x128_S128x128x4x128_S4x128x128_12_03_3_1_0_2 128 128 rfl rfl rfl (n, l)
  refine congrArg₂ (· * ·) (congrArg x (funext fun a => Fin.ext ?_)) (congrArg y (funext fun a => Fin.ext ?_))
  · unfold DotDims.lhsIdx
    match a with
    | ⟨0, _⟩ => rfl
    | ⟨1, _⟩ => exact h0
    | ⟨2, _⟩ => exact h1
    | ⟨3, _⟩ => rfl
  · unfold DotDims.rhsIdx
    match a with
    | ⟨0, _⟩ => exact h0
    | ⟨1, _⟩ => rfl
    | ⟨2, _⟩ => rfl
    | ⟨3, _⟩ => exact h1

theorem result2 : val_main_v59 (F := Ideal) ct p g b = fun i => dWeight ct p g b (i 0) (i 1) (i 2) := by
  funext i
  idx_vars i
  pointwise [val_main_v59, val_main_call1_v0, val_main_call1_cst]
  unfold val_main_v56
  rw [mask_apply, dot_apply]
  refine congrArg (fun v => Scalar.select _ v 0) (Finset.sum_congr rfl fun n _ => Finset.sum_congr rfl fun l _ => ?_)
  refine congrArg₂ (· * ·) ?_ (norm4_apply p g b _ _ _ _)
  pointwise [val_main_v55]
  exact mix4_apply ct p _ _ _ _

/-! ## The biases -/

section Ends

variable {n0 n1 n2 n3 : ℕ} (h : (⟨4, ![n0, n1, n2, n3]⟩ : Shape).ReducesTo [0, 3] ⟨2, ![n1, n2]⟩)

/-- The entries that a sum along the first and the last axis adds up. -/
theorem ends_fiber (i : Fin n1) (j : Fin n2) (k : (⟨4, ![n0, n1, n2, n3]⟩ : Shape).Idx) :
    h.drop k = ix2 i j ↔ ∃ a : Fin n0 × Fin n3, ix4 a.1 i j a.2 = k := by
  constructor
  · intro e
    refine ⟨(k 0, k 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨a, rfl⟩
    refine funext fun a => Fin.ext ?_
    match a with
    | ⟨0, _⟩ => rfl
    | ⟨1, _⟩ => rfl

theorem ends_apply (v : (⟨4, ![n0, n1, n2, n3]⟩ : Shape).Idx → EReal) (init : EReal) (i : Fin n1) (j : Fin n2) :
    Ideal.hostReduceAdd h v init (ix2 i j) = init + ∑ a : Fin n0, ∑ d : Fin n3, v (ix4 a i j d) := by
  refine congrArg (init + ·) ((Finset.sum_filter_eq_sum_of_fiber _ (fun a : Fin n0 × Fin n3 => ix4 a.1 i j a.2)
    (fun _ _ e => Prod.ext (congrFun e 0) (congrFun e 3)) (ends_fiber h i j) v).trans ?_)
  exact Fintype.sum_prod_type _

end Ends

/-- A bias's gradient, a group and a position. -/
theorem bias_apply (r : Fin 128) (s : Fin 4) : val_main_v51 (F := Ideal) ct p (ix2 r s) = ∑ n, dBiasAt ct p n s r := by
  unfold val_main_v51
  rw [ValueIdx.hostReduceAdd_apply, ends_apply]
  simp only [mix4_apply]
  pointwise [val_main_cst_8]
  rfl

theorem bias2_apply (r : Fin 128) (s : Fin 4) : val_main_v53 (F := Ideal) ct p (ix2 r s) = ∑ n, dBiasAt ct p n s r := by
  unfold val_main_v53
  rw [ValueIdx.hostReduceAdd_apply, ends_apply]
  pointwise [val_main_cst_9, val_main_v52]
  simp only [Fin.sum_univ_one]
  exact bias_apply ct p r s

/-- Only a group's own column holds its bias's gradient. -/
theorem bias_column (r y : Fin 128) : dBias ct p r y = if h : y.val < 4 then ∑ n, dBiasAt ct p n ⟨y.val, h⟩ r else 0 := by
  unfold dBias
  by_cases h : y.val < 4
  · rw [dif_pos h]
    refine Finset.sum_congr rfl fun n _ => ?_
    refine (Finset.sum_eq_single (⟨y.val, h⟩ : Fin 4) (fun s _ hs => if_neg fun e => hs (Fin.ext e.symm)) (fun h => absurd (Finset.mem_univ _) h)).trans ?_
    exact if_pos rfl
  · rw [dif_neg h]
    exact Finset.sum_eq_zero fun n _ => Finset.sum_eq_zero fun s _ => if_neg (by omega)

theorem result3 : val_main_v67 (F := Ideal) ct p = mat (dBias ct p) := by
  funext i
  idx_vars i
  refine Eq.trans ?_ (bias_column ct p _ _).symm
  pointwise [val_main_v67, val_main_v66, val_main_v54, val_main_call2_v0, val_main_c]
  have e : (FloatOps.sitofp FTy.f32 0#32 : Ideal .f32) = (0 : EReal) := sitofp_zero
  simp only [bias2_apply, e]

end Cert.Reference13Ideal

end
-- ==== Proof.SguClaims.lean ====
/-
  The claims about the spatial gate's parameter gradients: the reference's frame, and that the kernel's four results are the
  reference's, from the two runs.
-/
module

public import proofs.«01_k».proof.Defs
public import proofs.«01_k».proof.Proof.SguBwd
public import proofs.«01_k».proof.Proof.SguReference
public import proofs.«01_k».proof.Proof.Gen.Reference13Ideal.Run
public import Idealize.ShloMosaic.Adequacy
public import Idealize.ShloMosaic.Init

@[expose] public section

set_option maxRecDepth 16384

noncomputable section

namespace Cert.Proof

open Cert.Step
open Idealize Idealize.ShloMosaic Idealize.ShloMosaic.TcCoe Idealize.SL Idealize.SL.Sem
open Cert.Kernel13Ideal.Gate

attribute [local instance] Cert.Kernel13Ideal.Gen.facts Cert.Reference13Ideal.Gen.facts

theorem frame_reference13 : Cert.quiescent_Reference13Ideal := fun m ρ _ =>
  (θ_run Cert.Reference13Ideal.defs _ _).mono
    (fun r h => ⟨fun c => (h c).2.2.2.2, sem_eq_zero_of_no_sems (by decide) r.2⟩) (Cert.Reference13Ideal.Value.run m ρ)

theorem algebraic13 : Cert.algebraic_Kernel13Ideal_Reference13Ideal := fun m ρ m' ρ' _ hag => by
  refine ⟨fun c => mat (fun _ : Fin 1 => dGain (ct m c) (p m c) (w m c)),
    fun c => mat (fun _ : Fin 1 => dShift (ct m c) (p m c) (w m c)),
    fun c => weights m c,
    fun c => mat (dBias (ct m c) (p m c)),
    (θ_run Cert.Kernel13Ideal.defs _ _).mono (fun r h c => ⟨(h c).2.1.trans (final7 m c), (h c).2.2.1.trans (final8 m c),
      (h c).2.2.2.1.trans (final9 m c), (h c).2.2.2.2.1.trans (final10 m c), (h c).2.2.2.2.2⟩)
      (Cert.Kernel13Ideal.Value.run_blocks m ρ),
    (θ_run Cert.Reference13Ideal.defs _ _).mono (fun r h c => ⟨(h c).1.trans ?_, (h c).2.1.trans ?_, (h c).2.2.1.trans ?_,
      (h c).2.2.2.1.trans ?_, (h c).2.2.2.2⟩)
      (Cert.Reference13Ideal.Value.run m' ρ')⟩
  all_goals
    obtain ⟨h0, h1, h2, h3, h4, h5⟩ := hag c
  · rw [Cert.Reference13Ideal.Read.val_main_v65_eq, h0, h1, h4]
    exact Cert.Reference13Ideal.result0 _ _ _
  · rw [Cert.Reference13Ideal.Read.val_main_v62_eq, h0, h1, h4]
    exact Cert.Reference13Ideal.result1 _ _ _
  · rw [Cert.Reference13Ideal.Read.val_main_v59_eq, h0, h1, h2, h3]
    exact Cert.Reference13Ideal.result2 _ _ _ _
  · rw [Cert.Reference13Ideal.Read.val_main_v67_eq, h0, h1]
    exact Cert.Reference13Ideal.result3 _ _

end Cert.Proof

end
-- ==== Proof.SguMix.lean ====
/-
  The spatial gate's output: a chunk's rows mixed by a group's weights, with a bias at each position, times the gate's first half.
-/
module

public import proofs.«01_k».proof.Proof.Sgu

@[expose] public section

noncomputable section

namespace Cert.Step

open Idealize.ShloMosaic

variable (p : Mat 16384 7296) (g b : Mat 1 512) (w : Weights) (bs : Mat 4 128)

/-- The mixed rows, at a chunk's row and a group's column. -/
def mixAt (n r : Fin 128) (s : Fin 4) (x : Fin 128) : EReal :=
  (∑ q : Fin 128, Scalar.select (reads r q) (w (ix3 s r q) * gateNorm p g b (rowOf n q) (colOf s x)) 0) + bs (ix2 s r)

/-- The mixed rows. -/
def mix (i : Fin 16384) (l : Fin 512) : EReal :=
  mixAt p g b w bs ⟨i.val / 128, by omega⟩ ⟨i.val % 128, by omega⟩ ⟨l.val / 128, by omega⟩ ⟨l.val % 128, by omega⟩

theorem mix_at (n r : Fin 128) (s : Fin 4) (x : Fin 128) : mix p g b w bs (rowOf n r) (colOf s x) = mixAt p g b w bs n r s x := by
  unfold mix rowOf colOf
  congr 1
  all_goals exact Fin.ext (by dsimp only; omega)

/-- The gate's output. -/
def gateOut (i : Fin 16384) (l : Fin 512) : EReal := gateU p i l * mix p g b w bs i l

end Cert.Step

end
-- ==== Proof.SguFwd.lean ====
/-
  The spatial gate's forward call: its array is the gate's output.

  The grid is 32 points of 512 rows, which are four chunks of 128. Each point stores its rows at once.
-/
module

public import Idealize.ShloMosaic.Lib.Pipeline.ValueKit
public import Idealize.ShloMosaic.Lib.StableHlo.ReadAt
public import proofs.«01_k».proof.Proof.SguMix
public import proofs.«01_k».proof.Proof.Gen.Kernel18Ideal.Value

@[expose] public section

set_option maxRecDepth 16384

noncomputable section

namespace Cert.Kernel18Ideal.Gate

open Cert.Kernel18Ideal Cert.Kernel18Ideal.Gen Cert.Step
open Idealize Idealize.ShloMosaic Idealize.ShloMosaic.TcCoe Idealize.SL Idealize.SL.Sem

variable (m : (ℓ : Loc nD τ sig) → Buf (Elt Ideal) ℓ)

abbrev p (c : Dev nD) : Mat 16384 7296 := m ((c : Thread nD τ).loc main_arg0)
abbrev g (c : Dev nD) : Mat 1 512 := m ((c : Thread nD τ).loc main_arg1)
abbrev b (c : Dev nD) : Mat 1 512 := m ((c : Thread nD τ).loc main_arg2)
abbrev w (c : Dev nD) : Weights := m ((c : Thread nD τ).loc main_arg3)
abbrev bs (c : Dev nD) : Mat 4 128 := m ((c : Thread nD τ).loc main_arg4)

/-- The row of the arrays at a point's row. -/
def row (t : Fin cfg0.N) (r : Fin 512) : Fin 16384 := ⟨t.val % 32 * 512 + r.val, by idx_bounds; omega⟩

/-- The chunk of the arrays at a point's chunk. -/
def chunk (t : Fin cfg0.N) (k : Fin 4) : Fin 128 := ⟨t.val % 32 * 4 + k.val, by idx_bounds; omega⟩

/-- A point's rows are its chunks' rows. -/
theorem row_colOf (t : Fin cfg0.N) (k : Fin 4) (r : Fin 128) : row t (colOf k r) = rowOf (chunk t k) r :=
  Fin.ext (by simp only [row, colOf, rowOf, chunk]; omega)

/-! ## The blocks -/

theorem blk0 (c : Dev nD) (t : Fin cfg0.N) (r : Fin 512) (l : Fin 1024) :
    X0_0 m c t (ix2 r l) = p m c (ix2 (row t r) ⟨3072 + l.val, by omega⟩) := by
  have e : ∀ t : Fin cfg0.N, win0_0.index t = ![t.val % 32, 3] := (by decide +kernel : ∀ t : Fin grid0.N, _)
  unfold X0_0 Pipeline.Window.fill
  rw [dif_pos (moved0_0 t _)]
  blk_simp [iblk]
  rw [V_main_arg0]
  unfold row
  blk_ext [e]

theorem blk1 (c : Dev nD) (t : Fin cfg0.N) (l : Fin 512) : iblk m c 1 t (ix2 0 l) = g m c (ix2 0 l) := by
  have e : ∀ t : Fin cfg0.N, win0_1.index t = ![0, 0] := (by decide +kernel : ∀ t : Fin grid0.N, _)
  blk_simp [iblk]
  rw [V_main_arg1]
  blk_ext [e]

theorem blk2 (c : Dev nD) (t : Fin cfg0.N) (l : Fin 512) : iblk m c 2 t (ix2 0 l) = b m c (ix2 0 l) := by
  have e : ∀ t : Fin cfg0.N, win0_2.index t = ![0, 0] := (by decide +kernel : ∀ t : Fin grid0.N, _)
  blk_simp [iblk]
  rw [V_main_arg2]
  blk_ext [e]

theorem blk3 (c : Dev nD) (t : Fin cfg0.N) (s : Fin 4) (r q : Fin 128) : iblk m c 3 t (ix3 s r q) = w m c (ix3 s r q) := by
  have e : ∀ t : Fin cfg0.N, win0_3.index t = ![0, 0, 0] := (by decide +kernel : ∀ t : Fin grid0.N, _)
  blk_simp [iblk]
  rw [V_main_arg3]
  blk_ext [e]

/-- The host transposes the biases and pads them to 128 columns. -/
theorem biases (c : Dev nD) (r : Fin 128) (s : Fin 4) : V m c main_v1 (ix2 r ⟨s.val, by omega⟩) = bs m c (ix2 s r) := by
  unfold V
  after_reads_at

theorem blk4 (c : Dev nD) (t : Fin cfg0.N) (r : Fin 128) (s : Fin 4) :
    iblk m c 4 t (ix2 r ⟨s.val, by omega⟩) = bs m c (ix2 s r) := by
  have e : ∀ t : Fin cfg0.N, win0_4.index t = ![0, 0] := (by decide +kernel : ∀ t : Fin grid0.N, _)
  rw [← biases]
  blk_simp [iblk]
  blk_ext [e]

/-- A group of the weights' block. -/
theorem weight (c : Dev nD) (t : Fin cfg0.N) (s : Fin 4) (inb) (r q : Fin 128) :
    View.ld (iblk m c 3 t) (Rect.unit ![s.val, 0, 0] ![1, 128, 128] inb) (ix3 0 r q) = w m c (ix3 s r q) := by
  rw [← blk3 m c t s r q]
  pointwise

/-- A group of the biases' block. -/
theorem bias (c : Dev nD) (t : Fin cfg0.N) (s : Fin 4) (inb) (r : Fin 128) :
    View.ld (iblk m c 4 t) (Rect.unit ![0, s.val] ![128, 1] inb) (ix2 r 0) = bs m c (ix2 s r) := by
  rw [← blk4 m c t r s]
  pointwise

/-! ## A point's rows -/

theorem u_pay (c : Dev nD) (t : Fin cfg0.N) (r l : Fin 512) : k0_pay3 (F := Ideal) (X0_0 m c t) (ix2 r l) = gateU (p m c) (row t r) l := by
  pointwise [k0_pay3, k0_pay2]
  simp only [blk0]
  rfl

theorem cen_pay (c : Dev nD) (t : Fin cfg0.N) (r l : Fin 512) :
    k0_pay4 (F := Ideal) (X0_0 m c t) (ix2 r l)
      = cen w512 (fun l : Fin 512 => gelu (p m c (ix2 (row t r) ⟨3584 + l.val, by omega⟩))) l := by
  have e : ∀ l : Fin 512, X0_0 m c t (ix2 r ⟨512 + l.val, by omega⟩) = p m c (ix2 (row t r) ⟨3584 + l.val, by omega⟩) := fun l =>
    (blk0 m c t r _).trans (congrArg (fun j => p m c (ix2 _ j)) (Fin.ext (by dsimp only; omega)))
  pointwise [k0_pay4, k0_pay2]
  simp only [e]
  rfl

/-- The norm's output, at a point's rows. -/
abbrev tileV (c : Dev nD) (t : Fin cfg0.N) : FVec Ideal S512x512 .f32 :=
  k0_pay6 (k0_pay4 (X0_0 m c t)) (k0_pay5 (X0_0 m c t)) (iblk m c 1 t) (iblk m c 2 t)

theorem norm_pay (c : Dev nD) (t : Fin cfg0.N) (r l : Fin 512) :
    tileV m c t (ix2 r l) = gateNorm (p m c) (g m c) (b m c) (row t r) l := by
  pointwise [tileV, k0_pay6, k0_pay5]
  simp only [cen_pay]
  exact congrArg₂ (· + ·) (congrArg₂ (· * ·) rfl (blk1 m c t l)) (blk2 m c t l)

/-! ## A chunk's rows -/

abbrev rows0 : IVec S128x128 32 := iota .tc S128x128 32 [0] iota_S128x128_d0_w32
abbrev rows1 : IVec S128x128 32 := iota .tc S128x128 32 [1] iota_S128x128_d1_w32

/-- A block that holds a group's weight. -/
def Holds (c : Dev nD) (s : Fin 4) (x : Vec Ideal S1x128x128 .f32) : Prop := ∀ r q : Fin 128, x (ix3 0 r q) = w m c (ix3 s r q)

/-- A block that holds a group's biases. -/
def Shifts (c : Dev nD) (s : Fin 4) (y : Vec Ideal S128x1 .f32) : Prop := ∀ r : Fin 128, y (ix2 r 0) = bs m c (ix2 s r)

theorem of_four {P : Fin 4 → Prop} (h0 : P 0) (h1 : P 1) (h2 : P 2) (h3 : P 3) (k : Fin 4) : P k := by
  fin_cases k
  exacts [h0, h1, h2, h3]

theorem back2 (q : Fin 128) : 256 + q.val - 128 - 128 = q.val := by omega
theorem back3 (q : Fin 128) : 384 + q.val - 128 - 128 - 128 = q.val := by omega

/-- The mixed rows of a chunk. -/
abbrev Mixed (c : Dev nD) (n : Fin 128) (r : Fin 128) (s : Fin 4) (x : Fin 128) : EReal :=
  mixAt (p m c) (g m c) (b m c) (w m c) (bs m c) n r s x

section Chunks

variable (c : Dev nD) (t : Fin cfg0.N) (x0 x1 x2 x3 : Vec Ideal S1x128x128 .f32) (y0 y1 y2 y3 : Vec Ideal S128x1 .f32)
  (hx0 : Holds m c 0 x0) (hx1 : Holds m c 1 x1) (hx2 : Holds m c 2 x2) (hx3 : Holds m c 3 x3)
  (hy0 : Shifts m c 0 y0) (hy1 : Shifts m c 1 y1) (hy2 : Shifts m c 2 y2) (hy3 : Shifts m c 3 y3)

include hx0 hx1 hx2 hx3 hy0 hy1 hy2 hy3

theorem chunk0 (r : Fin 128) (s : Fin 4) (x : Fin 128) :
    k0_pay11 (F := Ideal) (tileV m c t) rows0 rows1
        (k0_pay7 (k0_pay4 (X0_0 m c t)) (k0_pay5 (X0_0 m c t)) (iblk m c 1 t) (iblk m c 2 t) x0 y0)
        (k0_pay8 (k0_pay4 (X0_0 m c t)) (k0_pay5 (X0_0 m c t)) (iblk m c 1 t) (iblk m c 2 t) x1 y1)
        k0_pay9 (k0_pay10 x2) y2 x3 y3 (ix2 r (colOf s x))
      = Mixed m c (chunk t 0) r s x := by
  unfold Mixed mixAt
  revert s
  refine of_four ?_ ?_ ?_ ?_
  all_goals
    simp only [colOf_zero, colOf_one, colOf_two, colOf_three]
    pointwise [k0_pay11, k0_pay7, k0_pay8, k0_pay9, k0_pay10]
    simp (disch := omega) only [dif_neg, dif_pos, back2, back3, Fin.eta, ← colOf_zero, ← colOf_one, ← colOf_two, ← colOf_three,
      norm_pay, row_colOf, hx0 _ _, hx1 _ _, hx2 _ _, hx3 _ _, hy0 _, hy1 _, hy2 _, hy3 _]

theorem chunk1 (r : Fin 128) (s : Fin 4) (x : Fin 128) :
    k0_pay14 (F := Ideal) (tileV m c t) rows0 rows1 (k0_pay12 (tileV m c t) rows0 rows1 x0 y0) (k0_pay13 rows0 rows1)
        x1 y1 x2 y2 x3 y3 (ix2 r (colOf s x))
      = Mixed m c (chunk t 1) r s x := by
  unfold Mixed mixAt
  revert s
  refine of_four ?_ ?_ ?_ ?_
  all_goals
    simp only [colOf_zero, colOf_one, colOf_two, colOf_three]
    pointwise [k0_pay14, k0_pay12, k0_pay13]
    simp (disch := omega) only [dif_neg, dif_pos, back2, back3, Fin.eta, ← colOf_zero, ← colOf_one, ← colOf_two, ← colOf_three,
      norm_pay, row_colOf, hx0 _ _, hx1 _ _, hx2 _ _, hx3 _ _, hy0 _, hy1 _, hy2 _, hy3 _]

theorem chunk2 (r : Fin 128) (s : Fin 4) (x : Fin 128) :
    k0_pay20 (F := Ideal) (tileV m c t) (k0_pay16 (tileV m c t) (k0_pay15 rows0 rows1) x0 y0) (k0_pay17 (tileV m c t) rows0 rows1 x1 y1)
        (k0_pay18 (tileV m c t) rows0 rows1 x2 y2) (k0_pay19 rows0 rows1) x3 y3 (ix2 r (colOf s x))
      = Mixed m c (chunk t 2) r s x := by
  unfold Mixed mixAt
  revert s
  refine of_four ?_ ?_ ?_ ?_
  all_goals
    simp only [colOf_zero, colOf_one, colOf_two, colOf_three]
    pointwise [k0_pay20, k0_pay16, k0_pay15, k0_pay17, k0_pay18, k0_pay19]
    simp (disch := omega) only [dif_neg, dif_pos, back2, back3, Fin.eta, ← colOf_zero, ← colOf_one, ← colOf_two, ← colOf_three,
      norm_pay, row_colOf, hx0 _ _, hx1 _ _, hx2 _ _, hx3 _ _, hy0 _, hy1 _, hy2 _, hy3 _]

/-- What a point stores, its four chunks one below the other. -/
theorem out_tile (z0 z1 z2 : FVec Ideal S128x512 .f32)
    (h0 : ∀ r s x, z0 (ix2 r (colOf s x)) = Mixed m c (chunk t 0) r s x)
    (h1 : ∀ r s x, z1 (ix2 r (colOf s x)) = Mixed m c (chunk t 1) r s x)
    (h2 : ∀ r s x, z2 (ix2 r (colOf s x)) = Mixed m c (chunk t 2) r s x) (r l : Fin 512) :
    k0_pay1 (F := Ideal) (k0_pay3 (X0_0 m c t)) (tileV m c t) rows0 rows1 z0 z1 z2 (k0_pay21 (tileV m c t) rows0 rows1 x0 y0)
        (k0_pay22 (tileV m c t) rows0 rows1 x1 y1) (k0_pay23 rows0 rows1) x2 y2 x3 y3 (ix2 r l)
      = gateOut (p m c) (g m c) (b m c) (w m c) (bs m c) (row t r) l := by
  unfold gateOut
  rw [← u_pay]
  revert r l
  refine colOf_cases fun k q => colOf_cases fun s l => ?_
  rw [row_colOf, mix_at]
  revert k
  refine of_four ?_ ?_ ?_ ?_
  · refine Eq.trans ?_ (congrArg (k0_pay3 (F := Ideal) (X0_0 m c t) (ix2 (colOf 0 q) (colOf s l)) * ·) (h0 q s l))
    rw [colOf_zero]
    pointwise [k0_pay1]
  · refine Eq.trans ?_ (congrArg (k0_pay3 (F := Ideal) (X0_0 m c t) (ix2 (colOf 1 q) (colOf s l)) * ·) (h1 q s l))
    rw [colOf_one]
    pointwise [k0_pay1]
  · refine Eq.trans ?_ (congrArg (k0_pay3 (F := Ideal) (X0_0 m c t) (ix2 (colOf 2 q) (colOf s l)) * ·) (h2 q s l))
    rw [colOf_two]
    pointwise [k0_pay1]
    simp (disch := omega) only [dif_neg, dif_pos, back2, Fin.eta]
  · unfold mixAt
    revert s
    refine of_four ?_ ?_ ?_ ?_
    all_goals
      simp only [colOf_zero, colOf_one, colOf_two, colOf_three]
      pointwise [k0_pay1, k0_pay21, k0_pay22, k0_pay23]
      simp (disch := omega) only [dif_neg, dif_pos, back2, back3, Fin.eta, ← colOf_zero, ← colOf_one, ← colOf_two, ← colOf_three,
        norm_pay, row_colOf, hx0 _ _, hx1 _ _, hx2 _ _, hx3 _ _, hy0 _, hy1 _, hy2 _, hy3 _]

end Chunks

theorem final5 (c : Dev nD) : (dats m 0 c).arrAt 5 cfg0.N = mat (gateOut (p m c) (g m c) (b m c) (w m c) (bs m c)) := by
  have e : ∀ t : Fin cfg0.N, win0_5.index t = ![t.val % 32, 0] := (by decide +kernel : ∀ t : Fin grid0.N, _)
  refine (dats m 0 c).arrAt_eq_of_covers 5 _ (by decide +kernel) fun t hf j => ?_
  blk_simp
  rw [after0_5]
  idx_vars j
  unfold outsAt0
  frame_out
  have hx := weight m c t
  have hy := bias m c t
  refine (out_tile m c t _ _ _ _ _ _ _ _ (hx 0 _) (hx 1 _) (hx 2 _) (hx 3 _) (hy 0 _) (hy 1 _) (hy 2 _) (hy 3 _) _ _ _
    (chunk0 m c t _ _ _ _ _ _ _ _ (hx 0 _) (hx 1 _) (hx 2 _) (hx 3 _) (hy 0 _) (hy 1 _) (hy 2 _) (hy 3 _))
    (chunk1 m c t _ _ _ _ _ _ _ _ (hx 0 _) (hx 1 _) (hx 2 _) (hx 3 _) (hy 0 _) (hy 1 _) (hy 2 _) (hy 3 _))
    (chunk2 m c t _ _ _ _ _ _ _ _ (hx 0 _) (hx 1 _) (hx 2 _) (hx 3 _) (hy 0 _) (hy 1 _) (hy 2 _) (hy 3 _)) _ _).trans
    (congrArg₂ (gateOut (p m c) (g m c) (b m c) (w m c) (bs m c)) (Fin.ext ?_) (Fin.ext ?_))
  all_goals blk_simp [e, row]

end Cert.Kernel18Ideal.Gate

end
-- ==== Proof.SguFwdReference.lean ====
/-
  The spatial gate's output, as the reference's operations give it, entry by entry. Up to the norm's output they are the operations
  of the reference of the gradients.
-/
module

public import proofs.«01_k».proof.Proof.SguMix
public import proofs.«01_k».proof.Proof.SguReference
public import proofs.«01_k».proof.Proof.Gen.Reference18Ideal.Read

@[expose] public section

set_option maxRecDepth 16384

noncomputable section

open Idealize Idealize.ShloMosaic

namespace Cert.Reference18Ideal

open Gen Read Cert.Step

variable (p : Mat 16384 7296) (g b : Mat 1 512) (w : Weights) (bs : Mat 4 128)

theorem u_apply (i : Fin 16384) (l : Fin 512) : val_main_v15 (F := Ideal) p (ix2 i l) = gateU p i l :=
  Cert.Reference13Ideal.u_apply p i l

theorem norm4_apply (n q : Fin 128) (s : Fin 4) (x : Fin 128) :
    val_main_v39 (F := Ideal) p g b (ix4 n q s x) = gateNorm p g b (rowOf n q) (colOf s x) :=
  Cert.Reference13Ideal.norm4_apply p g b n q s x

theorem tril_apply (s : Fin 4) (r q : Fin 128) : val_main_v40 (F := Ideal) w (ix3 s r q) = Scalar.select (reads r q) (w (ix3 s r q)) 0 :=
  Cert.Reference13Ideal.tril_apply w s r q

theorem mix4_apply (n r : Fin 128) (s : Fin 4) (x : Fin 128) :
    val_main_v46 (F := Ideal) p g b w bs (ix4 n r s x) = mixAt p g b w bs n r s x := by
  pointwise [val_main_v46, val_main_v45, val_main_v44, val_main_v43, val_main_v42, val_main_v41]
  simp only [tril_apply, norm4_apply, Cert.Reference13Ideal.mul_select]
  rfl

theorem mix_apply (i : Fin 16384) (l : Fin 512) : val_main_v47 (F := Ideal) p g b w bs (ix2 i l) = mix p g b w bs i l := by
  pointwise [val_main_v47]
  exact mix4_apply p g b w bs _ _ _ _

theorem result : val_main_v49 (F := Ideal) p g b w bs = mat (gateOut p g b w bs) := by
  funext i
  idx_vars i
  pointwise [val_main_v49, val_main_v48]
  exact congrArg₂ (· * ·) (u_apply p _ _) (mix_apply p g b w bs _ _)

end Cert.Reference18Ideal

end
-- ==== Proof.SguFwdClaims.lean ====
/-
  The claims about the spatial gate's output: the reference's frame, and that the kernel's result is the reference's, from the two
  runs.
-/
module

public import proofs.«01_k».proof.Defs
public import proofs.«01_k».proof.Proof.SguFwd
public import proofs.«01_k».proof.Proof.SguFwdReference
public import proofs.«01_k».proof.Proof.Gen.Reference18Ideal.Run
public import Idealize.ShloMosaic.Adequacy
public import Idealize.ShloMosaic.Init

@[expose] public section

set_option maxRecDepth 16384

noncomputable section

namespace Cert.Proof

open Cert.Step
open Idealize Idealize.ShloMosaic Idealize.ShloMosaic.TcCoe Idealize.SL Idealize.SL.Sem
open Cert.Kernel18Ideal.Gate

attribute [local instance] Cert.Kernel18Ideal.Gen.facts Cert.Reference18Ideal.Gen.facts

theorem frame_reference18 : Cert.quiescent_Reference18Ideal := fun m ρ _ =>
  (θ_run Cert.Reference18Ideal.defs _ _).mono
    (fun r h => ⟨fun c => (h c).2, sem_eq_zero_of_no_sems (by decide) r.2⟩) (Cert.Reference18Ideal.Value.run m ρ)

theorem algebraic18 : Cert.algebraic_Kernel18Ideal_Reference18Ideal := fun m ρ m' ρ' _ hag => by
  refine ⟨fun c => mat (gateOut (p m c) (g m c) (b m c) (w m c) (bs m c)),
    (θ_run Cert.Kernel18Ideal.defs _ _).mono (fun r h c => ⟨(h c).1.trans (final5 m c), (h c).2⟩)
      (Cert.Kernel18Ideal.Value.run_blocks m ρ),
    (θ_run Cert.Reference18Ideal.defs _ _).mono (fun r h c => ⟨(h c).1.trans ?_, (h c).2⟩)
      (Cert.Reference18Ideal.Value.run m' ρ')⟩
  obtain ⟨h0, h1, h2, h3, h4⟩ := hag c
  rw [Cert.Reference18Ideal.Read.val_main_v49_eq, h0, h1, h2, h3, h4]
  exact Cert.Reference18Ideal.result _ _ _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Pre_finite14
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Pre_finite15
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Pre_finite12
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.AdamClaims
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.MergeClaims
public import proofs.«01_k».proof.Proof.DenseClaims
public import proofs.«01_k».proof.Proof.NormClaims
public import proofs.«01_k».proof.Proof.ConvTapsClaims
public import proofs.«01_k».proof.Proof.LossClaims
public import proofs.«01_k».proof.Proof.SguClaims
public import proofs.«01_k».proof.Proof.SguFwdClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel18.Gen.facts, Cert.Kernel18Ideal.Gen.facts, Cert.Reference18Ideal.Gen.facts,
  Cert.Kernel10.Gen.facts, Cert.Kernel10Ideal.Gen.facts, Cert.Reference10Ideal.Gen.facts,
  Cert.Pre_finite12.Gen.facts,
  Cert.Pre_finite14.Gen.facts,
  Cert.Pre_finite15.Gen.facts,
  fun m ρ _ => Cert.Kernel.Gen.frame m ρ, fun m ρ _ => Cert.KernelIdeal.Gen.frame m ρ, Merge.frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ,
  fun m ρ _ => Cert.Kernel12Ideal.Gen.frame m ρ, frame_reference12, fun m ρ _ => frame_reference12 m ρ trivial,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ,
  fun m ρ _ => Cert.Kernel14Ideal.Gen.frame m ρ, frame_reference14, fun m ρ _ => frame_reference14 m ρ trivial,
  fun m ρ _ => Cert.Kernel15.Gen.frame m ρ, fun m ρ _ => Cert.Kernel15Ideal.Gen.frame m ρ,
  fun m ρ _ => Cert.Kernel15Ideal.Gen.frame m ρ, frame_reference15, fun m ρ _ => frame_reference15 m ρ trivial,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  fun m ρ _ => Cert.Kernel28.Gen.frame m ρ, fun m ρ _ => Cert.Kernel28Ideal.Gen.frame m ρ, frame_reference28,
  fun m ρ _ => Cert.Kernel29.Gen.frame m ρ, fun m ρ _ => Cert.Kernel29Ideal.Gen.frame m ρ, frame_reference29,
  fun m ρ _ => Cert.Kernel18.Gen.frame m ρ, fun m ρ _ => Cert.Kernel18Ideal.Gen.frame m ρ, frame_reference18,
  fun m ρ _ => Cert.Kernel10.Gen.frame m ρ, fun m ρ _ => Cert.Kernel10Ideal.Gen.frame m ρ, frame_reference10,
  trivial, Merge.algebraic,
  trivial, algebraic2,
  trivial, algebraic3,
  trivial, algebraic4,
  trivial, algebraic5,
  trivial, algebraic6,
  trivial, algebraic7,
  trivial, algebraic8,
  trivial, algebraic9,
  trivial, algebraic11,
  trivial, algebraic12,
  trivial, algebraic13,
  trivial, algebraic14,
  trivial, algebraic15,
  trivial, algebraic16,
  trivial, algebraic17,
  trivial, algebraic19,
  trivial, algebraic20,
  trivial, algebraic21,
  trivial, algebraic22,
  trivial, algebraic23,
  trivial, algebraic24,
  trivial, algebraic25,
  trivial, algebraic26,
  trivial, algebraic27,
  trivial, algebraic28,
  trivial, algebraic29,
  trivial, algebraic18,
  trivial, algebraic10⟩

end Cert.Proof

end
